-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sequences_in_order [hPre_sequences_in_order : Cert.Pre_sequences_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_sequences_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_sequences_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sequences_in_order [hPre_sequences_in_order : Cert.Pre_sequences_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sequences_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_sequences_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_sequences_in_order [hKernelIdeal : Cert.KernelIdeal.Facts] [hPre_sequences_in_order : Cert.Pre_sequences_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sequences_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_sequences_in_order [hReferenceIdeal : Cert.ReferenceIdeal.Facts] [hPre_sequences_in_order : Cert.Pre_sequences_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sequences_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.bf16_pair.Statement Cert.KernelIdeal.S64x1536 Cert.KernelIdeal.S32x1536
  ∧ IdealRules.named_const.Statement Cert.KernelIdeal.κ "mask" .f32 0xFF7843B0#32 ⊥
  ∧ IdealRules.bf16_pair.PackStatement Cert.KernelIdeal.S32x256
  ∧ IdealRules.bf16_pair.Statement Cert.KernelIdeal.S64x256 Cert.KernelIdeal.S32x256

def algebraic_KernelIdeal_ReferenceIdeal_pre_sequences_in_order [hKernelIdeal : Cert.KernelIdeal.Facts] [hReferenceIdeal : Cert.ReferenceIdeal.Facts] [hPre_sequences_in_order : Cert.Pre_sequences_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sequences_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_sequences_in_order : Cert.Pre_sequences_in_order.Facts),
    quiescent_Kernel (hKernel := hKernel)
    ∧ quiescent_KernelIdeal (hKernelIdeal := hKernelIdeal)
    ∧ quiescent_KernelIdeal_pre_sequences_in_order (hKernelIdeal := hKernelIdeal) (hPre_sequences_in_order := hPre_sequences_in_order)
    ∧ quiescent_ReferenceIdeal (hReferenceIdeal := hReferenceIdeal)
    ∧ quiescent_ReferenceIdeal_pre_sequences_in_order (hReferenceIdeal := hReferenceIdeal) (hPre_sequences_in_order := hPre_sequences_in_order)
    ∧ preserves_Kernel_KernelIdeal
    ∧ algebraic_KernelIdeal_ReferenceIdeal_pre_sequences_in_order (hKernelIdeal := hKernelIdeal) (hReferenceIdeal := hReferenceIdeal) (hPre_sequences_in_order := hPre_sequences_in_order)
-- ==== Pre_sequences_in_order.lean ====
abbrev S8192x1536 : Shape := ⟨2, ![8192, 1536]⟩
abbrev S8192x12 : Shape := ⟨2, ![8192, 12]⟩
abbrev S8192x512 : Shape := ⟨2, ![8192, 512]⟩
abbrev S8192x4 : Shape := ⟨2, ![8192, 4]⟩
abbrev S8192x64 : Shape := ⟨2, ![8192, 64]⟩
abbrev S7 : Shape := ⟨1, ![7]⟩
abbrev S8192x32 : Shape := ⟨2, ![8192, 32]⟩
abbrev S3072x1536 : Shape := ⟨2, ![3072, 1536]⟩
abbrev S2048x512 : Shape := ⟨2, ![2048, 512]⟩
abbrev S24x12 : Shape := ⟨2, ![24, 12]⟩
abbrev S16x4 : Shape := ⟨2, ![16, 4]⟩
abbrev S_ : Shape := ⟨0, ![]⟩
abbrev S1 : Shape := ⟨1, ![1]⟩
abbrev S6 : Shape := ⟨1, ![6]⟩

class Facts : Prop where
  slices_S7_S1_0 : S7.Slices ![0] S1
  bcast_S_S1 : S_.BroadcastsInDim S1 (![] : Fin 0 → Fin S1.rank)
  slices_S7_S6_0 : S7.Slices ![0] S6
  slices_S7_S6_1 : S7.Slices ![1] S6

variable [Facts]

def fn {F : FTy → Type} [FloatOps F] (main_arg0 : FVec F S8192x1536 .fp8e4m3) (main_arg1 : FVec F S8192x12 .f32) (main_arg2 : FVec F S8192x512 .fp8e4m3) (main_arg3 : FVec F S8192x4 .f32) (main_arg4 : FVec F S8192x64 .bf16) (main_arg5 : IVec S7 32) (main_arg6 : FVec F S8192x32 .f32) (main_arg7 : FVec F S8192x32 .f32) (main_arg8 : FVec F S3072x1536 .bf16) (main_arg9 : FVec F S2048x512 .bf16) (main_arg10 : FVec F S3072x1536 .fp8e4m3) (main_arg11 : FVec F S24x12 .f32) (main_arg12 : FVec F S2048x512 .fp8e4m3) (main_arg13 : FVec F S16x4 .f32) (main_arg14 : FVec F S_ .f32) : IVec S1 1 × IVec S6 1 :=
  let main_v0 : IVec S1 32 := (extractStridedSlice S1 ![0] · slices_S7_S1_0) main_arg5
  let main_c : IVec S_ 32 := constantI S_ 32 0#32
  let main_v1 : IVec S1 32 := broadcastInDim S1 ![] bcast_S_S1 main_c
  let main_v2 : IVec S1 1 := cmpi .sle main_v0 main_v1
  let main_v3 : IVec S6 32 := (extractStridedSlice S6 ![0] · slices_S7_S6_0) main_arg5
  let main_v4 : IVec S6 32 := (extractStridedSlice S6 ![1] · slices_S7_S6_1) main_arg5
  let main_v5 : IVec S6 1 := cmpi .sle main_v3 main_v4
  (main_v2, main_v5)
-- ==== Kernel.lean ====
abbrev S8192x1536 : Shape := ⟨2, ![8192, 1536]⟩
abbrev S8192x12 : Shape := ⟨2, ![8192, 12]⟩
abbrev S8192x512 : Shape := ⟨2, ![8192, 512]⟩
abbrev S8192x4 : Shape := ⟨2, ![8192, 4]⟩
abbrev S8192x64 : Shape := ⟨2, ![8192, 64]⟩
abbrev S7 : Shape := ⟨1, ![7]⟩
abbrev S8192x32 : Shape := ⟨2, ![8192, 32]⟩
abbrev S3072x1536 : Shape := ⟨2, ![3072, 1536]⟩
abbrev S2048x512 : Shape := ⟨2, ![2048, 512]⟩
abbrev S24x12 : Shape := ⟨2, ![24, 12]⟩
abbrev S16x4 : Shape := ⟨2, ![16, 4]⟩
abbrev S_ : Shape := ⟨0, ![]⟩
abbrev S1 : Shape := ⟨1, ![1]⟩
abbrev S8192x16 : Shape := ⟨2, ![8192, 16]⟩
abbrev S1x16 : Shape := ⟨2, ![1, 16]⟩
abbrev S2x128 : Shape := ⟨2, ![2, 128]⟩
abbrev S256x1536 : Shape := ⟨2, ![256, 1536]⟩
abbrev S256x12 : Shape := ⟨2, ![256, 12]⟩
abbrev S256x512 : Shape := ⟨2, ![256, 512]⟩
abbrev S256x4 : Shape := ⟨2, ![256, 4]⟩
abbrev S256x64 : Shape := ⟨2, ![256, 64]⟩
abbrev S256x32 : Shape := ⟨2, ![256, 32]⟩
abbrev S256x16 : Shape := ⟨2, ![256, 16]⟩
abbrev S2048x1536 : Shape := ⟨2, ![2048, 1536]⟩
abbrev S512x1536 : Shape := ⟨2, ![512, 1536]⟩
abbrev S384x1536 : Shape := ⟨2, ![384, 1536]⟩
abbrev S8192x2048 : Shape := ⟨2, ![8192, 2048]⟩
abbrev S8192x128 : Shape := ⟨2, ![8192, 128]⟩
abbrev S16x256x256 : Shape := ⟨3, ![16, 256, 256]⟩
abbrev S16x8x256 : Shape := ⟨3, ![16, 8, 256]⟩
abbrev S16x256 : Shape := ⟨2, ![16, 256]⟩
abbrev S128x128 : Shape := ⟨2, ![128, 128]⟩
abbrev S1x1 : Shape := ⟨2, ![1, 1]⟩
abbrev S128x1536 : Shape := ⟨2, ![128, 1536]⟩
abbrev S64x1536 : Shape := ⟨2, ![64, 1536]⟩
abbrev S32x1536 : Shape := ⟨2, ![32, 1536]⟩
abbrev S256x128 : Shape := ⟨2, ![256, 128]⟩
abbrev S256x1 : Shape := ⟨2, ![256, 1]⟩
abbrev S256x2048 : Shape := ⟨2, ![256, 2048]⟩
abbrev S1x64 : Shape := ⟨2, ![1, 64]⟩
abbrev S32x256 : Shape := ⟨2, ![32, 256]⟩
abbrev S1x256 : Shape := ⟨2, ![1, 256]⟩
abbrev S64x1 : Shape := ⟨2, ![64, 1]⟩
abbrev S64x256 : Shape := ⟨2, ![64, 256]⟩
abbrev S128x256 : Shape := ⟨2, ![128, 256]⟩
abbrev S1x128x256 : Shape := ⟨3, ![1, 128, 256]⟩
abbrev S1x64x256 : Shape := ⟨3, ![1, 64, 256]⟩
abbrev S256x256 : Shape := ⟨2, ![256, 256]⟩
abbrev S1x256x256 : Shape := ⟨3, ![1, 256, 256]⟩
abbrev S32x8x256 : Shape := ⟨3, ![32, 8, 256]⟩
abbrev S8x256 : Shape := ⟨2, ![8, 256]⟩
abbrev S1x8x256 : Shape := ⟨3, ![1, 8, 256]⟩
abbrev S256 : Shape := ⟨1, ![256]⟩
abbrev S16 : Shape := ⟨1, ![16]⟩
abbrev S16x1 : Shape := ⟨2, ![16, 1]⟩
abbrev S16x128 : Shape := ⟨2, ![16, 128]⟩
abbrev S128 : Shape := ⟨1, ![128]⟩
abbrev S1x128 : Shape := ⟨2, ![1, 128]⟩

abbrev nBuf : Space → Nat
  | .hbm => 20
  | .vmem => 33
  | .smem => 4
  | _ => 0

abbrev bufTy : (tb : Table) → Fin (tcTables nBuf tb) → BufTy
  | .hbm, ⟨0, _⟩ => ⟨S8192x1536, .fp8e4m3⟩
  | .hbm, ⟨1, _⟩ => ⟨S8192x12, .f32⟩
  | .hbm, ⟨2, _⟩ => ⟨S8192x512, .fp8e4m3⟩
  | .hbm, ⟨3, _⟩ => ⟨S8192x4, .f32⟩
  | .hbm, ⟨4, _⟩ => ⟨S8192x64, .bf16⟩
  | .hbm, ⟨5, _⟩ => ⟨S7, .i32⟩
  | .hbm, ⟨6, _⟩ => ⟨S8192x32, .f32⟩
  | .hbm, ⟨7, _⟩ => ⟨S8192x32, .f32⟩
  | .hbm, ⟨8, _⟩ => ⟨S3072x1536, .bf16⟩
  | .hbm, ⟨9, _⟩ => ⟨S2048x512, .bf16⟩
  | .hbm, ⟨10, _⟩ => ⟨S3072x1536, .fp8e4m3⟩
  | .hbm, ⟨11, _⟩ => ⟨S24x12, .f32⟩
  | .hbm, ⟨12, _⟩ => ⟨S2048x512, .fp8e4m3⟩
  | .hbm, ⟨13, _⟩ => ⟨S16x4, .f32⟩
  | .hbm, ⟨14, _⟩ => ⟨S_, .f32⟩
  | .hbm, ⟨15, _⟩ => ⟨S1, .f32⟩
  | .hbm, ⟨16, _⟩ => ⟨S8192x16, .f32⟩
  | .hbm, ⟨17, _⟩ => ⟨S1x16, .f32⟩
  | .hbm, ⟨18, _⟩ => ⟨S1x16, .f32⟩
  | .hbm, ⟨19, _⟩ => ⟨S2x128, .f32⟩
  | .local _ .vmem, ⟨0, _⟩ => ⟨S256x1536, .fp8e4m3⟩
  | .local _ .vmem, ⟨1, _⟩ => ⟨S256x1536, .fp8e4m3⟩
  | .local _ .vmem, ⟨2, _⟩ => ⟨S256x12, .f32⟩
  | .local _ .vmem, ⟨3, _⟩ => ⟨S256x12, .f32⟩
  | .local _ .vmem, ⟨4, _⟩ => ⟨S256x512, .fp8e4m3⟩
  | .local _ .vmem, ⟨5, _⟩ => ⟨S256x512, .fp8e4m3⟩
  | .local _ .vmem, ⟨6, _⟩ => ⟨S256x4, .f32⟩
  | .local _ .vmem, ⟨7, _⟩ => ⟨S256x4, .f32⟩
  | .local _ .vmem, ⟨8, _⟩ => ⟨S256x64, .bf16⟩
  | .local _ .vmem, ⟨9, _⟩ => ⟨S256x64, .bf16⟩
  | .local _ .vmem, ⟨10, _⟩ => ⟨S256x32, .f32⟩
  | .local _ .vmem, ⟨11, _⟩ => ⟨S256x32, .f32⟩
  | .local _ .vmem, ⟨12, _⟩ => ⟨S256x32, .f32⟩
  | .local _ .vmem, ⟨13, _⟩ => ⟨S256x32, .f32⟩
  | .local _ .vmem, ⟨14, _⟩ => ⟨S3072x1536, .fp8e4m3⟩
  | .local _ .vmem, ⟨15, _⟩ => ⟨S2048x512, .fp8e4m3⟩
  | .local _ .vmem, ⟨16, _⟩ => ⟨S256x16, .f32⟩
  | .local _ .vmem, ⟨17, _⟩ => ⟨S256x16, .f32⟩
  | .local _ .vmem, ⟨18, _⟩ => ⟨S1x16, .f32⟩
  | .local _ .vmem, ⟨19, _⟩ => ⟨S1x16, .f32⟩
  | .local _ .vmem, ⟨20, _⟩ => ⟨S2x128, .f32⟩
  | .local _ .vmem, ⟨21, _⟩ => ⟨S2048x1536, .bf16⟩
  | .local _ .vmem, ⟨22, _⟩ => ⟨S512x1536, .bf16⟩
  | .local _ .vmem, ⟨23, _⟩ => ⟨S512x1536, .bf16⟩
  | .local _ .vmem, ⟨24, _⟩ => ⟨S2048x512, .bf16⟩
  | .local _ .vmem, ⟨25, _⟩ => ⟨S384x1536, .bf16⟩
  | .local _ .vmem, ⟨26, _⟩ => ⟨S256x1536, .bf16⟩
  | .local _ .vmem, ⟨27, _⟩ => ⟨S256x512, .bf16⟩
  | .local _ .vmem, ⟨28, _⟩ => ⟨S8192x2048, .bf16⟩
  | .local _ .vmem, ⟨29, _⟩ => ⟨S8192x128, .bf16⟩
  | .local _ .vmem, ⟨30, _⟩ => ⟨S16x256x256, .bf16⟩
  | .local _ .vmem, ⟨31, _⟩ => ⟨S16x8x256, .f32⟩
  | .local _ .vmem, ⟨32, _⟩ => ⟨S16x256, .f32⟩
  | .local _ .smem, ⟨0, _⟩ => ⟨S7, .i32⟩
  | .local _ .smem, ⟨1, _⟩ => ⟨S1, .f32⟩
  | .local _ .smem, ⟨2, _⟩ => ⟨S24x12, .f32⟩
  | .local _ .smem, ⟨3, _⟩ => ⟨S16x4, .f32⟩
  | _, _ => ⟨S8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_661 : BitVec 32 := 0#32
  let c8_i32 : BitVec 32 := 8#32
  let v1099 : BitVec 32 := Scalar.addi c0_i32_661 c8_i32
  let c1_i32_662 : BitVec 32 := 1#32
  ⟨c0_i32_661, v1099, c1_i32_662⟩
def k0_off1 (k0_t1 : Fin k0_t1_loop.trips) (c0_i32_672 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32 : BitVec 32 := 384#32
  let v1107 : BitVec 32 := Scalar.muli v1106 c384_i32
  let v1108 : BitVec 32 := Scalar.addi v1107 c0_i32_672
  let v1109 : Index := Scalar.indexCast v1108
  let c0_673 : Index := 0#32
  ![v1109.toNat, 0]
def k0_off2 (k0_t1 : Fin k0_t1_loop.trips) (c0_i32_675 : BitVec 32) : Fin 2 → Nat :=
  let c3_i32_674 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1111 : BitVec 32 := Scalar.muli c3_i32_674 v1106
  let v1112 : BitVec 32 := Scalar.addi v1111 c0_i32_675
  let v1113 : Index := Scalar.indexCast v1112
  let c0_676 : Index := 0#32
  ![v1113.toNat, 0]
def k0_off3 (k0_t1 : Fin k0_t1_loop.trips) (c0_i32_680 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_679 : BitVec 32 := 384#32
  let v1122 : BitVec 32 := Scalar.muli v1106 c384_i32_679
  let v1123 : BitVec 32 := Scalar.addi v1122 c0_i32_680
  let v1124 : Index := Scalar.indexCast v1123
  let c128_681 : Index := 128#32
  ![v1124.toNat, 128]
def k0_off4 (k0_t1 : Fin k0_t1_loop.trips) (c0_i32_683 : BitVec 32) : Fin 2 → Nat :=
  let c3_i32_682 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1126 : BitVec 32 := Scalar.muli c3_i32_682 v1106
  let v1127 : BitVec 32 := Scalar.addi v1126 c0_i32_683
  let v1128 : Index := Scalar.indexCast v1127
  let c1_684 : Index := 1#32
  ![v1128.toNat, 1]
def k0_off5 (k0_t1 : Fin k0_t1_loop.trips) (c0_i32_688 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_687 : BitVec 32 := 384#32
  let v1137 : BitVec 32 := Scalar.muli v1106 c384_i32_687
  let v1138 : BitVec 32 := Scalar.addi v1137 c0_i32_688
  let v1139 : Index := Scalar.indexCast v1138
  let c256_689 : Index := 256#32
  ![v1139.toNat, 256]
def k0_off6 (k0_t1 : Fin k0_t1_loop.trips) (c0_i32_691 : BitVec 32) : Fin 2 → Nat :=
  let c3_i32_690 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1141 : BitVec 32 := Scalar.muli c3_i32_690 v1106
  let v1142 : BitVec 32 := Scalar.addi v1141 c0_i32_691
  let v1143 : Index := Scalar.indexCast v1142
  let c2_692 : Index := 2#32
  ![v1143.toNat, 2]
def k0_off7 (k0_t1 : Fin k0_t1_loop.trips) (c0_i32_696 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_695 : BitVec 32 := 384#32
  let v1152 : BitVec 32 := Scalar.muli v1106 c384_i32_695
  let v1153 : BitVec 32 := Scalar.addi v1152 c0_i32_696
  let v1154 : Index := Scalar.indexCast v1153
  let c384_697 : Index := 384#32
  ![v1154.toNat, 384]
def k0_off8 (k0_t1 : Fin k0_t1_loop.trips) (c0_i32_699 : BitVec 32) : Fin 2 → Nat :=
  let c3_i32_698 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1156 : BitVec 32 := Scalar.muli c3_i32_698 v1106
  let v1157 : BitVec 32 := Scalar.addi v1156 c0_i32_699
  let v1158 : Index := Scalar.indexCast v1157
  let c3_700 : Index := 3#32
  ![v1158.toNat, 3]
def k0_off9 (k0_t1 : Fin k0_t1_loop.trips) (c0_i32_704 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_703 : BitVec 32 := 384#32
  let v1167 : BitVec 32 := Scalar.muli v1106 c384_i32_703
  let v1168 : BitVec 32 := Scalar.addi v1167 c0_i32_704
  let v1169 : Index := Scalar.indexCast v1168
  let c512_705 : Index := 512#32
  ![v1169.toNat, 512]
def k0_off10 (k0_t1 : Fin k0_t1_loop.trips) (c0_i32_707 : BitVec 32) : Fin 2 → Nat :=
  let c3_i32_706 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1171 : BitVec 32 := Scalar.muli c3_i32_706 v1106
  let v1172 : BitVec 32 := Scalar.addi v1171 c0_i32_707
  let v1173 : Index := Scalar.indexCast v1172
  let c4_708 : Index := 4#32
  ![v1173.toNat, 4]
def k0_off11 (k0_t1 : Fin k0_t1_loop.trips) (c0_i32_712 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_711 : BitVec 32 := 384#32
  let v1182 : BitVec 32 := Scalar.muli v1106 c384_i32_711
  let v1183 : BitVec 32 := Scalar.addi v1182 c0_i32_712
  let v1184 : Index := Scalar.indexCast v1183
  let c640_713 : Index := 640#32
  ![v1184.toNat, 640]
def k0_off12 (k0_t1 : Fin k0_t1_loop.trips) (c0_i32_715 : BitVec 32) : Fin 2 → Nat :=
  let c3_i32_714 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1186 : BitVec 32 := Scalar.muli c3_i32_714 v1106
  let v1187 : BitVec 32 := Scalar.addi v1186 c0_i32_715
  let v1188 : Index := Scalar.indexCast v1187
  let c5_716 : Index := 5#32
  ![v1188.toNat, 5]
def k0_off13 (k0_t1 : Fin k0_t1_loop.trips) (c0_i32_720 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_719 : BitVec 32 := 384#32
  let v1197 : BitVec 32 := Scalar.muli v1106 c384_i32_719
  let v1198 : BitVec 32 := Scalar.addi v1197 c0_i32_720
  let v1199 : Index := Scalar.indexCast v1198
  let c768_721 : Index := 768#32
  ![v1199.toNat, 768]
def k0_off14 (k0_t1 : Fin k0_t1_loop.trips) (c0_i32_723 : BitVec 32) : Fin 2 → Nat :=
  let c3_i32_722 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1201 : BitVec 32 := Scalar.muli c3_i32_722 v1106
  let v1202 : BitVec 32 := Scalar.addi v1201 c0_i32_723
  let v1203 : Index := Scalar.indexCast v1202
  let c6_724 : Index := 6#32
  ![v1203.toNat, 6]
def k0_off15 (k0_t1 : Fin k0_t1_loop.trips) (c0_i32_728 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_727 : BitVec 32 := 384#32
  let v1212 : BitVec 32 := Scalar.muli v1106 c384_i32_727
  let v1213 : BitVec 32 := Scalar.addi v1212 c0_i32_728
  let v1214 : Index := Scalar.indexCast v1213
  let c896_729 : Index := 896#32
  ![v1214.toNat, 896]
def k0_off16 (k0_t1 : Fin k0_t1_loop.trips) (c0_i32_731 : BitVec 32) : Fin 2 → Nat :=
  let c3_i32_730 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1216 : BitVec 32 := Scalar.muli c3_i32_730 v1106
  let v1217 : BitVec 32 := Scalar.addi v1216 c0_i32_731
  let v1218 : Index := Scalar.indexCast v1217
  let c7_732 : Index := 7#32
  ![v1218.toNat, 7]
def k0_off17 (k0_t1 : Fin k0_t1_loop.trips) (c0_i32_736 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_735 : BitVec 32 := 384#32
  let v1227 : BitVec 32 := Scalar.muli v1106 c384_i32_735
  let v1228 : BitVec 32 := Scalar.addi v1227 c0_i32_736
  let v1229 : Index := Scalar.indexCast v1228
  let c1024_737 : Index := 1024#32
  ![v1229.toNat, 1024]
def k0_off18 (k0_t1 : Fin k0_t1_loop.trips) (c0_i32_739 : BitVec 32) : Fin 2 → Nat :=
  let c3_i32_738 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1231 : BitVec 32 := Scalar.muli c3_i32_738 v1106
  let v1232 : BitVec 32 := Scalar.addi v1231 c0_i32_739
  let v1233 : Index := Scalar.indexCast v1232
  let c8_740 : Index := 8#32
  ![v1233.toNat, 8]
def k0_off19 (k0_t1 : Fin k0_t1_loop.trips) (c0_i32_744 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_743 : BitVec 32 := 384#32
  let v1242 : BitVec 32 := Scalar.muli v1106 c384_i32_743
  let v1243 : BitVec 32 := Scalar.addi v1242 c0_i32_744
  let v1244 : Index := Scalar.indexCast v1243
  let c1152_745 : Index := 1152#32
  ![v1244.toNat, 1152]
def k0_off20 (k0_t1 : Fin k0_t1_loop.trips) (c0_i32_747 : BitVec 32) : Fin 2 → Nat :=
  let c3_i32_746 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1246 : BitVec 32 := Scalar.muli c3_i32_746 v1106
  let v1247 : BitVec 32 := Scalar.addi v1246 c0_i32_747
  let v1248 : Index := Scalar.indexCast v1247
  let c9_748 : Index := 9#32
  ![v1248.toNat, 9]
def k0_off21 (k0_t1 : Fin k0_t1_loop.trips) (c0_i32_752 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_751 : BitVec 32 := 384#32
  let v1257 : BitVec 32 := Scalar.muli v1106 c384_i32_751
  let v1258 : BitVec 32 := Scalar.addi v1257 c0_i32_752
  let v1259 : Index := Scalar.indexCast v1258
  let c1280_753 : Index := 1280#32
  ![v1259.toNat, 1280]
def k0_off22 (k0_t1 : Fin k0_t1_loop.trips) (c0_i32_755 : BitVec 32) : Fin 2 → Nat :=
  let c3_i32_754 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1261 : BitVec 32 := Scalar.muli c3_i32_754 v1106
  let v1262 : BitVec 32 := Scalar.addi v1261 c0_i32_755
  let v1263 : Index := Scalar.indexCast v1262
  let c10_756 : Index := 10#32
  ![v1263.toNat, 10]
def k0_off23 (k0_t1 : Fin k0_t1_loop.trips) (c0_i32_760 : BitVec 32) : Fin 2 → Nat :=
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let c384_i32_759 : BitVec 32 := 384#32
  let v1272 : BitVec 32 := Scalar.muli v1106 c384_i32_759
  let v1273 : BitVec 32 := Scalar.addi v1272 c0_i32_760
  let v1274 : Index := Scalar.indexCast v1273
  let c1408_761 : Index := 1408#32
  ![v1274.toNat, 1408]
def k0_off24 (k0_t1 : Fin k0_t1_loop.trips) (c0_i32_763 : BitVec 32) : Fin 2 → Nat :=
  let c3_i32_762 : BitVec 32 := 3#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1276 : BitVec 32 := Scalar.muli c3_i32_762 v1106
  let v1277 : BitVec 32 := Scalar.addi v1276 c0_i32_763
  let v1278 : Index := Scalar.indexCast v1277
  let c11_764 : Index := 11#32
  ![v1278.toNat, 11]
def k0_off25 (k0_t1 : Fin k0_t1_loop.trips) (c0_i32_959 : BitVec 32) : Fin 2 → Nat :=
  let c2_i32_958 : BitVec 32 := 2#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1647 : BitVec 32 := Scalar.muli c2_i32_958 v1106
  let v1648 : BitVec 32 := Scalar.addi v1647 c0_i32_959
  let c128_i32_962 : BitVec 32 := 128#32
  let v1650 : BitVec 32 := Scalar.muli v1648 c128_i32_962
  let v1651 : Index := Scalar.indexCast v1650
  let c0_963 : Index := 0#32
  ![v1651.toNat, 0]
def k0_off26 (k0_t1 : Fin k0_t1_loop.trips) (c0_i32_959 : BitVec 32) : Fin 2 → Nat :=
  let c2_i32_958 : BitVec 32 := 2#32
  let c0_i32_671 : BitVec 32 := 0#32
  let c0_i32_661 : BitVec 32 := 0#32
  let c1_i32_662 : BitVec 32 := 1#32
  let arg30 : BitVec 32 := Scf.iv c0_i32_661 c1_i32_662 k0_t1
  let c1_i32_670 : BitVec 32 := 1#32
  let v1105 : BitVec 32 := Scalar.muli arg30 c1_i32_670
  let v1106 : BitVec 32 := Scalar.addi c0_i32_671 v1105
  let v1647 : BitVec 32 := Scalar.muli c2_i32_958 v1106
  let v1648 : BitVec 32 := Scalar.addi v1647 c0_i32_959
  let c32_i32 : BitVec 32 := 32#32
  let v1665 : BitVec 32 := Scalar.muli v1648 c32_i32
  let v1666 : Index := Scalar.indexCast v1665
  let c0_967 : Index := 0#32
  ![v1666.toNat, 0]
@[reducible] def k0_t2_loop : Scf.Loop 32 :=
  let c0_i32_664 : BitVec 32 := 0#32
  let c16_i32 : BitVec 32 := 16#32
  let v1100 : BitVec 32 := Scalar.addi c0_i32_664 c16_i32
  let c1_i32_665 : BitVec 32 := 1#32
  ⟨c0_i32_664, v1100, c1_i32_665⟩
def k0_off27 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let v1107 : Index := Scalar.indexCast v1106
  let c0_672 : Index := 0#32
  ![v1107.toNat, 0]
def k0_off28 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let c128_i32 : BitVec 32 := 128#32
  let v1111 : BitVec 32 := Scalar.muli v1106 c128_i32
  let v1112 : Index := Scalar.indexCast v1111
  let c0_673 : Index := 0#32
  ![v1112.toNat, 0]
def k0_off29 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let v1121 : Index := Scalar.indexCast v1106
  let c1_676 : Index := 1#32
  ![v1121.toNat, 1]
def k0_off30 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let c128_i32_677 : BitVec 32 := 128#32
  let v1125 : BitVec 32 := Scalar.muli v1106 c128_i32_677
  let v1126 : Index := Scalar.indexCast v1125
  let c128_678 : Index := 128#32
  ![v1126.toNat, 128]
def k0_off31 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let v1135 : Index := Scalar.indexCast v1106
  let c2_681 : Index := 2#32
  ![v1135.toNat, 2]
def k0_off32 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let c128_i32_682 : BitVec 32 := 128#32
  let v1139 : BitVec 32 := Scalar.muli v1106 c128_i32_682
  let v1140 : Index := Scalar.indexCast v1139
  let c256_683 : Index := 256#32
  ![v1140.toNat, 256]
def k0_off33 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let v1149 : Index := Scalar.indexCast v1106
  let c3_686 : Index := 3#32
  ![v1149.toNat, 3]
def k0_off34 (k0_t2 : Fin k0_t2_loop.trips) : Fin 2 → Nat :=
  let c0_i32_671 : BitVec 32 := 0#32
  let c0_i32_664 : BitVec 32 := 0#32
  let c1_i32_665 : BitVec 32 := 1#32
  let arg30 : BitVec 32 := Scf.iv c0_i32_664 c1_i32_665 k0_t2
  let c1_i32_670 : BitVec 32 := 1#32
  let v1105 : BitVec 32 := Scalar.muli arg30 c1_i32_670
  let v1106 : BitVec 32 := Scalar.addi c0_i32_671 v1105
  let c128_i32_687 : BitVec 32 := 128#32
  let v1153 : BitVec 32 := Scalar.muli v1106 c128_i32_687
  let v1154 : Index := Scalar.indexCast v1153
  let c384_688 : Index := 384#32
  ![v1154.toNat, 384]
def k0_off35 (i : grid0.Coords) : Fin 2 → Nat :=
  let arg0 : BitVec 32 := BitVec.ofNat 32 (i 0).val
  let c256_i32 : BitVec 32 := 256#32
  let v3 : BitVec 32 := Scalar.muli arg0 c256_i32
  let v140 : Index := Scalar.indexCast v3
  let c0_61 : Index := 0#32
  ![v140.toNat, 0]
def k0_off36 (i : grid0.Coords) : Fin 2 → Nat :=
  let arg0 : BitVec 32 := BitVec.ofNat 32 (i 0).val
  let c256_i32 : BitVec 32 := 256#32
  let v3 : BitVec 32 := Scalar.muli arg0 c256_i32
  let v235 : Index := Scalar.indexCast v3
  let c0_82 : Index := 0#32
  ![v235.toNat, 0]
def k0_off37 (i : grid0.Coords) : Fin 2 → Nat :=
  let arg0 : BitVec 32 := BitVec.ofNat 32 (i 0).val
  let c256_i32 : BitVec 32 := 256#32
  let v3 : BitVec 32 := Scalar.muli arg0 c256_i32
  let v725 : Index := Scalar.indexCast v3
  let c0_386 : Index := 0#32
  ![v725.toNat, 0]
def k0_off38 (i : grid0.Coords) : Fin 2 → Nat :=
  let arg0 : BitVec 32 := BitVec.ofNat 32 (i 0).val
  let c256_i32 : BitVec 32 := 256#32
  let v3 : BitVec 32 := Scalar.muli arg0 c256_i32
  let v740 : Index := Scalar.indexCast v3
  let c128_397 : Index := 128#32
  ![v740.toNat, 128]
def k0_off39 (i : grid0.Coords) : Fin 2 → Nat :=
  let arg0 : BitVec 32 := BitVec.ofNat 32 (i 0).val
  let c256_i32 : BitVec 32 := 256#32
  let v3 : BitVec 32 := Scalar.muli arg0 c256_i32
  let v755 : Index := Scalar.indexCast v3
  let c256_408 : Index := 256#32
  ![v755.toNat, 256]
def k0_off40 (i : grid0.Coords) : Fin 2 → Nat :=
  let arg0 : BitVec 32 := BitVec.ofNat 32 (i 0).val
  let c256_i32 : BitVec 32 := 256#32
  let v3 : BitVec 32 := Scalar.muli arg0 c256_i32
  let v770 : Index := Scalar.indexCast v3
  let c384_419 : Index := 384#32
  ![v770.toNat, 384]
def k0_off41 (i : grid0.Coords) : Fin 2 → Nat :=
  let arg0 : BitVec 32 := BitVec.ofNat 32 (i 0).val
  let c256_i32 : BitVec 32 := 256#32
  let v3 : BitVec 32 := Scalar.muli arg0 c256_i32
  let v785 : Index := Scalar.indexCast v3
  let c512_430 : Index := 512#32
  ![v785.toNat, 512]
def k0_off42 (i : grid0.Coords) : Fin 2 → Nat :=
  let arg0 : BitVec 32 := BitVec.ofNat 32 (i 0).val
  let c256_i32 : BitVec 32 := 256#32
  let v3 : BitVec 32 := Scalar.muli arg0 c256_i32
  let v800 : Index := Scalar.indexCast v3
  let c640_441 : Index := 640#32
  ![v800.toNat, 640]
def k0_off43 (i : grid0.Coords) : Fin 2 → Nat :=
  let arg0 : BitVec 32 := BitVec.ofNat 32 (i 0).val
  let c256_i32 : BitVec 32 := 256#32
  let v3 : BitVec 32 := Scalar.muli arg0 c256_i32
  let v815 : Index := Scalar.indexCast v3
  let c768_452 : Index := 768#32
  ![v815.toNat, 768]
def k0_off44 (i : grid0.Coords) : Fin 2 → Nat :=
  let arg0 : BitVec 32 := BitVec.ofNat 32 (i 0).val
  let c256_i32 : BitVec 32 := 256#32
  let v3 : BitVec 32 := Scalar.muli arg0 c256_i32
  let v830 : Index := Scalar.indexCast v3
  let c896_463 : Index := 896#32
  ![v830.toNat, 896]
def k0_off45 (i : grid0.Coords) : Fin 2 → Nat :=
  let arg0 : BitVec 32 := BitVec.ofNat 32 (i 0).val
  let c256_i32 : BitVec 32 := 256#32
  let v3 : BitVec 32 := Scalar.muli arg0 c256_i32
  let v845 : Index := Scalar.indexCast v3
  let c1024_474 : Index := 1024#32
  ![v845.toNat, 1024]
def k0_off46 (i : grid0.Coords) : Fin 2 → Nat :=
  let arg0 : BitVec 32 := BitVec.ofNat 32 (i 0).val
  let c256_i32 : BitVec 32 := 256#32
  let v3 : BitVec 32 := Scalar.muli arg0 c256_i32
  let v860 : Index := Scalar.indexCast v3
  let c1152_485 : Index := 1152#32
  ![v860.toNat, 1152]
def k0_off47 (i : grid0.Coords) : Fin 2 → Nat :=
  let arg0 : BitVec 32 := BitVec.ofNat 32 (i 0).val
  let c256_i32 : BitVec 32 := 256#32
  let v3 : BitVec 32 := Scalar.muli arg0 c256_i32
  let v875 : Index := Scalar.indexCast v3
  let c1280_496 : Index := 1280#32
  ![v875.toNat, 1280]
def k0_off48 (i : grid0.Coords) : Fin 2 → Nat :=
  let arg0 : BitVec 32 := BitVec.ofNat 32 (i 0).val
  let c256_i32 : BitVec 32 := 256#32
  let v3 : BitVec 32 := Scalar.muli arg0 c256_i32
  let v890 : Index := Scalar.indexCast v3
  let c1408_507 : Index := 1408#32
  ![v890.toNat, 1408]
def k0_off49 (i : grid0.Coords) : Fin 2 → Nat :=
  let arg0 : BitVec 32 := BitVec.ofNat 32 (i 0).val
  let c256_i32 : BitVec 32 := 256#32
  let v3 : BitVec 32 := Scalar.muli arg0 c256_i32
  let v905 : Index := Scalar.indexCast v3
  let c1536_518 : Index := 1536#32
  ![v905.toNat, 1536]
def k0_off50 (i : grid0.Coords) : Fin 2 → Nat :=
  let arg0 : BitVec 32 := BitVec.ofNat 32 (i 0).val
  let c256_i32 : BitVec 32 := 256#32
  let v3 : BitVec 32 := Scalar.muli arg0 c256_i32
  let v920 : Index := Scalar.indexCast v3
  let c1664_529 : Index := 1664#32
  ![v920.toNat, 1664]
def k0_off51 (i : grid0.Coords) : Fin 2 → Nat :=
  let arg0 : BitVec 32 := BitVec.ofNat 32 (i 0).val
  let c256_i32 : BitVec 32 := 256#32
  let v3 : BitVec 32 := Scalar.muli arg0 c256_i32
  let v935 : Index := Scalar.indexCast v3
  let c1792_540 : Index := 1792#32
  ![v935.toNat, 1792]
def k0_off52 (i : grid0.Coords) : Fin 2 → Nat :=
  let arg0 : BitVec 32 := BitVec.ofNat 32 (i 0).val
  let c256_i32 : BitVec 32 := 256#32
  let v3 : BitVec 32 := Scalar.muli arg0 c256_i32
  let v950 : Index := Scalar.indexCast v3
  let c1920_551 : Index := 1920#32
  ![v950.toNat, 1920]
@[reducible] def k0_t3_loop (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) : Scf.Loop 32 :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_587 : BitVec 32 := 1#32
  ⟨v1016, v1021, c1_i32_587⟩

def k0_off53 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_664 : BitVec 32 := 256#32
  let v1101 : BitVec 32 := Scalar.muli arg30 c256_i32_664
  let v1102 : Index := Scalar.indexCast v1101
  let c0_665 : Index := 0#32
  ![v1102.toNat, 0]
def k0_off54 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_664 : BitVec 32 := 256#32
  let v1101 : BitVec 32 := Scalar.muli arg30 c256_i32_664
  let v1104 : Index := Scalar.indexCast v1101
  let c0_666 : Index := 0#32
  ![v1104.toNat, 0]
def k0_off55 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_678 : BitVec 32 := 256#32
  let v1118 : BitVec 32 := Scalar.muli arg30 c256_i32_678
  let v1119 : Index := Scalar.indexCast v1118
  let c128_679 : Index := 128#32
  ![v1119.toNat, 128]
def k0_off56 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_692 : BitVec 32 := 256#32
  let v1135 : BitVec 32 := Scalar.muli arg30 c256_i32_692
  let v1136 : Index := Scalar.indexCast v1135
  let c256_693 : Index := 256#32
  ![v1136.toNat, 256]
def k0_off57 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_706 : BitVec 32 := 256#32
  let v1152 : BitVec 32 := Scalar.muli arg30 c256_i32_706
  let v1153 : Index := Scalar.indexCast v1152
  let c384_707 : Index := 384#32
  ![v1153.toNat, 384]
def k0_off58 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_720 : BitVec 32 := 256#32
  let v1169 : BitVec 32 := Scalar.muli arg30 c256_i32_720
  let v1170 : Index := Scalar.indexCast v1169
  let c512_721 : Index := 512#32
  ![v1170.toNat, 512]
def k0_off59 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_734 : BitVec 32 := 256#32
  let v1186 : BitVec 32 := Scalar.muli arg30 c256_i32_734
  let v1187 : Index := Scalar.indexCast v1186
  let c640_735 : Index := 640#32
  ![v1187.toNat, 640]
def k0_off60 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_748 : BitVec 32 := 256#32
  let v1203 : BitVec 32 := Scalar.muli arg30 c256_i32_748
  let v1204 : Index := Scalar.indexCast v1203
  let c768_749 : Index := 768#32
  ![v1204.toNat, 768]
def k0_off61 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_762 : BitVec 32 := 256#32
  let v1220 : BitVec 32 := Scalar.muli arg30 c256_i32_762
  let v1221 : Index := Scalar.indexCast v1220
  let c896_763 : Index := 896#32
  ![v1221.toNat, 896]
def k0_off62 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_776 : BitVec 32 := 256#32
  let v1237 : BitVec 32 := Scalar.muli arg30 c256_i32_776
  let v1238 : Index := Scalar.indexCast v1237
  let c1024_777 : Index := 1024#32
  ![v1238.toNat, 1024]
def k0_off63 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_790 : BitVec 32 := 256#32
  let v1254 : BitVec 32 := Scalar.muli arg30 c256_i32_790
  let v1255 : Index := Scalar.indexCast v1254
  let c1152_791 : Index := 1152#32
  ![v1255.toNat, 1152]
def k0_off64 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_804 : BitVec 32 := 256#32
  let v1271 : BitVec 32 := Scalar.muli arg30 c256_i32_804
  let v1272 : Index := Scalar.indexCast v1271
  let c1280_805 : Index := 1280#32
  ![v1272.toNat, 1280]
def k0_off65 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_818 : BitVec 32 := 256#32
  let v1288 : BitVec 32 := Scalar.muli arg30 c256_i32_818
  let v1289 : Index := Scalar.indexCast v1288
  let c1408_819 : Index := 1408#32
  ![v1289.toNat, 1408]
def k0_off66 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_832 : BitVec 32 := 256#32
  let v1305 : BitVec 32 := Scalar.muli arg30 c256_i32_832
  let v1306 : Index := Scalar.indexCast v1305
  let c1536_833 : Index := 1536#32
  ![v1306.toNat, 1536]
def k0_off67 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_846 : BitVec 32 := 256#32
  let v1322 : BitVec 32 := Scalar.muli arg30 c256_i32_846
  let v1323 : Index := Scalar.indexCast v1322
  let c1664_847 : Index := 1664#32
  ![v1323.toNat, 1664]
def k0_off68 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_860 : BitVec 32 := 256#32
  let v1339 : BitVec 32 := Scalar.muli arg30 c256_i32_860
  let v1340 : Index := Scalar.indexCast v1339
  let c1792_861 : Index := 1792#32
  ![v1340.toNat, 1792]
def k0_off69 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t3 : Fin (k0_t3_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let c1_i32_587 : BitVec 32 := 1#32
  let arg30 : BitVec 32 := Scf.iv v1016 c1_i32_587 k0_t3
  let c256_i32_874 : BitVec 32 := 256#32
  let v1356 : BitVec 32 := Scalar.muli arg30 c256_i32_874
  let v1357 : Index := Scalar.indexCast v1356
  let c1920_875 : Index := 1920#32
  ![v1357.toNat, 1920]
@[reducible] def k0_t4_loop (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) : Scf.Loop 32 :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let v1018 : BitVec 32 := Scalar.addi v1016 v1017
  let c1_i32_588 : BitVec 32 := 1#32
  ⟨v1021, v1018, c1_i32_588⟩
def k0_off70 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_664 : BitVec 32 := 256#32
  let v1101 : BitVec 32 := Scalar.muli arg30 c256_i32_664
  let v1102 : Index := Scalar.indexCast v1101
  let c0_665 : Index := 0#32
  ![v1102.toNat, 0]
def k0_off71 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_664 : BitVec 32 := 256#32
  let v1101 : BitVec 32 := Scalar.muli arg30 c256_i32_664
  let v1104 : Index := Scalar.indexCast v1101
  let c0_666 : Index := 0#32
  ![v1104.toNat, 0]
def k0_off72 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_678 : BitVec 32 := 256#32
  let v1118 : BitVec 32 := Scalar.muli arg30 c256_i32_678
  let v1119 : Index := Scalar.indexCast v1118
  let c128_679 : Index := 128#32
  ![v1119.toNat, 128]
def k0_off73 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_692 : BitVec 32 := 256#32
  let v1135 : BitVec 32 := Scalar.muli arg30 c256_i32_692
  let v1136 : Index := Scalar.indexCast v1135
  let c256_693 : Index := 256#32
  ![v1136.toNat, 256]
def k0_off74 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_706 : BitVec 32 := 256#32
  let v1152 : BitVec 32 := Scalar.muli arg30 c256_i32_706
  let v1153 : Index := Scalar.indexCast v1152
  let c384_707 : Index := 384#32
  ![v1153.toNat, 384]
def k0_off75 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_720 : BitVec 32 := 256#32
  let v1169 : BitVec 32 := Scalar.muli arg30 c256_i32_720
  let v1170 : Index := Scalar.indexCast v1169
  let c512_721 : Index := 512#32
  ![v1170.toNat, 512]
def k0_off76 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_734 : BitVec 32 := 256#32
  let v1186 : BitVec 32 := Scalar.muli arg30 c256_i32_734
  let v1187 : Index := Scalar.indexCast v1186
  let c640_735 : Index := 640#32
  ![v1187.toNat, 640]
def k0_off77 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_748 : BitVec 32 := 256#32
  let v1203 : BitVec 32 := Scalar.muli arg30 c256_i32_748
  let v1204 : Index := Scalar.indexCast v1203
  let c768_749 : Index := 768#32
  ![v1204.toNat, 768]
def k0_off78 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_762 : BitVec 32 := 256#32
  let v1220 : BitVec 32 := Scalar.muli arg30 c256_i32_762
  let v1221 : Index := Scalar.indexCast v1220
  let c896_763 : Index := 896#32
  ![v1221.toNat, 896]
def k0_off79 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_776 : BitVec 32 := 256#32
  let v1237 : BitVec 32 := Scalar.muli arg30 c256_i32_776
  let v1238 : Index := Scalar.indexCast v1237
  let c1024_777 : Index := 1024#32
  ![v1238.toNat, 1024]
def k0_off80 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_790 : BitVec 32 := 256#32
  let v1254 : BitVec 32 := Scalar.muli arg30 c256_i32_790
  let v1255 : Index := Scalar.indexCast v1254
  let c1152_791 : Index := 1152#32
  ![v1255.toNat, 1152]
def k0_off81 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_804 : BitVec 32 := 256#32
  let v1271 : BitVec 32 := Scalar.muli arg30 c256_i32_804
  let v1272 : Index := Scalar.indexCast v1271
  let c1280_805 : Index := 1280#32
  ![v1272.toNat, 1280]
def k0_off82 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_818 : BitVec 32 := 256#32
  let v1288 : BitVec 32 := Scalar.muli arg30 c256_i32_818
  let v1289 : Index := Scalar.indexCast v1288
  let c1408_819 : Index := 1408#32
  ![v1289.toNat, 1408]
def k0_off83 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_832 : BitVec 32 := 256#32
  let v1305 : BitVec 32 := Scalar.muli arg30 c256_i32_832
  let v1306 : Index := Scalar.indexCast v1305
  let c1536_833 : Index := 1536#32
  ![v1306.toNat, 1536]
def k0_off84 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_846 : BitVec 32 := 256#32
  let v1322 : BitVec 32 := Scalar.muli arg30 c256_i32_846
  let v1323 : Index := Scalar.indexCast v1322
  let c1664_847 : Index := 1664#32
  ![v1323.toNat, 1664]
def k0_off85 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_860 : BitVec 32 := 256#32
  let v1339 : BitVec 32 := Scalar.muli arg30 c256_i32_860
  let v1340 : Index := Scalar.indexCast v1339
  let c1792_861 : Index := 1792#32
  ![v1340.toNat, 1792]
def k0_off86 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_t4 : Fin (k0_t4_loop i v965 v967 v970 v972 v975 v977 v980 v982 v985 v987 v990 v992 v995 v997).trips) : Fin 2 → Nat :=
  let arg0 : BitVec 32 := BitVec.ofNat 32 (i 0).val
  let c256_i32 : BitVec 32 := 256#32
  let v3 : BitVec 32 := Scalar.muli arg0 c256_i32
  let v996 : BitVec 1 := Scalar.cmpi .sle v995 v3
  let v991 : BitVec 1 := Scalar.cmpi .sle v990 v3
  let v986 : BitVec 1 := Scalar.cmpi .sle v985 v3
  let v981 : BitVec 1 := Scalar.cmpi .sle v980 v3
  let v976 : BitVec 1 := Scalar.cmpi .sle v975 v3
  let v971 : BitVec 1 := Scalar.cmpi .sle v970 v3
  let v966 : BitVec 1 := Scalar.cmpi .sle v965 v3
  let c0_i32_564 : BitVec 32 := 0#32
  let v968 : BitVec 32 := Scalar.maxsi c0_i32_564 v967
  let c0_i32_565 : BitVec 32 := 0#32
  let v969 : BitVec 32 := Scalar.select v966 v968 c0_i32_565
  let v973 : BitVec 32 := Scalar.maxsi v969 v972
  let v974 : BitVec 32 := Scalar.select v971 v973 v969
  let v978 : BitVec 32 := Scalar.maxsi v974 v977
  let v979 : BitVec 32 := Scalar.select v976 v978 v974
  let v983 : BitVec 32 := Scalar.maxsi v979 v982
  let v984 : BitVec 32 := Scalar.select v981 v983 v979
  let v988 : BitVec 32 := Scalar.maxsi v984 v987
  let v989 : BitVec 32 := Scalar.select v986 v988 v984
  let v993 : BitVec 32 := Scalar.maxsi v989 v992
  let v994 : BitVec 32 := Scalar.select v991 v993 v989
  let v998 : BitVec 32 := Scalar.maxsi v994 v997
  let v999 : BitVec 32 := Scalar.select v996 v998 v994
  let c0_i32_579 : BitVec 32 := 0#32
  let v1001 : BitVec 1 := Scalar.cmpi .sgt v999 c0_i32_579
  let v1002 : BitVec 32 := Scalar.extui v1001
  let c0_i32_580 : BitVec 32 := 0#32
  let v1003 : BitVec 1 := Scalar.cmpi .slt v999 c0_i32_580
  let v1004 : BitVec 32 := Scalar.extui v1003
  let v1005 : BitVec 32 := Scalar.subi v1002 v1004
  let c256_i32_578 : BitVec 32 := 256#32
  let c0_i32_581 : BitVec 32 := 0#32
  let v1006 : BitVec 1 := Scalar.cmpi .sgt c256_i32_578 c0_i32_581
  let v1007 : BitVec 32 := Scalar.extui v1006
  let c0_i32_582 : BitVec 32 := 0#32
  let v1008 : BitVec 1 := Scalar.cmpi .slt c256_i32_578 c0_i32_582
  let v1009 : BitVec 32 := Scalar.extui v1008
  let v1010 : BitVec 32 := Scalar.subi v1007 v1009
  let v1011 : BitVec 1 := Scalar.cmpi .ne v1005 v1010
  let v1012 : BitVec 32 := Scalar.remsi v999 c256_i32_578
  let c0_i32_583 : BitVec 32 := 0#32
  let v1013 : BitVec 1 := Scalar.cmpi .ne v1012 c0_i32_583
  let v1014 : BitVec 1 := Scalar.andi v1011 v1013
  let v1000 : BitVec 32 := Scalar.divsi v999 c256_i32_578
  let c1_i32_584 : BitVec 32 := 1#32
  let v1015 : BitVec 32 := Scalar.subi v1000 c1_i32_584
  let v1016 : BitVec 32 := Scalar.select v1014 v1015 v1000
  let v1017 : BitVec 32 := Scalar.subi arg0 v1016
  let c1_i32_586 : BitVec 32 := 1#32
  let v1019 : BitVec 32 := Scalar.divsi v1017 c1_i32_586
  let v1020 : BitVec 32 := Scalar.muli v1019 c1_i32_586
  let v1021 : BitVec 32 := Scalar.addi v1016 v1020
  let c1_i32_588 : BitVec 32 := 1#32
  let arg30 : BitVec 32 := Scf.iv v1021 c1_i32_588 k0_t4
  let c256_i32_874 : BitVec 32 := 256#32
  let v1356 : BitVec 32 := Scalar.muli arg30 c256_i32_874
  let v1357 : Index := Scalar.indexCast v1356
  let c1920_875 : Index := 1920#32
  ![v1357.toNat, 1920]

def k0_chk1_0 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) : Prop :=
  ((k0_t3_loop i v965 v967 v970 v972 v975 v977 v980 v982 v985 v987 v990 v992 v995 v997).OK) ∧
  (∀ k0_t3 : Fin (k0_t3_loop i v965 v967 v970 v972 v975 v977 v980 v982 v985 v987 v990 v992 v995 v997).trips, ∀ a, (k0_off53 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off54 i v965 v967 v970 v972 v975 v977 v980 v982 v985 v987 v990 v992 v995 v997 k0_t3) a + S256x128.size a ≤ S8192x128.size a) ∧
  (∀ k0_t3 : Fin (k0_t3_loop i v965 v967 v970 v972 v975 v977 v980 v982 v985 v987 v990 v992 v995 v997).trips, ∀ a, (k0_off55 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off56 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off57 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off58 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off59 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off60 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off61 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off62 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off63 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off64 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off65 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off66 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off67 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off68 i v965 v967 v970 v972 v975 v977 v980 v982 v985 v987 v990 v992 v995 v997 k0_t3) a + S256x128.size a ≤ S8192x2048.size a) ∧
  (∀ k0_t3 : Fin (k0_t3_loop i v965 v967 v970 v972 v975 v977 v980 v982 v985 v987 v990 v992 v995 v997).trips, ∀ a, (k0_off69 i v965 v967 v970 v972 v975 v977 v980 v982 v985 v987 v990 v992 v995 v997 k0_t3) a + S256x128.size a ≤ S8192x2048.size a) ∧
  ((k0_t4_loop i v965 v967 v970 v972 v975 v977 v980 v982 v985 v987 v990 v992 v995 v997).OK) ∧
  (∀ k0_t4 : Fin (k0_t4_loop i v965 v967 v970 v972 v975 v977 v980 v982 v985 v987 v990 v992 v995 v997).trips, ∀ a, (k0_off70 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off71 i v965 v967 v970 v972 v975 v977 v980 v982 v985 v987 v990 v992 v995 v997 k0_t4) a + S256x128.size a ≤ S8192x128.size a) ∧
  (∀ k0_t4 : Fin (k0_t4_loop i v965 v967 v970 v972 v975 v977 v980 v982 v985 v987 v990 v992 v995 v997).trips, ∀ a, (k0_off72 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off73 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off74 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off75 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off76 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off77 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off78 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off79 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off80 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off81 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off82 i v965 v967 v970 v972 v975 v977 v980 v982 v985 v987 v990 v992 v995 v997 k0_t4) a + S256x128.size a ≤ S8192x2048.size a)
def k0_chk1_1 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) : Prop :=
  (∀ k0_t4 : Fin (k0_t4_loop i v965 v967 v970 v972 v975 v977 v980 v982 v985 v987 v990 v992 v995 v997).trips, ∀ a, (k0_off83 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off84 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off85 i v965 v967 v970 v972 v975 v977 v980 v982 v985 v987 v990 v992 v995 v997 k0_t4) a + S256x128.size a ≤ S8192x2048.size a) ∧
  (∀ k0_t4 : Fin (k0_t4_loop i v965 v967 v970 v972 v975 v977 v980 v982 v985 v987 v990 v992 v995 v997).trips, ∀ a, (k0_off86 i v965 v967 v970 v972 v975 v977 v980 v982 v985 v987 v990 v992 v995 v997 k0_t4) a + S256x128.size a ≤ S8192x2048.size a)
def k0_chk1 (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) : Prop :=
  k0_chk1_0 i v965 v967 v970 v972 v975 v977 v980 v982 v985 v987 v990 v992 v995 v997 ∧
  k0_chk1_1 i v965 v967 v970 v972 v975 v977 v980 v982 v985 v987 v990 v992 v995 v997
theorem k0_t3_ok : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997), (k0_t3_loop i v965 v967 v970 v972 v975 v977 v980 v982 v985 v987 v990 v992 v995 v997).OK := fun i v965 v967 v970 v972 v975 v977 v980 v982 v985 v987 v990 v992 v995 v997 k0_hw1 => k0_hw1.1.1
theorem k0_off53_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off53 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.1 k0_t3
theorem k0_off54_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off54 i v965 v967 v970 v972 v975 v977 v980 v982 v985 v987 v990 v992 v995 v997 k0_t3) a + S256x128.size a ≤ S8192x128.size a := fun i v965 v967 v970 v972 v975 v977 v980 v982 v985 v987 v990 v992 v995 v997 k0_hw1 k0_t3 => k0_hw1.1.2.2.1 k0_t3
theorem k0_off55_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off55 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.1 k0_t3
theorem k0_off56_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off56 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.1 k0_t3
theorem k0_off57_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off57 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.1 k0_t3
theorem k0_off58_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off58 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.1 k0_t3
theorem k0_off59_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off59 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.1 k0_t3
theorem k0_off60_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off60 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.1 k0_t3
theorem k0_off61_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off61 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.1 k0_t3
theorem k0_off62_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off62 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.1 k0_t3
theorem k0_off63_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off63 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.2.1 k0_t3
theorem k0_off64_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off64 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.2.2.1 k0_t3
theorem k0_off65_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off65 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.2.2.2.1 k0_t3
theorem k0_off66_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off66 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.2.2.2.2.1 k0_t3
theorem k0_off67_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off67 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.2.2.2.2.2.1 k0_t3
theorem k0_off68_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off68 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.2.2.2.2.2.2.1 k0_t3
theorem k0_off69_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t3 : Fin (k0_t3_loop i v965 v967 v970 v972 v975 v977 v980 v982 v985 v987 v990 v992 v995 v997).trips), ∀ a, (k0_off69 i v965 v967 v970 v972 v975 v977 v980 v982 v985 v987 v990 v992 v995 v997 k0_t3) a + S256x128.size a ≤ S8192x2048.size a := fun i v965 v967 v970 v972 v975 v977 v980 v982 v985 v987 v990 v992 v995 v997 k0_hw1 k0_t3 => k0_hw1.1.2.2.2.2.2.2.2.2.2.2.2.2.2.2.2.2.2.1 k0_t3
theorem k0_t4_ok : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997), (k0_t4_loop i v965 v967 v970 v972 v975 v977 v980 v982 v985 v987 v990 v992 v995 v997).OK := fun i v965 v967 v970 v972 v975 v977 v980 v982 v985 v987 v990 v992 v995 v997 k0_hw1 => k0_hw1.1.2.2.2.2.2.2.2.2.2.2.2.2.2.2.2.2.2.2.1
theorem k0_off70_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off70 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.1 k0_t4
theorem k0_off71_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off71 i v965 v967 v970 v972 v975 v977 v980 v982 v985 v987 v990 v992 v995 v997 k0_t4) a + S256x128.size a ≤ S8192x128.size a := fun i v965 v967 v970 v972 v975 v977 v980 v982 v985 v987 v990 v992 v995 v997 k0_hw1 k0_t4 => k0_hw1.1.2.2.2.2.2.2.2.2.2.2.2.2.2.2.2.2.2.2.2.2.1 k0_t4
theorem k0_off72_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off72 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.1 k0_t4
theorem k0_off73_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off73 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.1 k0_t4
theorem k0_off74_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off74 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.1 k0_t4
theorem k0_off75_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off75 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.1 k0_t4
theorem k0_off76_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off76 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.2.1 k0_t4
theorem k0_off77_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off77 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.2.2.1 k0_t4
theorem k0_off78_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off78 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.2.2.2.1 k0_t4
theorem k0_off79_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off79 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.2.2.2.2.1 k0_t4
theorem k0_off80_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off80 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.2.2.2.2.2.1 k0_t4
theorem k0_off81_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off81 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.2.2.2.2.2.2.1 k0_t4
theorem k0_off82_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off82 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.1.2.2.2.2.2.2.2.2.2.2.2.2.2.2.2.2.2.2.2.2.2.2.2.2.2.2.2.2.2.2.2 k0_t4
theorem k0_off83_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off83 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.2.1 k0_t4
theorem k0_off84_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off84 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.2.2.1 k0_t4
theorem k0_off85_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off85 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.2.2.2.1 k0_t4
theorem k0_off86_inb : ∀ (i : grid0.Coords) (v965 : BitVec 32) (v967 : BitVec 32) (v970 : BitVec 32) (v972 : BitVec 32) (v975 : BitVec 32) (v977 : BitVec 32) (v980 : BitVec 32) (v982 : BitVec 32) (v985 : BitVec 32) (v987 : BitVec 32) (v990 : BitVec 32) (v992 : BitVec 32) (v995 : BitVec 32) (v997 : BitVec 32) (k0_hw1 : k0_chk1 i v965 v967 v970 v972 v975 v977 v980 v982 v985 v987 v990 v992 v995 v997) (k0_t4 : Fin (k0_t4_loop i v965 v967 v970 v972 v975 v977 v980 v982 v985 v987 v990 v992 v995 v997).trips), ∀ a, (k0_off86 i v965 v967 v970 v972 v975 v977 v980 v982 v985 v987 v990 v992 v995 v997 k0_t4) a + S256x128.size a ≤ S8192x2048.size a := fun i v965 v967 v970 v972 v975 v977 v980 v982 v985 v987 v990 v992 v995 v997 k0_hw1 k0_t4 => k0_hw1.2.2.2.2 k0_t4

def k0_cond2 (i : grid0.Coords) : BitVec 1 :=
  let arg0 : BitVec 32 := BitVec.ofNat 32 (i 0).val
  let c31_i32 : BitVec 32 := 31#32
  let v1096 : BitVec 1 := Scalar.cmpi .eq arg0 c31_i32
  let v1097 : BitVec 32 := Scalar.extui v1096
  let c0_i32_660 : BitVec 32 := 0#32
  let v1098 : BitVec 1 := Scalar.cmpi .ne v1097 c0_i32_660
  v1098

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S24x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3072x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x1536 : Shape := ⟨2, ![8192, 1536]⟩
abbrev S8192x12 : Shape := ⟨2, ![8192, 12]⟩
abbrev S8192x512 : Shape := ⟨2, ![8192, 512]⟩
abbrev S8192x4 : Shape := ⟨2, ![8192, 4]⟩
abbrev S8192x64 : Shape := ⟨2, ![8192, 64]⟩
abbrev S7 : Shape := ⟨1, ![7]⟩
abbrev S8192x32 : Shape := ⟨2, ![8192, 32]⟩
abbrev S3072x1536 : Shape := ⟨2, ![3072, 1536]⟩
abbrev S2048x512 : Shape := ⟨2, ![2048, 512]⟩
abbrev S24x12 : Shape := ⟨2, ![24, 12]⟩
abbrev S16x4 : Shape := ⟨2, ![16, 4]⟩
abbrev S_ : Shape := ⟨0, ![]⟩
abbrev S1x1 : Shape := ⟨2, ![1, 1]⟩
abbrev S8192x16 : Shape := ⟨2, ![8192, 16]⟩
abbrev S1x16 : Shape := ⟨2, ![1, 16]⟩
abbrev S2x128 : Shape := ⟨2, ![2, 128]⟩
abbrev S8192x1x12x128 : Shape := ⟨4, ![8192, 1, 12, 128]⟩
abbrev S8192x1x12x1 : Shape := ⟨4, ![8192, 1, 12, 1]⟩
abbrev S24x128x12x128 : Shape := ⟨4, ![24, 128, 12, 128]⟩
abbrev S24x1x12x1 : Shape := ⟨4, ![24, 1, 12, 1]⟩
abbrev S8192x3072 : Shape := ⟨2, ![8192, 3072]⟩
abbrev S8192x16x192 : Shape := ⟨3, ![8192, 16, 192]⟩
abbrev S8192x1x4x128 : Shape := ⟨4, ![8192, 1, 4, 128]⟩
abbrev S8192x1x4x1 : Shape := ⟨4, ![8192, 1, 4, 1]⟩
abbrev S16x128x4x128 : Shape := ⟨4, ![16, 128, 4, 128]⟩
abbrev S16x1x4x1 : Shape := ⟨4, ![16, 1, 4, 1]⟩
abbrev S8192x2048 : Shape := ⟨2, ![8192, 2048]⟩
abbrev S8192x16x128 : Shape := ⟨3, ![8192, 16, 128]⟩
abbrev S8192x16x64 : Shape := ⟨3, ![8192, 16, 64]⟩
abbrev S8192x16x32x2 : Shape := ⟨4, ![8192, 16, 32, 2]⟩
abbrev S8192x16x32x1 : Shape := ⟨4, ![8192, 16, 32, 1]⟩
abbrev S8192x16x32 : Shape := ⟨3, ![8192, 16, 32]⟩
abbrev S8192x1x32 : Shape := ⟨3, ![8192, 1, 32]⟩
abbrev S1x8192 : Shape := ⟨2, ![1, 8192]⟩
abbrev S7x1 : Shape := ⟨2, ![7, 1]⟩
abbrev S7x8192 : Shape := ⟨2, ![7, 8192]⟩
abbrev S8192 : Shape := ⟨1, ![8192]⟩
abbrev S8192x8192 : Shape := ⟨2, ![8192, 8192]⟩
abbrev S16x8192x8192 : Shape := ⟨3, ![16, 8192, 8192]⟩
abbrev S8192x8192x16 : Shape := ⟨3, ![8192, 8192, 16]⟩
abbrev S8192x1 : Shape := ⟨2, ![8192, 1]⟩
abbrev S1x8192x8192 : Shape := ⟨3, ![1, 8192, 8192]⟩
abbrev S16x8192 : Shape := ⟨2, ![16, 8192]⟩
abbrev S16 : Shape := ⟨1, ![16]⟩
abbrev S2x16 : Shape := ⟨2, ![2, 16]⟩
abbrev S2x112 : Shape := ⟨2, ![2, 112]⟩

abbrev nBuf : Space → Nat
  | .hbm => 20
  | .vmem => 17
  | .smem => 0
  | _ => 0

abbrev bufTy : (tb : Table) → Fin (tcTables nBuf tb) → BufTy
  | .hbm, ⟨0, _⟩ => ⟨S8192x1536, .fp8e4m3⟩
  | .hbm, ⟨1, _⟩ => ⟨S8192x12, .f32⟩
  | .hbm, ⟨2, _⟩ => ⟨S8192x512, .fp8e4m3⟩
  | .hbm, ⟨3, _⟩ => ⟨S8192x4, .f32⟩
  | .hbm, ⟨4, _⟩ => ⟨S8192x64, .bf16⟩
  | .hbm, ⟨5, _⟩ => ⟨S7, .i32⟩
  | .hbm, ⟨6, _⟩ => ⟨S8192x32, .f32⟩
  | .hbm, ⟨7, _⟩ => ⟨S8192x32, .f32⟩
  | .hbm, ⟨8, _⟩ => ⟨S3072x1536, .bf16⟩
  | .hbm, ⟨9, _⟩ => ⟨S2048x512, .bf16⟩
  | .hbm, ⟨10, _⟩ => ⟨S3072x1536, .fp8e4m3⟩
  | .hbm, ⟨11, _⟩ => ⟨S24x12, .f32⟩
  | .hbm, ⟨12, _⟩ => ⟨S2048x512, .fp8e4m3⟩
  | .hbm, ⟨13, _⟩ => ⟨S16x4, .f32⟩
  | .hbm, ⟨14, _⟩ => ⟨S_, .f32⟩
  | .hbm, ⟨15, _⟩ => ⟨S1x1, .f32⟩
  | .hbm, ⟨16, _⟩ => ⟨S8192x16, .f32⟩
  | .hbm, ⟨17, _⟩ => ⟨S1x16, .f32⟩
  | .hbm, ⟨18, _⟩ => ⟨S1x16, .f32⟩
  | .hbm, ⟨19, _⟩ => ⟨S2x128, .f32⟩
  | .local _ .vmem, ⟨0, _⟩ => ⟨S7, .i32⟩
  | .local _ .vmem, ⟨1, _⟩ => ⟨S1x1, .f32⟩
  | .local _ .vmem, ⟨2, _⟩ => ⟨S24x12, .f32⟩
  | .local _ .vmem, ⟨3, _⟩ => ⟨S16x4, .f32⟩
  | .local _ .vmem, ⟨4, _⟩ => ⟨S8192x1536, .fp8e4m3⟩
  | .local _ .vmem, ⟨5, _⟩ => ⟨S8192x12, .f32⟩
  | .local _ .vmem, ⟨6, _⟩ => ⟨S8192x512, .fp8e4m3⟩
  | .local _ .vmem, ⟨7, _⟩ => ⟨S8192x4, .f32⟩
  | .local _ .vmem, ⟨8, _⟩ => ⟨S8192x64, .bf16⟩
  | .local _ .vmem, ⟨9, _⟩ => ⟨S8192x32, .f32⟩
  | .local _ .vmem, ⟨10, _⟩ => ⟨S8192x32, .f32⟩
  | .local _ .vmem, ⟨11, _⟩ => ⟨S3072x1536, .fp8e4m3⟩
  | .local _ .vmem, ⟨12, _⟩ => ⟨S2048x512, .fp8e4m3⟩
  | .local _ .vmem, ⟨13, _⟩ => ⟨S8192x16, .f32⟩
  | .local _ .vmem, ⟨14, _⟩ => ⟨S1x16, .f32⟩
  | .local _ .vmem, ⟨15, _⟩ => ⟨S1x16, .f32⟩
  | .local _ .vmem, ⟨16, _⟩ => ⟨S2x128, .f32⟩
  | _, _ => ⟨S8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Words.lean ====
/-
  Hand-written, untrusted. The words of the kernel's key loop: the first token of the tile's sequences folded from the
  boundary words that do not exceed the tile's first token, its quotient by the tile size, and the bounds of the loop that
  starts there. Whatever the seven words are, the fold lies between 0 and the tile's first token, and it is 0 or one of
  the words: every row offset of the loop is inside the key scratch.
-/
module

public import Idealize.ShloMosaic.PureOps
public import Idealize.ShloMosaic.Lib.Scf
public import Idealize.ShloMosaic.Lib.WordCmp

@[expose] public section

namespace Cert.Words

open Idealize.ShloMosaic

/-- One step of the fold: the word taken into the maximum when it does not exceed `t0`. -/
def stepW (t0 w f : BitVec 32) : BitVec 32 := Scalar.select (Scalar.cmpi .sle w t0) (Scalar.maxsi f w) f

/-- The fold over the seven words. -/
def firstW (t0 w0 w1 w2 w3 w4 w5 w6 : BitVec 32) : BitVec 32 :=
  stepW t0 w6 (stepW t0 w5 (stepW t0 w4 (stepW t0 w3 (stepW t0 w2 (stepW t0 w1 (stepW t0 w0 0#32))))))

/-- The quotient by 256, rounded down, as the program computes it. -/
def floorW (f : BitVec 32) : BitVec 32 :=
  Scalar.select
    (Scalar.andi
      (Scalar.cmpi .ne (Scalar.subi (Scalar.extui (Scalar.cmpi .sgt f 0#32)) (Scalar.extui (Scalar.cmpi .slt f 0#32)))
        (Scalar.subi (Scalar.extui (Scalar.cmpi .sgt 256#32 0#32)) (Scalar.extui (Scalar.cmpi .slt 256#32 0#32))))
      (Scalar.cmpi .ne (Scalar.remsi f 256#32) 0#32))
    (Scalar.subi (Scalar.divsi f 256#32) 1#32) (Scalar.divsi f 256#32)

theorem toInt_ofNat {n : ℕ} (h : n < 2147483648) : (BitVec.ofNat 32 n).toInt = n := by
  rw [BitVec.toInt_eq_toNat_cond, BitVec.toNat_ofNat]; omega

theorem eq_ofNat_of_toInt {w : BitVec 32} (h : 0 ≤ w.toInt) : w = BitVec.ofNat 32 w.toInt.toNat := by
  apply BitVec.eq_of_toInt_eq
  have := BitVec.toInt_lt (x := w)
  rw [toInt_ofNat (by omega)]; omega

/-- What the fold keeps: a natural number up to `T`, which is 0 or one of the words met. -/
def Kept (T : ℕ) (P : BitVec 32 → Prop) (f : BitVec 32) : Prop :=
  ∃ n : ℕ, n ≤ T ∧ f = BitVec.ofNat 32 n ∧ (n = 0 ∨ ∃ w, P w ∧ w = BitVec.ofNat 32 n)

theorem kept_step {T : ℕ} (hT : T < 2147483648) {P : BitVec 32 → Prop} {w f : BitVec 32} (hw : P w) (hf : Kept T P f) :
    Kept T P (stepW (BitVec.ofNat 32 T) w f) := by
  obtain ⟨n, hn, rfl, hor⟩ := hf
  unfold stepW Scalar.select
  split
  · rename_i hc
    have hle : w.toInt ≤ T := by
      have h2 : w.sle (BitVec.ofNat 32 T) = true := by
        have : Scalar.cmpi .sle w (BitVec.ofNat 32 T) = BitVec.ofBool (w.sle (BitVec.ofNat 32 T)) := rfl
        rw [this] at hc
        cases h : w.sle (BitVec.ofNat 32 T) with
        | true => rfl
        | false => rw [h] at hc; exact absurd hc (by decide)
      have := (BitVec.sle_iff_toInt_le).mp h2
      rwa [toInt_ofNat hT] at this
    show Kept T P (if w.slt (BitVec.ofNat 32 n) then BitVec.ofNat 32 n else w)
    by_cases h : w.slt (BitVec.ofNat 32 n) = true
    · rw [if_pos h]; exact ⟨n, hn, rfl, hor⟩
    · rw [if_neg h]
      have h3 : ¬ w.toInt < n := by
        rw [← toInt_ofNat (n := n) (by omega)]; exact fun hh => h ((BitVec.slt_iff_toInt_lt).mpr hh)
      refine ⟨w.toInt.toNat, by omega, eq_ofNat_of_toInt (by omega), Or.inr ⟨w, hw, eq_ofNat_of_toInt (by omega)⟩⟩
  · exact ⟨n, hn, rfl, hor⟩

theorem kept_firstW {T : ℕ} (hT : T < 2147483648) (w0 w1 w2 w3 w4 w5 w6 : BitVec 32) :
    Kept T (fun w => w = w0 ∨ w = w1 ∨ w = w2 ∨ w = w3 ∨ w = w4 ∨ w = w5 ∨ w = w6)
      (firstW (BitVec.ofNat 32 T) w0 w1 w2 w3 w4 w5 w6) := by
  unfold firstW
  refine kept_step hT (by simp) (kept_step hT (by simp) (kept_step hT (by simp) (kept_step hT (by simp)
    (kept_step hT (by simp) (kept_step hT (by simp) (kept_step hT (by simp) ⟨0, Nat.zero_le _, rfl, Or.inl rfl⟩))))))

theorem floorW_ofNat {n : ℕ} (hn : n < 2147483648) : floorW (BitVec.ofNat 32 n) = BitVec.ofNat 32 (n / 256) := by
  have hdiv : Scalar.divsi (BitVec.ofNat 32 n) 256#32 = BitVec.ofNat 32 (n / 256) := by
    show (if _ then _ else _) = _
    rw [if_neg (by unfold IntOp.SDivCorner; rintro (h | ⟨_, h⟩) <;> exact absurd h (by decide))]
    apply BitVec.eq_of_toInt_eq
    rw [BitVec.toInt_sdiv, toInt_ofNat hn, toInt_ofNat (n := n / 256) (by omega), show (256#32 : BitVec 32).toInt = 256 from by decide]
    rw [Int.tdiv_eq_ediv_of_nonneg (by omega)]
    rw [Int.bmod_eq_of_le (by omega) (by omega)]
    omega
  unfold floorW
  rw [hdiv]
  rcases Nat.eq_zero_or_pos n with rfl | hpos
  · decide
  · have h1 : Scalar.cmpi .sgt (BitVec.ofNat 32 n) 0#32 = 1#1 := by
      show BitVec.ofBool ((0#32).slt (BitVec.ofNat 32 n)) = 1#1
      rw [(BitVec.slt_iff_toInt_lt).mpr (by rw [toInt_ofNat hn]; simpa using hpos)]; rfl
    have h2 : Scalar.cmpi .slt (BitVec.ofNat 32 n) 0#32 = 0#1 := by
      show BitVec.ofBool ((BitVec.ofNat 32 n).slt 0#32) = 0#1
      have : (BitVec.ofNat 32 n).slt 0#32 = false := by
        rw [Bool.eq_false_iff]; intro h
        have := (BitVec.slt_iff_toInt_lt).mp h
        rw [toInt_ofNat hn] at this; simp at this; omega
      rw [this]; rfl
    rw [h1, h2]
    have h3 : Scalar.cmpi .ne (Scalar.subi (Scalar.extui 1#1) (Scalar.extui 0#1))
        (Scalar.subi (Scalar.extui (Scalar.cmpi .sgt 256#32 0#32)) (Scalar.extui (Scalar.cmpi .slt 256#32 0#32))) = 0#1 := by decide
    rw [h3]
    show (if (0#1 &&& _) = 1#1 then _ else _) = _
    rw [if_neg]
    rw [BitVec.zero_and]; decide

theorem divsi_one (x : BitVec 32) : Scalar.divsi x 1#32 = x := by
  show (if _ then _ else _) = _
  rw [if_neg (by unfold IntOp.SDivCorner; rintro (h | ⟨_, h⟩) <;> exact absurd h (by decide))]
  exact BitVec.sdiv_one

/-- The tile's first token, as a word. -/
def t0W (i : ℕ) : BitVec 32 := Scalar.muli (BitVec.ofNat 32 i) 256#32

theorem t0W_eq {i : ℕ} (hi : i < 32) : t0W i = BitVec.ofNat 32 (256 * i) := by
  unfold t0W Scalar.muli IntOp.muli
  apply BitVec.eq_of_toNat_eq
  rw [BitVec.toNat_mul, BitVec.toNat_ofNat, BitVec.toNat_ofNat, BitVec.toNat_ofNat]; omega

/-- The first tile of the key loop, as a natural number, and what it is known to be. -/
theorem floor_first {i : ℕ} (hi : i < 32) (w0 w1 w2 w3 w4 w5 w6 : BitVec 32) :
    ∃ n : ℕ, n ≤ 256 * i ∧ (n = 0 ∨ ∃ w, (w = w0 ∨ w = w1 ∨ w = w2 ∨ w = w3 ∨ w = w4 ∨ w = w5 ∨ w = w6) ∧ w = BitVec.ofNat 32 n)
      ∧ floorW (firstW (t0W i) w0 w1 w2 w3 w4 w5 w6) = BitVec.ofNat 32 (n / 256) := by
  rw [t0W_eq hi]
  obtain ⟨n, hn, hf, hor⟩ := kept_firstW (T := 256 * i) (by omega) w0 w1 w2 w3 w4 w5 w6
  exact ⟨n, hn, hor, by rw [hf, floorW_ofNat (by omega)]⟩

/-- The upper bound of the key loop: the tile's own number. -/
theorem upper_eq (i : ℕ) (lo : BitVec 32) :
    Scalar.addi lo (Scalar.muli (Scalar.divsi (Scalar.subi (BitVec.ofNat 32 i) lo) 1#32) 1#32) = BitVec.ofNat 32 i := by
  rw [divsi_one]
  show lo + (BitVec.ofNat 32 i - lo) * 1#32 = _
  rw [BitVec.mul_one, BitVec.add_comm, BitVec.sub_add_cancel]

theorem upper_eq' (i : ℕ) (lo : BitVec 32) : Scalar.addi lo (Scalar.subi (BitVec.ofNat 32 i) lo) = BitVec.ofNat 32 i := by
  show lo + (BitVec.ofNat 32 i - lo) = _
  rw [BitVec.add_comm, BitVec.sub_add_cancel]

theorem trips_eq {lo i : ℕ} (hlo : lo ≤ i) (hi : i < 32) : Scf.trips (BitVec.ofNat 32 lo) (BitVec.ofNat 32 i) 1#32 = i - lo := by
  unfold Scf.trips
  rw [toInt_ofNat (by omega), toInt_ofNat (by omega), show (1#32 : BitVec 32).toInt = 1 from by decide]
  omega

theorem ok_of {lo i : ℕ} (hlo : lo ≤ i) (hi : i < 32) : Scf.OK (BitVec.ofNat 32 lo) (BitVec.ofNat 32 i) 1#32 := by
  refine ⟨by decide, ?_⟩
  rw [trips_eq hlo hi, toInt_ofNat (by omega), toInt_ofNat (by omega)]
  omega

/-- The row offset of a trip. -/
def rowW (lo : BitVec 32) (k : ℕ) : ℕ := (Scalar.indexCast (Scalar.muli (Scf.iv lo 1#32 k) 256#32)).toNat

theorem rowW_eq {lo k : ℕ} (h : lo + k < 32) : rowW (BitVec.ofNat 32 lo) k = 256 * (lo + k) := by
  unfold rowW Scf.iv
  show (_ : BitVec 32).toNat = _
  show ((BitVec.ofNat 32 lo + BitVec.ofNat 32 k * 1#32) * 256#32).toNat = _
  rw [BitVec.toNat_mul, BitVec.mul_one, BitVec.toNat_add, BitVec.toNat_ofNat, BitVec.toNat_ofNat, BitVec.toNat_ofNat]; omega

theorem row_inb {lo i k : ℕ} (hlo : lo ≤ i) (hi : i < 32) (hk : k < i - lo) {W C c : ℕ} (hc : c + C ≤ W) :
    ∀ a : Fin 2, (![rowW (BitVec.ofNat 32 lo) k, c] : Fin 2 → ℕ) a + (![256, C] : Fin 2 → ℕ) a ≤ (![8192, W] : Fin 2 → ℕ) a := by
  rw [rowW_eq (by omega)]
  refine Fin.forall_fin_two.mpr ⟨?_, ?_⟩
  · show 256 * (lo + k) + 256 ≤ 8192; omega
  · exact hc

end Cert.Words

end
-- ==== Proof.KernelChk.lean ====
/-
  Hand-written, untrusted. The kernel's checks on its key loop hold whatever the seven boundary words are: the loop's
  bounds are the words of Words.lean, so every row offset of a trip is inside the key scratch.
-/
module

public import proofs.«01_k».proof.Kernel
public import proofs.«01_k».proof.Proof.Gen.Kernel
public import proofs.«01_k».proof.Proof.Words

@[expose] public section

namespace Cert.Kernel.Hand

open Cert.Kernel Cert.Kernel.Gen Idealize.ShloMosaic Cert.Words

variable (i : grid0.Coords) (w0 w1 w2 w3 w4 w5 w6 : BitVec 32)

/-- The key loop's first tile as the program computes it. -/
abbrev lowW : BitVec 32 := floorW (firstW (t0W (i 0).val) w0 w1 w2 w3 w4 w5 w6)

theorem coord_lt : (i 0).val < 32 := (i 0).isLt

theorem t3_eq : k0_t3_loop i w0 w0 w1 w1 w2 w2 w3 w3 w4 w4 w5 w5 w6 w6 = ⟨lowW i w0 w1 w2 w3 w4 w5 w6, BitVec.ofNat 32 (i 0).val, 1#32⟩ := by
  show (⟨lowW i w0 w1 w2 w3 w4 w5 w6, Scalar.addi (lowW i w0 w1 w2 w3 w4 w5 w6) (Scalar.muli (Scalar.divsi (Scalar.subi (BitVec.ofNat 32 (i 0).val) (lowW i w0 w1 w2 w3 w4 w5 w6)) 1#32) 1#32), 1#32⟩ : Scf.Loop 32) = _
  rw [upper_eq]

theorem t4_eq : k0_t4_loop i w0 w0 w1 w1 w2 w2 w3 w3 w4 w4 w5 w5 w6 w6 = ⟨BitVec.ofNat 32 (i 0).val, BitVec.ofNat 32 (i 0).val, 1#32⟩ := by
  show (⟨Scalar.addi (lowW i w0 w1 w2 w3 w4 w5 w6) (Scalar.muli (Scalar.divsi (Scalar.subi (BitVec.ofNat 32 (i 0).val) (lowW i w0 w1 w2 w3 w4 w5 w6)) 1#32) 1#32), Scalar.addi (lowW i w0 w1 w2 w3 w4 w5 w6) (Scalar.subi (BitVec.ofNat 32 (i 0).val) (lowW i w0 w1 w2 w3 w4 w5 w6)), 1#32⟩ : Scf.Loop 32) = _
  rw [upper_eq, upper_eq']

theorem t4_trips : (k0_t4_loop i w0 w0 w1 w1 w2 w2 w3 w3 w4 w4 w5 w5 w6 w6).trips = 0 := by
  rw [t4_eq]; show Scf.trips _ _ _ = 0
  rw [trips_eq le_rfl (coord_lt i)]; exact Nat.sub_self _

/-- The first tile of the loop as a number. -/
theorem low_exists : ∃ n : ℕ, n ≤ 256 * (i 0).val
    ∧ (n = 0 ∨ ∃ w, (w = w0 ∨ w = w1 ∨ w = w2 ∨ w = w3 ∨ w = w4 ∨ w = w5 ∨ w = w6) ∧ w = BitVec.ofNat 32 n)
    ∧ lowW i w0 w1 w2 w3 w4 w5 w6 = BitVec.ofNat 32 (n / 256) := floor_first (coord_lt i) w0 w1 w2 w3 w4 w5 w6

theorem t3_trips {lo : ℕ} (hlo : lo ≤ (i 0).val) (h : lowW i w0 w1 w2 w3 w4 w5 w6 = BitVec.ofNat 32 lo) :
    (k0_t3_loop i w0 w0 w1 w1 w2 w2 w3 w3 w4 w4 w5 w5 w6 w6).trips = (i 0).val - lo := by
  rw [t3_eq, h]; exact trips_eq hlo (coord_lt i)

theorem chk1 : k0_chk1 i w0 w0 w1 w1 w2 w2 w3 w3 w4 w4 w5 w5 w6 w6 := by
  obtain ⟨n, hn, -, hlo⟩ := low_exists i w0 w1 w2 w3 w4 w5 w6
  have hle : n / 256 ≤ (i 0).val := by omega
  have hT := t3_trips i w0 w1 w2 w3 w4 w5 w6 hle hlo
  have key : ∀ k : Fin (k0_t3_loop i w0 w0 w1 w1 w2 w2 w3 w3 w4 w4 w5 w5 w6 w6).trips, ∀ {W C c : ℕ}, c + C ≤ W →
      ∀ a : Fin 2, (![rowW (lowW i w0 w1 w2 w3 w4 w5 w6) k, c] : Fin 2 → ℕ) a + (![256, C] : Fin 2 → ℕ) a ≤ (![8192, W] : Fin 2 → ℕ) a := by
    intro k W C c hc
    rw [hlo]; exact row_inb hle (coord_lt i) (by have := k.isLt; omega) hc
  have hok : (k0_t3_loop i w0 w0 w1 w1 w2 w2 w3 w3 w4 w4 w5 w5 w6 w6).OK := by rw [t3_eq, hlo]; exact ok_of hle (coord_lt i)
  have h0 := t4_trips i w0 w1 w2 w3 w4 w5 w6
  have no : Fin (k0_t4_loop i w0 w0 w1 w1 w2 w2 w3 w3 w4 w4 w5 w5 w6 w6).trips → False := fun k => by have := k.isLt; omega
  exact ⟨⟨hok,
    fun k => key k (W := 2048) (C := 128) (c := 0) (by decide),
    fun k => key k (W := 128) (C := 128) (c := 0) (by decide),
    fun k => key k (W := 2048) (C := 128) (c := 128) (by decide),
    fun k => key k (W := 2048) (C := 128) (c := 256) (by decide),
    fun k => key k (W := 2048) (C := 128) (c := 384) (by decide),
    fun k => key k (W := 2048) (C := 128) (c := 512) (by decide),
    fun k => key k (W := 2048) (C := 128) (c := 640) (by decide),
    fun k => key k (W := 2048) (C := 128) (c := 768) (by decide),
    fun k => key k (W := 2048) (C := 128) (c := 896) (by decide),
    fun k => key k (W := 2048) (C := 128) (c := 1024) (by decide),
    fun k => key k (W := 2048) (C := 128) (c := 1152) (by decide),
    fun k => key k (W := 2048) (C := 128) (c := 1280) (by decide),
    fun k => key k (W := 2048) (C := 128) (c := 1408) (by decide),
    fun k => key k (W := 2048) (C := 128) (c := 1536) (by decide),
    fun k => key k (W := 2048) (C := 128) (c := 1664) (by decide),
    fun k => key k (W := 2048) (C := 128) (c := 1792) (by decide),
    fun k => key k (W := 2048) (C := 128) (c := 1920) (by decide),
    by rw [t4_eq]; exact ok_of le_rfl (coord_lt i),
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim⟩,
    fun k => (no k).elim,
    fun k => (no k).elim,
    fun k => (no k).elim,
    fun k => (no k).elim⟩

end Cert.Kernel.Hand

end
-- ==== Proof.KernelBody.lean ====
module

public import proofs.«01_k».proof.Proof.Gen.Kernel.Frame
public import proofs.«01_k».proof.Proof.Gen.Kernel.Skeleton
public import proofs.«01_k».proof.Proof.Gen.Kernel.Loops
public import proofs.«01_k».proof.Proof.KernelChk
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

theorem kernelRun (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole)
    (x1 : Vec F S7 .i32) (x2 : Vec F S1 .f32) (x3 : Vec F S24x12 .f32) (x4 : Vec F S16x4 .f32) (x5 : Vec F S256x1536 .fp8e4m3) (x6 : Vec F S256x12 .f32) (x7 : Vec F S256x512 .fp8e4m3) (x8 : Vec F S256x4 .f32) (x9 : Vec F S256x64 .bf16) (x10 : Vec F S256x32 .f32) (x11 : Vec F S256x32 .f32) (x12 : Vec F S3072x1536 .fp8e4m3) (x13 : Vec F S2048x512 .fp8e4m3) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none (c : Thread nD τ) none) Set.univ (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_logits_eq_skeleton]; unfold cc0_logits_skel
  simp only [k0_part65_eq_skeleton]; unfold k0_part65_skel
  simp only [k0_part62_eq_skeleton, k0_part63_eq_skeleton]; unfold k0_part62_skel k0_part63_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  by_cases hc1 : k0_cond1 i = 1#1 <;> by_cases hc2 : k0_cond2 i = 1#1
  all_goals
    sl_exec_parts (disch := exact chk1 _ _ _ _ _ _ _ _)
    sl_step
    iapply Hk
    isplitl [H1]
    · iexists _; isplitr; swap
      · iexact H1
      · ipureintro; exact hf1
    isplitl [H2]
    · iexists _; isplitr; swap
      · iexact H2
      · ipureintro; exact hf2
    isplitl [H3]
    · iexists _; isplitr; swap
      · iexact H3
      · ipureintro; exact hf3
    isplitl [H4]
    · iexists _; isplitr; swap
      · iexact H4
      · ipureintro; exact hf4
    isplitl [H5]
    · iexists _; isplitr; swap
      · iexact H5
      · ipureintro; exact hf5
    isplitl [H6]
    · iexists _; isplitr; swap
      · iexact H6
      · ipureintro; exact hf6
    isplitl [H7]
    · iexists _; isplitr; swap
      · iexact H7
      · ipureintro; exact hf7
    isplitl [H8]
    · iexists _; isplitr; swap
      · iexact H8
      · ipureintro; exact hf8
    isplitl [H9]
    · iexists _; isplitr; swap
      · iexact H9
      · ipureintro; exact hf9
    isplitl [H10]
    · iexists _; isplitr; swap
      · iexact H10
      · ipureintro; exact hf10
    isplitl [H11]
    · iexists _; isplitr; swap
      · iexact H11
      · ipureintro; exact hf11
    isplitl [H12]
    · iexists _; isplitr; swap
      · iexact H12
      · ipureintro; exact hf12
    isplitl [H13]
    · iexists _; isplitr; swap
      · iexact H13
      · ipureintro; exact hf13
    isplitl [H14]
    · iexists _, _; isplitr; swap
      · iexact H14
      · ipureintro; rfl
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    isplitl [H18]
    · iexists _, _; isplitr; swap
      · iexact H18
      · ipureintro; rfl
    isplitl [H19]
    · iexists _, _; isplitr; swap
      · iexact H19
      · ipureintro; rfl
    isplitl [H20]
    · iexists _, _; isplitr; swap
      · iexact H20
      · ipureintro; rfl
    isplitl [H21]
    · iexists _, _; isplitr; swap
      · iexact H21
      · ipureintro; rfl
    isplitl [H22]
    · iexists _, _; isplitr; swap
      · iexact H22
      · ipureintro; rfl
    isplitl [H23]
    · iexists _, _; isplitr; swap
      · iexact H23
      · ipureintro; rfl
    isplitl [H24]
    · iexists _, _; isplitr; swap
      · iexact H24
      · ipureintro; rfl
    isplitl [H25]
    · iexists _, _; isplitr; swap
      · iexact H25
      · ipureintro; rfl
    isplitl [H26]
    · iexists _, _; isplitr; swap
      · iexact H26
      · ipureintro; rfl
    isplitl [H27]
    · iexists _, _; isplitr; swap
      · iexact H27
      · ipureintro; rfl
    isplitl [H28]
    · iexists _, _; isplitr; swap
      · iexact H28
      · ipureintro; rfl
    iexists _, _; isplitr; swap
    · iexact H29
    · ipureintro; rfl

end Cert.Kernel.Hand

end
-- ==== Proof.KernelLaunch.lean ====
/- The launch of the kernel's pipeline with its results forgotten: the run terminates, leaves every argument as it was and
   every semaphore counter at zero. The body is run once (`kernelRun`) at any grid point. -/
module

public import proofs.«01_k».proof.Proof.KernelBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The class invariant, conjunct by conjunct. -/
theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r)) := by
  unfold Pipeline.ΦA
  rw [scopedRest0_eq]; simp only [owns_whole]; try rfl

/-- The results are forgotten. -/
def forgets0 : Fin 17 → Bool := fun w => decide (13 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨n + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, after0, before1, after1, before2, after2, before3, after3, before4, after4, before5, after5, before6, after6, before7, after7, before8, after8, before9, after9, before10, after10, before11, after11, before12, after12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (kernelRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, H3, H4, H5, H6, H7, H8, H9, H10, H11, H12, H13, H14, H15, H16, S0, S1, S2, S3, S4, S5, S6, S7, S8, S9, S10, S11⟩
  isplitl [S0 S1 S2 S3 S4 S5 S6 S7 S8 S9 S10 S11 Hg]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input window's array is as the region found it. -/
theorem arrIn {r : PUnit × MemSt nD τ sig (Elt F)}
    (h : Pipeline.RDat.FramePost (cfgs 0) (fun c => (dats (F := F) m 0 c).toRForget forgets0) (V m) r) (c : Dev nD)
    (w : Fin cfg0.W) (hin : (cfg0.win w).isOut = false) :
    r.2.mem ((spec0 w).arr.view.loc (c.tc : Thread nD τ)) = V m c (Pipeline.arrRef spec0 w) :=
  (Pipeline.RDat.FramePost.arr_in h c w hin).trans (A_eq m c w)

/-- Every argument is as it was and every semaphore counter at zero. -/
theorem frame' :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun _ hh => ⟨fun c => have h := hh.1; ⟨(arrIn m hh.1 c 4 rfl).trans (V_main_arg0 m c),
      (arrIn m hh.1 c 5 rfl).trans (V_main_arg1 m c),
      (arrIn m hh.1 c 6 rfl).trans (V_main_arg2 m c),
      (arrIn m hh.1 c 7 rfl).trans (V_main_arg3 m c),
      (arrIn m hh.1 c 8 rfl).trans (V_main_arg4 m c),
      (arrIn m hh.1 c 0 rfl).trans (V_main_arg5 m c),
      (arrIn m hh.1 c 9 rfl).trans (V_main_arg6 m c),
      (arrIn m hh.1 c 10 rfl).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (arrIn m hh.1 c 11 rfl).trans (V_main_arg10 m c),
      (arrIn m hh.1 c 2 rfl).trans (V_main_arg11 m c),
      (arrIn m hh.1 c 12 rfl).trans (V_main_arg12 m c),
      (arrIn m hh.1 c 3 rfl).trans (V_main_arg13 m c),
      ((h c).2 main_arg14 (Pipeline.mem_restRefs_of main_arg14 (by decide) (by decide))).trans (V_main_arg14 m c)⟩, hh.2⟩) (run_main m ρ)

end Cert.Kernel.Hand

end
-- ==== Proof.KernelIdealChk.lean ====
/-
  Hand-written, untrusted. The kernel's checks on its key loop hold whatever the seven boundary words are: the loop's
  bounds are the words of Words.lean, so every row offset of a trip is inside the key scratch.
-/
module

public import proofs.«01_k».proof.KernelIdeal
public import proofs.«01_k».proof.Proof.Gen.KernelIdeal
public import proofs.«01_k».proof.Proof.Words

@[expose] public section

namespace Cert.KernelIdeal.Hand

open Cert.KernelIdeal Cert.KernelIdeal.Gen Idealize.ShloMosaic Cert.Words

variable (i : grid0.Coords) (w0 w1 w2 w3 w4 w5 w6 : BitVec 32)

/-- The key loop's first tile as the program computes it. -/
abbrev lowW : BitVec 32 := floorW (firstW (t0W (i 0).val) w0 w1 w2 w3 w4 w5 w6)

theorem coord_lt : (i 0).val < 32 := (i 0).isLt

theorem t3_eq : k0_t3_loop i w0 w0 w1 w1 w2 w2 w3 w3 w4 w4 w5 w5 w6 w6 = ⟨lowW i w0 w1 w2 w3 w4 w5 w6, BitVec.ofNat 32 (i 0).val, 1#32⟩ := by
  show (⟨lowW i w0 w1 w2 w3 w4 w5 w6, Scalar.addi (lowW i w0 w1 w2 w3 w4 w5 w6) (Scalar.muli (Scalar.divsi (Scalar.subi (BitVec.ofNat 32 (i 0).val) (lowW i w0 w1 w2 w3 w4 w5 w6)) 1#32) 1#32), 1#32⟩ : Scf.Loop 32) = _
  rw [upper_eq]

theorem t4_eq : k0_t4_loop i w0 w0 w1 w1 w2 w2 w3 w3 w4 w4 w5 w5 w6 w6 = ⟨BitVec.ofNat 32 (i 0).val, BitVec.ofNat 32 (i 0).val, 1#32⟩ := by
  show (⟨Scalar.addi (lowW i w0 w1 w2 w3 w4 w5 w6) (Scalar.muli (Scalar.divsi (Scalar.subi (BitVec.ofNat 32 (i 0).val) (lowW i w0 w1 w2 w3 w4 w5 w6)) 1#32) 1#32), Scalar.addi (lowW i w0 w1 w2 w3 w4 w5 w6) (Scalar.subi (BitVec.ofNat 32 (i 0).val) (lowW i w0 w1 w2 w3 w4 w5 w6)), 1#32⟩ : Scf.Loop 32) = _
  rw [upper_eq, upper_eq']

theorem t4_trips : (k0_t4_loop i w0 w0 w1 w1 w2 w2 w3 w3 w4 w4 w5 w5 w6 w6).trips = 0 := by
  rw [t4_eq]; show Scf.trips _ _ _ = 0
  rw [trips_eq le_rfl (coord_lt i)]; exact Nat.sub_self _

/-- The first tile of the loop as a number. -/
theorem low_exists : ∃ n : ℕ, n ≤ 256 * (i 0).val
    ∧ (n = 0 ∨ ∃ w, (w = w0 ∨ w = w1 ∨ w = w2 ∨ w = w3 ∨ w = w4 ∨ w = w5 ∨ w = w6) ∧ w = BitVec.ofNat 32 n)
    ∧ lowW i w0 w1 w2 w3 w4 w5 w6 = BitVec.ofNat 32 (n / 256) := floor_first (coord_lt i) w0 w1 w2 w3 w4 w5 w6

theorem t3_trips {lo : ℕ} (hlo : lo ≤ (i 0).val) (h : lowW i w0 w1 w2 w3 w4 w5 w6 = BitVec.ofNat 32 lo) :
    (k0_t3_loop i w0 w0 w1 w1 w2 w2 w3 w3 w4 w4 w5 w5 w6 w6).trips = (i 0).val - lo := by
  rw [t3_eq, h]; exact trips_eq hlo (coord_lt i)

theorem chk1 : k0_chk1 i w0 w0 w1 w1 w2 w2 w3 w3 w4 w4 w5 w5 w6 w6 := by
  obtain ⟨n, hn, -, hlo⟩ := low_exists i w0 w1 w2 w3 w4 w5 w6
  have hle : n / 256 ≤ (i 0).val := by omega
  have hT := t3_trips i w0 w1 w2 w3 w4 w5 w6 hle hlo
  have key : ∀ k : Fin (k0_t3_loop i w0 w0 w1 w1 w2 w2 w3 w3 w4 w4 w5 w5 w6 w6).trips, ∀ {W C c : ℕ}, c + C ≤ W →
      ∀ a : Fin 2, (![rowW (lowW i w0 w1 w2 w3 w4 w5 w6) k, c] : Fin 2 → ℕ) a + (![256, C] : Fin 2 → ℕ) a ≤ (![8192, W] : Fin 2 → ℕ) a := by
    intro k W C c hc
    rw [hlo]; exact row_inb hle (coord_lt i) (by have := k.isLt; omega) hc
  have hok : (k0_t3_loop i w0 w0 w1 w1 w2 w2 w3 w3 w4 w4 w5 w5 w6 w6).OK := by rw [t3_eq, hlo]; exact ok_of hle (coord_lt i)
  have h0 := t4_trips i w0 w1 w2 w3 w4 w5 w6
  have no : Fin (k0_t4_loop i w0 w0 w1 w1 w2 w2 w3 w3 w4 w4 w5 w5 w6 w6).trips → False := fun k => by have := k.isLt; omega
  exact ⟨⟨hok,
    fun k => key k (W := 2048) (C := 128) (c := 0) (by decide),
    fun k => key k (W := 128) (C := 128) (c := 0) (by decide),
    fun k => key k (W := 2048) (C := 128) (c := 128) (by decide),
    fun k => key k (W := 2048) (C := 128) (c := 256) (by decide),
    fun k => key k (W := 2048) (C := 128) (c := 384) (by decide),
    fun k => key k (W := 2048) (C := 128) (c := 512) (by decide),
    fun k => key k (W := 2048) (C := 128) (c := 640) (by decide),
    fun k => key k (W := 2048) (C := 128) (c := 768) (by decide),
    fun k => key k (W := 2048) (C := 128) (c := 896) (by decide),
    fun k => key k (W := 2048) (C := 128) (c := 1024) (by decide),
    fun k => key k (W := 2048) (C := 128) (c := 1152) (by decide),
    fun k => key k (W := 2048) (C := 128) (c := 1280) (by decide),
    fun k => key k (W := 2048) (C := 128) (c := 1408) (by decide),
    fun k => key k (W := 2048) (C := 128) (c := 1536) (by decide),
    fun k => key k (W := 2048) (C := 128) (c := 1664) (by decide),
    fun k => key k (W := 2048) (C := 128) (c := 1792) (by decide),
    fun k => key k (W := 2048) (C := 128) (c := 1920) (by decide),
    by rw [t4_eq]; exact ok_of le_rfl (coord_lt i),
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim,
    fun k => (no k).elim⟩,
    fun k => (no k).elim,
    fun k => (no k).elim,
    fun k => (no k).elim,
    fun k => (no k).elim⟩

end Cert.KernelIdeal.Hand

end
-- ==== Proof.KernelIdealBody.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealChk
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

theorem kernelRun (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole)
    (x1 : Vec F S7 .i32) (x2 : Vec F S1 .f32) (x3 : Vec F S24x12 .f32) (x4 : Vec F S16x4 .f32) (x5 : Vec F S256x1536 .fp8e4m3) (x6 : Vec F S256x12 .f32) (x7 : Vec F S256x512 .fp8e4m3) (x8 : Vec F S256x4 .f32) (x9 : Vec F S256x64 .bf16) (x10 : Vec F S256x32 .f32) (x11 : Vec F S256x32 .f32) (x12 : Vec F S3072x1536 .fp8e4m3) (x13 : Vec F S2048x512 .fp8e4m3) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none (c : Thread nD τ) none) Set.univ (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_logits_eq_skeleton]; unfold cc0_logits_skel
  simp only [k0_part62_eq_skeleton, k0_part63_eq_skeleton]; unfold k0_part62_skel k0_part63_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  by_cases hc1 : k0_cond1 i = 1#1 <;> by_cases hc2 : k0_cond2 i = 1#1
  all_goals
    sl_exec_parts (disch := exact chk1 _ _ _ _ _ _ _ _)
    sl_step
    iapply Hk
    isplitl [H1]
    · iexists _; isplitr; swap
      · iexact H1
      · ipureintro; exact hf1
    isplitl [H2]
    · iexists _; isplitr; swap
      · iexact H2
      · ipureintro; exact hf2
    isplitl [H3]
    · iexists _; isplitr; swap
      · iexact H3
      · ipureintro; exact hf3
    isplitl [H4]
    · iexists _; isplitr; swap
      · iexact H4
      · ipureintro; exact hf4
    isplitl [H5]
    · iexists _; isplitr; swap
      · iexact H5
      · ipureintro; exact hf5
    isplitl [H6]
    · iexists _; isplitr; swap
      · iexact H6
      · ipureintro; exact hf6
    isplitl [H7]
    · iexists _; isplitr; swap
      · iexact H7
      · ipureintro; exact hf7
    isplitl [H8]
    · iexists _; isplitr; swap
      · iexact H8
      · ipureintro; exact hf8
    isplitl [H9]
    · iexists _; isplitr; swap
      · iexact H9
      · ipureintro; exact hf9
    isplitl [H10]
    · iexists _; isplitr; swap
      · iexact H10
      · ipureintro; exact hf10
    isplitl [H11]
    · iexists _; isplitr; swap
      · iexact H11
      · ipureintro; exact hf11
    isplitl [H12]
    · iexists _; isplitr; swap
      · iexact H12
      · ipureintro; exact hf12
    isplitl [H13]
    · iexists _; isplitr; swap
      · iexact H13
      · ipureintro; exact hf13
    isplitl [H14]
    · iexists _, _; isplitr; swap
      · iexact H14
      · ipureintro; rfl
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    isplitl [H18]
    · iexists _, _; isplitr; swap
      · iexact H18
      · ipureintro; rfl
    isplitl [H19]
    · iexists _, _; isplitr; swap
      · iexact H19
      · ipureintro; rfl
    isplitl [H20]
    · iexists _, _; isplitr; swap
      · iexact H20
      · ipureintro; rfl
    isplitl [H21]
    · iexists _, _; isplitr; swap
      · iexact H21
      · ipureintro; rfl
    isplitl [H22]
    · iexists _, _; isplitr; swap
      · iexact H22
      · ipureintro; rfl
    isplitl [H23]
    · iexists _, _; isplitr; swap
      · iexact H23
      · ipureintro; rfl
    isplitl [H24]
    · iexists _, _; isplitr; swap
      · iexact H24
      · ipureintro; rfl
    isplitl [H25]
    · iexists _, _; isplitr; swap
      · iexact H25
      · ipureintro; rfl
    isplitl [H26]
    · iexists _, _; isplitr; swap
      · iexact H26
      · ipureintro; rfl
    isplitl [H27]
    · iexists _, _; isplitr; swap
      · iexact H27
      · ipureintro; rfl
    isplitl [H28]
    · iexists _, _; isplitr; swap
      · iexact H28
      · ipureintro; rfl
    iexists _, _; isplitr; swap
    · iexact H29
    · ipureintro; rfl

end Cert.KernelIdeal.Hand

end
-- ==== Proof.KernelIdealLaunch.lean ====
/- The launch of the kernel's pipeline with its results forgotten: the run terminates, leaves every argument as it was and
   every semaphore counter at zero. The body is run once (`kernelRun`) at any grid point. -/
module

public import proofs.«01_k».proof.Proof.KernelIdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The class invariant, conjunct by conjunct. -/
theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r)) := by
  unfold Pipeline.ΦA
  rw [scopedRest0_eq]; simp only [owns_whole]; try rfl

/-- The results are forgotten. -/
def forgets0 : Fin 17 → Bool := fun w => decide (13 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨n + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, after0, before1, after1, before2, after2, before3, after3, before4, after4, before5, after5, before6, after6, before7, after7, before8, after8, before9, after9, before10, after10, before11, after11, before12, after12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (kernelRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, H3, H4, H5, H6, H7, H8, H9, H10, H11, H12, H13, H14, H15, H16, S0, S1, S2, S3, S4, S5, S6, S7, S8, S9, S10, S11⟩
  isplitl [S0 S1 S2 S3 S4 S5 S6 S7 S8 S9 S10 S11 Hg]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input window's array is as the region found it. -/
theorem arrIn {r : PUnit × MemSt nD τ sig (Elt F)}
    (h : Pipeline.RDat.FramePost (cfgs 0) (fun c => (dats (F := F) m 0 c).toRForget forgets0) (V m) r) (c : Dev nD)
    (w : Fin cfg0.W) (hin : (cfg0.win w).isOut = false) :
    r.2.mem ((spec0 w).arr.view.loc (c.tc : Thread nD τ)) = V m c (Pipeline.arrRef spec0 w) :=
  (Pipeline.RDat.FramePost.arr_in h c w hin).trans (A_eq m c w)

/-- Every argument is as it was and every semaphore counter at zero. -/
theorem frame' :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun _ hh => ⟨fun c => have h := hh.1; ⟨(arrIn m hh.1 c 4 rfl).trans (V_main_arg0 m c),
      (arrIn m hh.1 c 5 rfl).trans (V_main_arg1 m c),
      (arrIn m hh.1 c 6 rfl).trans (V_main_arg2 m c),
      (arrIn m hh.1 c 7 rfl).trans (V_main_arg3 m c),
      (arrIn m hh.1 c 8 rfl).trans (V_main_arg4 m c),
      (arrIn m hh.1 c 0 rfl).trans (V_main_arg5 m c),
      (arrIn m hh.1 c 9 rfl).trans (V_main_arg6 m c),
      (arrIn m hh.1 c 10 rfl).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (arrIn m hh.1 c 11 rfl).trans (V_main_arg10 m c),
      (arrIn m hh.1 c 2 rfl).trans (V_main_arg11 m c),
      (arrIn m hh.1 c 12 rfl).trans (V_main_arg12 m c),
      (arrIn m hh.1 c 3 rfl).trans (V_main_arg13 m c),
      ((h c).2 main_arg14 (Pipeline.mem_restRefs_of main_arg14 (by decide) (by decide))).trans (V_main_arg14 m c)⟩, hh.2⟩) (run_main m ρ)

end Cert.KernelIdeal.Hand

end
-- ==== Proof.Spec.lean ====
module

public import Idealize.ShloMosaic.Lib.Pointwise

@[expose] public section

noncomputable section

/-! What the attention logits mean over the extended reals, with natural-number indices. -/
namespace Cert.Spec

/-- The arguments of the logits call, read at natural-number indices. -/
structure Inp where
  cu : ℕ → BitVec 32
  tau : EReal
  wqbS : ℕ → ℕ → EReal
  wkbS : ℕ → ℕ → EReal
  cqC : ℕ → ℕ → EReal
  cqS : ℕ → ℕ → EReal
  ckvC : ℕ → ℕ → EReal
  ckvS : ℕ → ℕ → EReal
  rope : ℕ → ℕ → EReal
  cos : ℕ → ℕ → EReal
  sin : ℕ → ℕ → EReal
  wqbC : ℕ → ℕ → EReal
  wkbC : ℕ → ℕ → EReal

variable (P : Inp)

/-- The dequantised query weights, key weights, query latents and key latents. -/
def WQ (r c : ℕ) : EReal := P.wqbC r c * P.wqbS (r / 128) (c / 128)
def WK (r c : ℕ) : EReal := P.wkbC r c * P.wkbS (r / 128) (c / 128)
def CQ (t c : ℕ) : EReal := P.cqC t c * P.cqS t (c / 128)
def CKV (t c : ℕ) : EReal := P.ckvC t c * P.ckvS t (c / 128)

/-- Key `n` of token `t`. -/
def KEY (t n : ℕ) : EReal := ∑ c : Fin 512, CKV P t c.val * WK P n c.val

/-- Query column `d` of head `h` of token `q`, before the rotation. -/
def QN (h d q : ℕ) : EReal := ∑ c : Fin 1536, WQ P (192 * h + d) c.val * CQ P q c.val

/-- The rotated part of the query. -/
def QR (h e q : ℕ) : EReal :=
  if e % 2 = 0 then QN P h (128 + 2 * (e / 2)) q * P.cos q (e / 2) - QN P h (129 + 2 * (e / 2)) q * P.sin q (e / 2)
  else QN P h (128 + 2 * (e / 2)) q * P.sin q (e / 2) + QN P h (129 + 2 * (e / 2)) q * P.cos q (e / 2)

/-- Sequence `s` of the seven begins at `lo s` and ends before `hi s`; there is no eighth. -/
def lo (s : ℕ) : BitVec 32 :=
  if s = 6 then P.cu 6 else if s = 5 then P.cu 5 else if s = 4 then P.cu 4 else if s = 3 then P.cu 3
    else if s = 2 then P.cu 2 else if s = 1 then P.cu 1 else if s = 0 then P.cu 0 else 8193#32
def hi (s : ℕ) : BitVec 32 :=
  if s = 6 then 8193#32 else if s = 5 then P.cu 6 else if s = 4 then P.cu 5 else if s = 3 then P.cu 4
    else if s = 2 then P.cu 3 else if s = 1 then P.cu 2 else if s = 0 then P.cu 1 else 0#32

/-- Token `t` lies in sequence `s`. -/
def same (t s : ℕ) : Prop := (lo P s).toInt ≤ (BitVec.ofNat 32 t).toInt ∧ (BitVec.ofNat 32 t).toInt < (hi P s).toInt

open Classical in
/-- The features of token `t`: its rotary key and the one-hot code of its sequence. -/
def FEAT (t f : ℕ) : EReal := if f < 64 then P.rope t f else if same P t (f - 64) then 1 else 0

open Classical in
/-- The query's penalty of sequence `s`. -/
def PEN (s q : ℕ) : EReal := if same P q s ∨ 7 ≤ s then 0 else ⊥

def QT (h f q : ℕ) : EReal := if f < 128 then QN P h f q else if f < 192 then QR P h (f - 128) q else PEN P (f - 192) q

/-- The score of key `k` for query `q` in head `h`, as the kernel sums it. -/
def score (h k q : ℕ) : EReal :=
  ∑ f : Fin 128, KEY P k (128 * h + f.val) * QT P h f.val q + ∑ f : Fin 128, FEAT P k f.val * QT P h (128 + f.val) q

/-- The softmax scale and the floor under the maximum. -/
def SCALE : EReal := Idealize.ShloMosaic.Ideal.ofBits .f32 1033096506#32
def FLOOR : EReal := Idealize.ShloMosaic.Ideal.ofBits .f32 897988541#32

/-- The greatest score of query `q` in head `h`, and the same scaled. -/
def TOP (h q : ℕ) : EReal := ⨆ k : Fin (q + 1), score P h k.val q
def ROW (h q : ℕ) : EReal := TOP P h q * SCALE

/-- A head's greatest scaled score, and its clipping factor. -/
def SMAX (h : ℕ) : EReal := ⨆ q : Fin 8192, ROW P h q.val
def GAM (h : ℕ) : EReal := min 1 (Idealize.ShloMosaic.Ideal.div P.tau (max (SMAX P h) FLOOR))

/-- The statistics handed on: the factor's square root and the factor, padded with zeros. -/
def STATS (r l : ℕ) : EReal :=
  if l < 16 then (if r < 1 then Idealize.ShloMosaic.Ideal.sqrt (GAM P l) else GAM P l) else 0

end Cert.Spec
-- ==== Proof.Pay.lean ====
module

public import proofs.«01_k».proof.Proof.Gen.KernelIdeal.Skeleton
public import proofs.«01_k».proof.Proof.Spec
public import Idealize.ShloMosaic.Lib.Pointwise
public import Idealize.ShloMosaic.Lib.Pipeline.FrameBody

@[expose] public section

set_option maxRecDepth 16384

noncomputable section

namespace Cert.KernelIdeal.Val

open Cert.KernelIdeal Cert.KernelIdeal.Gen
open Idealize.ShloMosaic

/-- A matrix read at natural-number indices. -/
def At2 {R C : ℕ} (X : (⟨2, ![R, C]⟩ : Shape).Idx → EReal) (g : ℕ → ℕ → EReal) : Prop :=
  ∀ (r : Fin R) (c : Fin C), X (ix2 r c) = g r.val c.val
/-- Its first `n` rows so read. -/
def AtR {R C : ℕ} (n : ℕ) (X : (⟨2, ![R, C]⟩ : Shape).Idx → EReal) (g : ℕ → ℕ → EReal) : Prop :=
  ∀ (r : Fin R) (c : Fin C), r.val < n → X (ix2 r c) = g r.val c.val
/-- A box read at natural-number indices. -/
def At3 {A B C : ℕ} (X : (⟨3, ![A, B, C]⟩ : Shape).Idx → EReal) (g : ℕ → ℕ → ℕ → EReal) : Prop :=
  ∀ (a : Fin A) (b : Fin B) (c : Fin C), X (ix3 a b c) = g a.val b.val c.val

open Spec
variable (P : Inp)

theorem cq0_at {v4 : Vec Ideal S256x12 .f32} {w : Vec Ideal S256x128 .fp8e4m3} {g s} (h4 : At2 (R := 256) (C := 12) v4 s) (h : At2 (R := 256) (C := 128) w g) :
    At2 (R := 256) (C := 128) (k0_pay118 v4 w) (fun r c => g r c * s r 0) := by
  intro r c
  pointwise [k0_pay118, k0_pay117]
  rw [h, h4]; rfl
theorem cq1_at {v4 : Vec Ideal S256x12 .f32} {w : Vec Ideal S256x128 .fp8e4m3} {g s} (h4 : At2 (R := 256) (C := 12) v4 s) (h : At2 (R := 256) (C := 128) w g) :
    At2 (R := 256) (C := 128) (k0_pay119 v4 w) (fun r c => g r c * s r 1) := by
  intro r c
  pointwise [k0_pay119, k0_pay117]
  rw [h, h4]; rfl
theorem cq2_at {v4 : Vec Ideal S256x12 .f32} {w : Vec Ideal S256x128 .fp8e4m3} {g s} (h4 : At2 (R := 256) (C := 12) v4 s) (h : At2 (R := 256) (C := 128) w g) :
    At2 (R := 256) (C := 128) (k0_pay120 v4 w) (fun r c => g r c * s r 2) := by
  intro r c
  pointwise [k0_pay120, k0_pay117]
  rw [h, h4]; rfl
theorem cq3_at {v4 : Vec Ideal S256x12 .f32} {w : Vec Ideal S256x128 .fp8e4m3} {g s} (h4 : At2 (R := 256) (C := 12) v4 s) (h : At2 (R := 256) (C := 128) w g) :
    At2 (R := 256) (C := 128) (k0_pay122 (k0_pay121 v4 w)) (fun r c => g r c * s r 3) := by
  intro r c
  pointwise [k0_pay122, k0_pay121, k0_pay117]
  rw [h, h4]; rfl
theorem cq4_at {v4 : Vec Ideal S256x12 .f32} {w : Vec Ideal S256x128 .fp8e4m3} {g s} (h4 : At2 (R := 256) (C := 12) v4 s) (h : At2 (R := 256) (C := 128) w g) :
    At2 (R := 256) (C := 128) (k0_pay123 (k0_pay117 v4) w) (fun r c => g r c * s r 4) := by
  intro r c
  pointwise [k0_pay123, k0_pay117]
  rw [h, h4]; rfl
theorem cq5_at {v4 : Vec Ideal S256x12 .f32} {w : Vec Ideal S256x128 .fp8e4m3} {g s} (h4 : At2 (R := 256) (C := 12) v4 s) (h : At2 (R := 256) (C := 128) w g) :
    At2 (R := 256) (C := 128) (k0_pay124 (k0_pay117 v4) w) (fun r c => g r c * s r 5) := by
  intro r c
  pointwise [k0_pay124, k0_pay117]
  rw [h, h4]; rfl
theorem cq6_at {v4 : Vec Ideal S256x12 .f32} {w : Vec Ideal S256x128 .fp8e4m3} {g s} (h4 : At2 (R := 256) (C := 12) v4 s) (h : At2 (R := 256) (C := 128) w g) :
    At2 (R := 256) (C := 128) (k0_pay125 (k0_pay117 v4) w) (fun r c => g r c * s r 6) := by
  intro r c
  pointwise [k0_pay125, k0_pay117]
  rw [h, h4]; rfl
theorem cq7_at {v4 : Vec Ideal S256x12 .f32} {w : Vec Ideal S256x128 .fp8e4m3} {g s} (h4 : At2 (R := 256) (C := 12) v4 s) (h : At2 (R := 256) (C := 128) w g) :
    At2 (R := 256) (C := 128) (k0_pay126 (k0_pay117 v4) w) (fun r c => g r c * s r 7) := by
  intro r c
  pointwise [k0_pay126, k0_pay117]
  rw [h, h4]; rfl
theorem cq8_at {v4 : Vec Ideal S256x12 .f32} {w : Vec Ideal S256x128 .fp8e4m3} {g s} (h4 : At2 (R := 256) (C := 12) v4 s) (h : At2 (R := 256) (C := 128) w g) :
    At2 (R := 256) (C := 128) (k0_pay127 (k0_pay117 v4) w) (fun r c => g r c * s r 8) := by
  intro r c
  pointwise [k0_pay127, k0_pay117]
  rw [h, h4]; rfl
theorem cq9_at {v4 : Vec Ideal S256x12 .f32} {w : Vec Ideal S256x128 .fp8e4m3} {g s} (h4 : At2 (R := 256) (C := 12) v4 s) (h : At2 (R := 256) (C := 128) w g) :
    At2 (R := 256) (C := 128) (k0_pay128 (k0_pay117 v4) w) (fun r c => g r c * s r 9) := by
  intro r c
  pointwise [k0_pay128, k0_pay117]
  rw [h, h4]; rfl
theorem cq10_at {v4 : Vec Ideal S256x12 .f32} {w : Vec Ideal S256x128 .fp8e4m3} {g s} (h4 : At2 (R := 256) (C := 12) v4 s) (h : At2 (R := 256) (C := 128) w g) :
    At2 (R := 256) (C := 128) (k0_pay129 (k0_pay117 v4) w) (fun r c => g r c * s r 10) := by
  intro r c
  pointwise [k0_pay129, k0_pay117]
  rw [h, h4]; rfl
theorem cq11_at {v4 : Vec Ideal S256x12 .f32} {w : Vec Ideal S256x128 .fp8e4m3} {g s} (h4 : At2 (R := 256) (C := 12) v4 s) (h : At2 (R := 256) (C := 128) w g) :
    At2 (R := 256) (C := 128) (k0_pay130 (k0_pay117 v4) w) (fun r c => g r c * s r 11) := by
  intro r c
  pointwise [k0_pay130, k0_pay117]
  rw [h, h4]; rfl
theorem ckv0_at {v4 : Vec Ideal S256x4 .f32} {w : Vec Ideal S256x128 .fp8e4m3} {g s} (h4 : At2 (R := 256) (C := 4) v4 s) (h : At2 (R := 256) (C := 128) w g) :
    At2 (R := 256) (C := 128) (k0_pay133 (k0_pay132 v4 w)) (fun r c => g r c * s r 0) := by
  intro r c
  pointwise [k0_pay133, k0_pay132, k0_pay131]
  rw [h, h4]; rfl
theorem ckv1_at {v4 : Vec Ideal S256x4 .f32} {w : Vec Ideal S256x128 .fp8e4m3} {g s} (h4 : At2 (R := 256) (C := 4) v4 s) (h : At2 (R := 256) (C := 128) w g) :
    At2 (R := 256) (C := 128) (k0_pay134 (k0_pay131 v4) w) (fun r c => g r c * s r 1) := by
  intro r c
  pointwise [k0_pay134, k0_pay131]
  rw [h, h4]; rfl
theorem ckv2_at {v4 : Vec Ideal S256x4 .f32} {w : Vec Ideal S256x128 .fp8e4m3} {g s} (h4 : At2 (R := 256) (C := 4) v4 s) (h : At2 (R := 256) (C := 128) w g) :
    At2 (R := 256) (C := 128) (k0_pay135 (k0_pay131 v4) w) (fun r c => g r c * s r 2) := by
  intro r c
  pointwise [k0_pay135, k0_pay131]
  rw [h, h4]; rfl
theorem ckv3_at {v4 : Vec Ideal S256x4 .f32} {w : Vec Ideal S256x128 .fp8e4m3} {g s} (h4 : At2 (R := 256) (C := 4) v4 s) (h : At2 (R := 256) (C := 128) w g) :
    At2 (R := 256) (C := 128) (k0_pay136 (k0_pay131 v4) w) (fun r c => g r c * s r 3) := by
  intro r c
  pointwise [k0_pay136, k0_pay131]
  rw [h, h4]; rfl
theorem pay8_at {w : Vec Ideal S128x128 .fp8e4m3} {s : Elt Ideal .f32} {g} (h : At2 (R := 128) (C := 128) w g) :
    At2 (R := 128) (C := 128) (k0_pay8 w s) (fun r c => g r c * s) := by
  intro r c
  pointwise [k0_pay8]
  rw [h r c]
theorem keys_at {a : Vec Ideal S256x512 .bf16} {b : Vec Ideal S2048x512 .bf16} {g s} (h4 : At2 (R := 256) (C := 512) a g) (h : At2 (R := 2048) (C := 512) b s) :
    At2 (R := 256) (C := 2048) (k0_pay137 a b) (fun r n => ∑ c : Fin 512, g r c.val * s n c.val) := by
  intro r c
  pointwise [k0_pay137]
  simp only [h4 _ _, h _ _]
theorem nope_at {a : Vec Ideal S256x1536 .bf16} {b : Vec Ideal S128x1536 .bf16} {g s} (h4 : At2 (R := 256) (C := 1536) a g) (h : At2 (R := 128) (C := 1536) b s) :
    At3 (A := 1) (B := 128) (C := 256) (k0_pay153 a b) (fun _ d q => ∑ c : Fin 1536, s d c.val * g q c.val) := by
  intro z d q
  pointwise [k0_pay153]
  simp only [h4 _ _, h _ _]
theorem rope_at {x : Vec Ideal S256x1536 .bf16} {co si : FVec Ideal S32x256 .f32} {we wo : Vec Ideal S32x1536 .bf16} {g cg sg eg og} (h : At2 (R := 256) (C := 1536) x g)
   (hc : At2 (R := 32) (C := 256) co cg) (hs : At2 (R := 32) (C := 256) si sg) (he : At2 (R := 32) (C := 1536) we eg) (ho : At2 (R := 32) (C := 1536) wo og) :
    At3 (A := 1) (B := 64) (C := 256) (k0_pay161 x co si we wo) (fun _ d q => if d % 2 = 0 then (∑ c : Fin 1536, eg (d/2) c.val * g q c.val) * cg (d/2) q - (∑ c : Fin 1536, og (d/2) c.val * g q c.val) * sg (d/2) q
       else (∑ c : Fin 1536, eg (d/2) c.val * g q c.val) * sg (d/2) q + (∑ c : Fin 1536, og (d/2) c.val * g q c.val) * cg (d/2) q) := by
  intro z d q
  pointwise [k0_pay161]
  simp only [h _ _, hc _ _, hs _ _, he _ _, ho _ _]
theorem pen3_at {x : FVec Ideal S64x256 .bf16} {g} (h : At2 (R := 64) (C := 256) x g) :
    At3 (A := 1) (B := 64) (C := 256) (k0_pay159 x) (fun _ d q => g d q) := by
  intro z d q
  pointwise [k0_pay159]
  rw [h]
theorem tr_at {x : Vec Ideal S256x32 .f32} {g} (h : At2 (R := 256) (C := 32) x g) :
    At2 (R := 32) (C := 256) (k0_pay144 x) (fun d q => g q d) := by
  intro d q
  pointwise [k0_pay144]
  rw [h]
theorem copy_at {a : Vec Ideal S128x1536 .bf16} {g} (h4 : At2 (R := 128) (C := 1536) a g) :
    At2 (R := 128) (C := 1536) (k0_pay51 a) g := by
  intro z q
  pointwise [k0_pay51]
  rw [h4]
theorem even_at {a : Vec Ideal S64x1536 .bf16} {g} (h4 : At2 (R := 64) (C := 1536) a g) :
    At2 (R := 32) (C := 1536) (k0_pay54 (k0_pay52 a)) (fun d c => g (2 * d) c) := by
  intro z q
  pointwise [k0_pay52, k0_pay54]
  rw [h4]
theorem odd_at {a : Vec Ideal S64x1536 .bf16} {g} (h4 : At2 (R := 64) (C := 1536) a g) :
    At2 (R := 32) (C := 1536) (k0_pay55 (k0_pay53 a)) (fun d c => g (2 * d + 1) c) := by
  intro z q
  pointwise [k0_pay53, k0_pay55]
  rw [h4]
theorem ninf : Ideal.ofBits FTy.f32 4286578688#32 = ⊥ := by
  simp [Ideal.ofBits, Ideal.ieee]
theorem step_at {b : Vec Ideal S1x8x256 .f32} {k f : Vec Ideal S256x128 .bf16} {q : Vec Ideal S1x256x256 .bf16} {kg fg qg}
   (hk : At2 (R := 256) (C := 128) k kg)(hf : At2 (R := 256) (C := 128) f fg) (hq : At3 (A := 1) (B := 256) (C := 256) q qg)
   (s : Fin 8) (c : Fin 256) (x : EReal): k0_pay62 b k f q (ix3 0 s c) ≤ x ↔ b (ix3 0 s c) ≤ x ∧ ∀ r : Fin 32, (∑ f : Fin 128, kg (r * 8 + s) f.val * qg 0 f c + ∑ f : Fin 128, fg (r*8+s) f.val * qg 0 (128+f) c) ≤ x := by
  pointwise [k0_pay62]
  simp only [hk _ _, hf _ _, hq _ _ _, max_le_iff, Finset.fold_max_le, ninf, bot_le, true_and, Finset.mem_univ, forall_true_left]
  rfl
theorem sel_eq {α : Type} (c k : ℕ) (hc : c < 4294967296) (hk : k < 4294967296) (x y : α) :
    Scalar.select (IntOp.cmpi CmpIPredicate.eq (BitVec.ofNat 32 c) (BitVec.ofNat 32 k)) x y = if c = k then x else y := by
  unfold Scalar.select IntOp.cmpi
  by_cases h : c = k
  · subst h; simp
  · have : BitVec.ofNat 32 c ≠ BitVec.ofNat 32 k := by
      intro e; apply h
      have := congrArg BitVec.toNat e
      simp only [BitVec.toNat_ofNat] at this
      omega
    have hb : (BitVec.ofNat 32 c == BitVec.ofNat 32 k) = false := by simpa using this
    simp [hb, h]
theorem sel0 {α : Type} (c : ℕ) (hc : c < 4294967296) (x y : α) :
    Scalar.select (IntOp.cmpi CmpIPredicate.eq (BitVec.ofNat 32 c) 0#32) x y = if c = 0 then x else y := sel_eq c 0 hc (by decide) x y
theorem sel1 {α : Type} (c : ℕ) (hc : c < 4294967296) (x y : α) :
    Scalar.select (IntOp.cmpi CmpIPredicate.eq (BitVec.ofNat 32 c) 1#32) x y = if c = 1 then x else y := sel_eq c 1 hc (by decide) x y
theorem sel2 {α : Type} (c : ℕ) (hc : c < 4294967296) (x y : α) :
    Scalar.select (IntOp.cmpi CmpIPredicate.eq (BitVec.ofNat 32 c) 2#32) x y = if c = 2 then x else y := sel_eq c 2 hc (by decide) x y
theorem sel3 {α : Type} (c : ℕ) (hc : c < 4294967296) (x y : α) :
    Scalar.select (IntOp.cmpi CmpIPredicate.eq (BitVec.ofNat 32 c) 3#32) x y = if c = 3 then x else y := sel_eq c 3 hc (by decide) x y
theorem sel4 {α : Type} (c : ℕ) (hc : c < 4294967296) (x y : α) :
    Scalar.select (IntOp.cmpi CmpIPredicate.eq (BitVec.ofNat 32 c) 4#32) x y = if c = 4 then x else y := sel_eq c 4 hc (by decide) x y
theorem sel5 {α : Type} (c : ℕ) (hc : c < 4294967296) (x y : α) :
    Scalar.select (IntOp.cmpi CmpIPredicate.eq (BitVec.ofNat 32 c) 5#32) x y = if c = 5 then x else y := sel_eq c 5 hc (by decide) x y
theorem sel6 {α : Type} (c : ℕ) (hc : c < 4294967296) (x y : α) :
    Scalar.select (IntOp.cmpi CmpIPredicate.eq (BitVec.ofNat 32 c) 6#32) x y = if c = 6 then x else y := sel_eq c 6 hc (by decide) x y
theorem toInt_small (n : ℕ) (h : n < 2147483648) : (BitVec.ofNat 32 n).toInt = n := by
  rw [BitVec.toInt_eq_toNat_cond, BitVec.toNat_ofNat]
  have : n % 2 ^ 32 = n := Nat.mod_eq_of_lt (by omega)
  rw [this, if_pos (by omega)]
theorem sel_sle {α : Type} (c k : ℕ) (hc : c < 2147483648) (hk : k < 2147483648) (x y : α) :
    Scalar.select (IntOp.cmpi CmpIPredicate.sle (BitVec.ofNat 32 c) (BitVec.ofNat 32 k)) x y = if c ≤ k then x else y := by
  unfold Scalar.select IntOp.cmpi
  simp only [BitVec.sle, toInt_small c hc, toInt_small k hk]
  by_cases h : c ≤ k <;> simp [h]
theorem sitofp_bit (b : BitVec 1) : (FloatOps.sitofp (F := Ideal) FTy.f32 (BitVec.setWidth 32 b)) = if b = 1#1 then (1 : EReal) else 0 := by
  rcases BitVec.eq_zero_or_eq_one b with rfl | rfl
  · show ((((BitVec.setWidth 32 (0#1)).toInt : ℝ)) : EReal) = _
    simp
  · show ((((BitVec.setWidth 32 (1#1)).toInt : ℝ)) : EReal) = _
    simp
theorem bits_same (t s : ℕ) :
    IntOp.andi (IntOp.cmpi CmpIPredicate.sge (BitVec.ofNat 32 t) (lo P s)) (IntOp.cmpi CmpIPredicate.slt (BitVec.ofNat 32 t) (hi P s)) = 1#1 ↔ same P t s := by
  unfold IntOp.andi IntOp.cmpi same
  simp only [BitVec.sle, BitVec.slt]
  by_cases h1 : (lo P s).toInt ≤ (BitVec.ofNat 32 t).toInt <;> by_cases h2 : (BitVec.ofNat 32 t).toInt < (hi P s).toInt <;> simp [h1, h2]
theorem diag_at {k f : Vec Ideal S256x128 .bf16} {q : Vec Ideal S1x256x256 .bf16} {kg fg qg}
   (hk : At2 (R := 256) (C := 128) k kg)(hf : At2 (R := 256) (C := 128) f fg) (hq : At3 (A := 1) (B := 256) (C := 256) q qg)
   (s : Fin 8) (c : Fin 256) (x : EReal): k0_pay219 k0_pay217 (k0_pay218 k f) q (ix3 0 s c) ≤ x ↔
     ∀ r : Fin 32, r.val * 8 + s.val ≤ c.val → (∑ f : Fin 128, kg (r * 8 + s) f.val * qg 0 f c + ∑ f : Fin 128, fg (r*8+s) f.val * qg 0 (128+f) c) ≤ x := by
  pointwise [k0_pay219, k0_pay217, k0_pay218]
  simp only [hk _ _, hf _ _, hq _ _ _, max_le_iff, Finset.fold_max_le, ninf, bot_le, true_and, Finset.mem_univ, forall_true_left]
  refine forall_congr' fun r => ?_
  rw [sel_sle _ _ (by omega) (by omega)]
  by_cases h : r.val * 8 + s.val ≤ c.val <;> simp [h]
theorem onehot_at (T : ℕ) : At2 (R := 256) (C := 64)
   (k0_pay142 (F := Ideal) (k0_pay138 (BitVec.ofNat 32 T)) (iota .tc S1x64 32 [1] iota_S1x64_d1_w32) (k0_pay139 (F := Ideal) (P.cu 0) (P.cu 1) (P.cu 2)) (k0_pay140 (F := Ideal) (P.cu 1) (P.cu 2) (P.cu 3)) k0_pay141 (P.cu 3) (P.cu 4) (P.cu 4) (P.cu 5) (P.cu 5) (P.cu 6) (P.cu 6))
   (fun r s => open Classical in if same P (T + r) s then 1 else 0) := by
  intro r c
  have hc : c.val < 4294967296 := by omega
  pointwise [k0_pay142, k0_pay138, k0_pay139, k0_pay140, k0_pay141]
  have e93 : IntOp.addi (IntOp.addi 0#32 8192#32) 1#32 = 8193#32 := by decide
  simp only [e93, sitofp_bit, sel0 c.val hc, sel1 c.val hc, sel2 c.val hc, sel3 c.val hc, sel4 c.val hc, sel5 c.val hc, sel6 c.val hc]
  have e := bits_same P (T + r.val) c.val
  rw [BitVec.ofNat_add] at e
  unfold lo hi at e
  classical
  exact if_congr e rfl rfl
theorem feat_at {a : FVec Ideal S256x64 .f32} {b : Vec Ideal S256x64 .bf16} {f g} (h : At2 (R := 256) (C := 64) a g) (h' : At2 (R := 256) (C := 64) b f) : At2 (R := 256) (C := 128)
   (k0_pay143 a b) (fun r c => if c < 64 then f r c else g r (c - 64)) := by
  intro r c
  pointwise [k0_pay143]
  split <;> simp only [h _ _, h' _ _]
theorem pen_at (T : ℕ) : At2 (R := 64) (C := 256)
   (k0_pay152 (F := Ideal) (k0_pay146 (BitVec.ofNat 32 T)) (iota .tc S64x1 32 [0] iota_S64x1_d0_w32)
     (k0_pay150 (F := Ideal) (iota .tc S64x1 32 [0] iota_S64x1_d0_w32) (k0_pay148 (F := Ideal) (P.cu 0) (P.cu 1)) (P.cu 2) (P.cu 3) (P.cu 4) (P.cu 5))
     (k0_pay151 (F := Ideal) (iota .tc S64x1 32 [0] iota_S64x1_d0_w32) (k0_pay147 (F := Ideal) (P.cu 1)) k0_pay149 (P.cu 2) (P.cu 3) (P.cu 4) (P.cu 5) (P.cu 6)) (P.cu 6))
   (fun s q => PEN P s (T + q)) := by
  intro s q
  have hc : s.val < 4294967296 := by omega
  pointwise [k0_pay152, k0_pay146, k0_pay150, k0_pay148, k0_pay151, k0_pay147, k0_pay149]
  have e93 : IntOp.addi (IntOp.addi 0#32 8192#32) 1#32 = 8193#32 := by decide
  simp only [e93, sel0 s.val hc, sel1 s.val hc, sel2 s.val hc, sel3 s.val hc, sel4 s.val hc, sel5 s.val hc, sel6 s.val hc]
  have e := bits_same P (T + q.val) s.val
  rw [BitVec.ofNat_add] at e
  unfold lo hi at e
  have e7 : IntOp.cmpi CmpIPredicate.sge (BitVec.ofNat 32 s.val) 7#32 = 1#1 ↔ 7 ≤ s.val := by
    unfold IntOp.cmpi
    have h7 : (7#32).toInt = 7 := by decide
    simp only [BitVec.sle, toInt_small s.val (by omega), h7]
    by_cases h : 7 ≤ s.val
    · have : (7 : Int) ≤ s.val := by omega
      simp [h, this]
    · have : ¬ (7 : Int) ≤ s.val := by omega
      simp [h, this]
  have em : (Named.named κ "mask" 4286071728#32 : Ideal .f32) = (⊥ : EReal) := rfl
  rw [em]
  unfold Scalar.select PEN
  classical
  refine if_congr ?_ rfl rfl
  have key : ∀ a b : BitVec 1, (IntOp.ori a b = 1) ↔ (a = 1#1 ∨ b = 1#1) := by decide
  exact (key _ _).trans (or_congr e e7)
theorem onehot_at' {a0 a1 a2 a3 a4 a5 a6 a7 a8 a9 a10 a11 a12 : BitVec 32} (T : ℕ) (e0 : a0 = P.cu 0) (e1 : a1 = P.cu 1) (e2 : a2 = P.cu 2) (e3 : a3 = P.cu 1) (e4 : a4 = P.cu 2) (e5 : a5 = P.cu 3) (e6 : a6 = P.cu 3) (e7 : a7 = P.cu 4) (e8 : a8 = P.cu 4) (e9 : a9 = P.cu 5) (e10 : a10 = P.cu 5) (e11 : a11 = P.cu 6) (e12 : a12 = P.cu 6) : At2 (R := 256) (C := 64)
   (k0_pay142 (F := Ideal) (k0_pay138 (BitVec.ofNat 32 T)) (iota .tc S1x64 32 [1] iota_S1x64_d1_w32) (k0_pay139 (F := Ideal) a0 a1 a2) (k0_pay140 (F := Ideal) a3 a4 a5) k0_pay141 a6 a7 a8 a9 a10 a11 a12) (fun r s => open Classical in if same P (T + r) s then 1 else 0) := by
  rw [e0]; rw [e1]; rw [e2]; rw [e3]; rw [e4]; rw [e5]; rw [e6]; rw [e7]; rw [e8]; rw [e9]; rw [e10]; rw [e11]; rw [e12]
  exact onehot_at P T
theorem pen_at' {a0 a1 a2 a3 a4 a5 a6 a7 a8 a9 a10 a11 a12 : BitVec 32} (T : ℕ) (e0 : a0 = P.cu 0) (e1 : a1 = P.cu 1) (e2 : a2 = P.cu 2) (e3 : a3 = P.cu 3) (e4 : a4 = P.cu 4) (e5 : a5 = P.cu 5) (e6 : a6 = P.cu 1) (e7 : a7 = P.cu 2) (e8 : a8 = P.cu 3) (e9 : a9 = P.cu 4) (e10 : a10 = P.cu 5) (e11 : a11 = P.cu 6) (e12 : a12 = P.cu 6) : At2 (R := 64) (C := 256)
   (k0_pay152 (F := Ideal) (k0_pay146 (BitVec.ofNat 32 T)) (iota .tc S64x1 32 [0] iota_S64x1_d0_w32) (k0_pay150 (F := Ideal) (iota .tc S64x1 32 [0] iota_S64x1_d0_w32) (k0_pay148 (F := Ideal) a0 a1) a2 a3 a4 a5) (k0_pay151 (F := Ideal) (iota .tc S64x1 32 [0] iota_S64x1_d0_w32) (k0_pay147 (F := Ideal) a6) k0_pay149 a7 a8 a9 a10 a11) a12) (fun s q => PEN P s (T + q)) := by
  rw [e0]; rw [e1]; rw [e2]; rw [e3]; rw [e4]; rw [e5]; rw [e6]; rw [e7]; rw [e8]; rw [e9]; rw [e10]; rw [e11]; rw [e12]
  exact pen_at P T
theorem run0_at : At2 (R := 16) (C := 256) (k0_pay116 (F := Ideal)) (fun _ _ => ⊥) := by
  intro r c
  pointwise [k0_pay116]
  rw [ninf]
theorem diag_sum (f : Fin 16 → EReal) (n : ℕ) (hn : n < 128) :
    (∑ x : Fin 16, Scalar.select (IntOp.cmpi CmpIPredicate.eq (BitVec.ofNat 32 x.val) (BitVec.ofNat 32 n)) (f x) 0) = if h : n < 16 then f ⟨n, h⟩ else 0 := by
  have e : ∀ x : Fin 16, Scalar.select (IntOp.cmpi CmpIPredicate.eq (BitVec.ofNat 32 x.val) (BitVec.ofNat 32 n)) (f x) 0 = if x.val = n then f x else 0 :=
    fun x => sel_eq _ _ (by omega) (by omega) _ _
  simp only [e]
  split
  · rename_i h
    rw [Finset.sum_eq_single ⟨n, h⟩]
    · simp
    · intro b _ hb
      rw [if_neg]
      intro hh; exact hb (Fin.ext hh)
    · intro hh; exact absurd (Finset.mem_univ _) hh
  · exact Finset.sum_eq_zero fun x _ => by rw [if_neg]; omega
/-- The running maximum after the last tile. -/
def RunAt (t : ℕ) (X : Vec Ideal S16x256 .f32) : Prop :=
  ∀ (h : Fin 16) (q : Fin 256) (x : EReal), X (ix2 h q) ≤ x ↔ ∀ j < t, ROW P h.val (256 * j + q.val) ≤ x
variable {P}
theorem runmax {X : Vec Ideal S16x256 .f32} (hX : RunAt P 32 X) (h : Fin 16) :
    (Finset.fold max (Ideal.ofBits FTy.f32 4286578688#32) (fun q : Fin 256 => X (ix2 h q)) Finset.univ) = SMAX P h.val := by
  refine eq_of_forall_ge_iff fun x => ?_
  have hX' := fun q : Fin 256 => hX h q x
  simp only [Finset.fold_max_le, ninf, bot_le, true_and, Finset.mem_univ, forall_true_left, hX', SMAX, iSup_le_iff]
  constructor
  · intro H q
    have := H ⟨q.val % 256, by omega⟩ (q.val / 256) (by omega)
    simpa only [Nat.div_add_mod] using this
  · intro H q j hj
    exact H ⟨256 * j + q.val, by omega⟩
theorem smax_at {X : Vec Ideal S16x256 .f32} (hX : RunAt P 32 X) (z : Fin 1) (h : Fin 16) : k0_pay5 X (ix2 z h) = SMAX P h.val := by
  pointwise [k0_pay5, k0_pay1, k0_pay3]
  refine (diag_sum (fun x => Finset.fold max (Ideal.ofBits FTy.f32 4286578688#32) (fun x_1 => X (ix2 x x_1)) Finset.univ) h.val (by omega)).trans ?_
  rw [dif_pos h.isLt]
  exact runmax hX h
theorem gam_at {X : Vec Ideal S16x256 .f32} (hX : RunAt P 32 X) (z : Fin 1) (h : Fin 16) : k0_pay6 X (P.tau : Elt Ideal .f32) (ix2 z h) = GAM P h.val := by
  pointwise [k0_pay6, k0_pay4, k0_pay2, k0_pay1, k0_pay3]
  simp only [runmax hX]
  refine (diag_sum (fun x => GAM P x.val) h.val (by omega)).trans ?_
  rw [dif_pos h.isLt]
theorem stats_at {X : Vec Ideal S16x256 .f32} (hX : RunAt P 32 X) (a : Fin 2) (h : Fin 128) : k0_pay7 X (P.tau : Elt Ideal .f32) (ix2 a h) = STATS P a.val h.val := by
  pointwise [k0_pay7, k0_pay4, k0_pay2, k0_pay1, k0_pay3]
  simp only [runmax hX]
  unfold STATS
  split
  · refine (diag_sum (fun x => Ideal.sqrt (GAM P x.val)) h.val (by omega)).trans ?_
    split <;> rfl
  · refine (diag_sum (fun x => GAM P x.val) h.val (by omega)).trans ?_
    split <;> rfl
theorem top_at {g : ℕ → ℕ → EReal} {b0 b1 b2 b3 b4 b5 b6 b7 b8 b9 b10 b11 b12 b13 b14 b15 : Vec Ideal S1x8x256 .f32} (e0 : ∀ q : Fin 256, ∀ x : EReal, (∀ s : Fin 8, b0 (ix3 0 s q) ≤ x) ↔ g 0 q.val ≤ x) (e1 : ∀ q : Fin 256, ∀ x : EReal, (∀ s : Fin 8, b1 (ix3 0 s q) ≤ x) ↔ g 1 q.val ≤ x) (e2 : ∀ q : Fin 256, ∀ x : EReal, (∀ s : Fin 8, b2 (ix3 0 s q) ≤ x) ↔ g 2 q.val ≤ x) (e3 : ∀ q : Fin 256, ∀ x : EReal, (∀ s : Fin 8, b3 (ix3 0 s q) ≤ x) ↔ g 3 q.val ≤ x) (e4 : ∀ q : Fin 256, ∀ x : EReal, (∀ s : Fin 8, b4 (ix3 0 s q) ≤ x) ↔ g 4 q.val ≤ x) (e5 : ∀ q : Fin 256, ∀ x : EReal, (∀ s : Fin 8, b5 (ix3 0 s q) ≤ x) ↔ g 5 q.val ≤ x) (e6 : ∀ q : Fin 256, ∀ x : EReal, (∀ s : Fin 8, b6 (ix3 0 s q) ≤ x) ↔ g 6 q.val ≤ x) (e7 : ∀ q : Fin 256, ∀ x : EReal, (∀ s : Fin 8, b7 (ix3 0 s q) ≤ x) ↔ g 7 q.val ≤ x) (e8 : ∀ q : Fin 256, ∀ x : EReal, (∀ s : Fin 8, b8 (ix3 0 s q) ≤ x) ↔ g 8 q.val ≤ x) (e9 : ∀ q : Fin 256, ∀ x : EReal, (∀ s : Fin 8, b9 (ix3 0 s q) ≤ x) ↔ g 9 q.val ≤ x) (e10 : ∀ q : Fin 256, ∀ x : EReal, (∀ s : Fin 8, b10 (ix3 0 s q) ≤ x) ↔ g 10 q.val ≤ x) (e11 : ∀ q : Fin 256, ∀ x : EReal, (∀ s : Fin 8, b11 (ix3 0 s q) ≤ x) ↔ g 11 q.val ≤ x) (e12 : ∀ q : Fin 256, ∀ x : EReal, (∀ s : Fin 8, b12 (ix3 0 s q) ≤ x) ↔ g 12 q.val ≤ x) (e13 : ∀ q : Fin 256, ∀ x : EReal, (∀ s : Fin 8, b13 (ix3 0 s q) ≤ x) ↔ g 13 q.val ≤ x) (e14 : ∀ q : Fin 256, ∀ x : EReal, (∀ s : Fin 8, b14 (ix3 0 s q) ≤ x) ↔ g 14 q.val ≤ x) (e15 : ∀ q : Fin 256, ∀ x : EReal, (∀ s : Fin 8, b15 (ix3 0 s q) ≤ x) ↔ g 15 q.val ≤ x) (h : Fin 16) (q : Fin 256) : k0_pay257 (k0_pay245 b0) (k0_pay246 b1) (k0_pay247 b2) (k0_pay249 (k0_pay248 b3)) (k0_pay250 b4) (k0_pay251 b5) (k0_pay252 b6) (k0_pay253 b7) (k0_pay254 b8) (k0_pay255 b9) (k0_pay256 b10) b11 b12 b13 b14 b15 (ix2 h q) = g h.val q.val * SCALE := by
  pointwise [k0_pay257, k0_pay245, k0_pay246, k0_pay247, k0_pay248, k0_pay249, k0_pay250, k0_pay251, k0_pay252, k0_pay253, k0_pay254, k0_pay255, k0_pay256]
  have F : ∀ (b : Vec Ideal S1x8x256 .f32) (v : EReal), (∀ x : EReal, (∀ s : Fin 8, b (ix3 0 s q) ≤ x) ↔ v ≤ x) →
      (Finset.fold max (Ideal.ofBits FTy.f32 4286578688#32) (fun x => b (ix3 0 x q)) Finset.univ) = v := by
    intro b v hb
    refine eq_of_forall_ge_iff fun x => ?_
    simp only [Finset.fold_max_le, ninf, bot_le, true_and, Finset.mem_univ, forall_true_left, hb]
  simp only [F _ _ (e0 q), F _ _ (e1 q), F _ _ (e2 q), F _ _ (e3 q), F _ _ (e4 q), F _ _ (e5 q), F _ _ (e6 q), F _ _ (e7 q), F _ _ (e8 q), F _ _ (e9 q), F _ _ (e10 q), F _ _ (e11 q), F _ _ (e12 q), F _ _ (e13 q), F _ _ (e14 q), F _ _ (e15 q)]
  congr 1
  fin_vals h with hk
  all_goals simp only [hk, Nat.reduceSub, Nat.reduceLT, ↓reduceDIte]
theorem row_at {g : ℕ → ℕ → EReal} {b0 b1 b2 b3 b4 b5 b6 b7 b8 b9 b10 b11 b12 b13 b14 b15 : Vec Ideal S1x8x256 .f32} (e0 : ∀ q : Fin 256, ∀ x : EReal, (∀ s : Fin 8, b0 (ix3 0 s q) ≤ x) ↔ g 0 q.val ≤ x) (e1 : ∀ q : Fin 256, ∀ x : EReal, (∀ s : Fin 8, b1 (ix3 0 s q) ≤ x) ↔ g 1 q.val ≤ x) (e2 : ∀ q : Fin 256, ∀ x : EReal, (∀ s : Fin 8, b2 (ix3 0 s q) ≤ x) ↔ g 2 q.val ≤ x) (e3 : ∀ q : Fin 256, ∀ x : EReal, (∀ s : Fin 8, b3 (ix3 0 s q) ≤ x) ↔ g 3 q.val ≤ x) (e4 : ∀ q : Fin 256, ∀ x : EReal, (∀ s : Fin 8, b4 (ix3 0 s q) ≤ x) ↔ g 4 q.val ≤ x) (e5 : ∀ q : Fin 256, ∀ x : EReal, (∀ s : Fin 8, b5 (ix3 0 s q) ≤ x) ↔ g 5 q.val ≤ x) (e6 : ∀ q : Fin 256, ∀ x : EReal, (∀ s : Fin 8, b6 (ix3 0 s q) ≤ x) ↔ g 6 q.val ≤ x) (e7 : ∀ q : Fin 256, ∀ x : EReal, (∀ s : Fin 8, b7 (ix3 0 s q) ≤ x) ↔ g 7 q.val ≤ x) (e8 : ∀ q : Fin 256, ∀ x : EReal, (∀ s : Fin 8, b8 (ix3 0 s q) ≤ x) ↔ g 8 q.val ≤ x) (e9 : ∀ q : Fin 256, ∀ x : EReal, (∀ s : Fin 8, b9 (ix3 0 s q) ≤ x) ↔ g 9 q.val ≤ x) (e10 : ∀ q : Fin 256, ∀ x : EReal, (∀ s : Fin 8, b10 (ix3 0 s q) ≤ x) ↔ g 10 q.val ≤ x) (e11 : ∀ q : Fin 256, ∀ x : EReal, (∀ s : Fin 8, b11 (ix3 0 s q) ≤ x) ↔ g 11 q.val ≤ x) (e12 : ∀ q : Fin 256, ∀ x : EReal, (∀ s : Fin 8, b12 (ix3 0 s q) ≤ x) ↔ g 12 q.val ≤ x) (e13 : ∀ q : Fin 256, ∀ x : EReal, (∀ s : Fin 8, b13 (ix3 0 s q) ≤ x) ↔ g 13 q.val ≤ x) (e14 : ∀ q : Fin 256, ∀ x : EReal, (∀ s : Fin 8, b14 (ix3 0 s q) ≤ x) ↔ g 14 q.val ≤ x) (e15 : ∀ q : Fin 256, ∀ x : EReal, (∀ s : Fin 8, b15 (ix3 0 s q) ≤ x) ↔ g 15 q.val ≤ x) (h : Fin 16) (q : Fin 256) : k0_pay258 (k0_pay245 b0) (k0_pay246 b1) (k0_pay247 b2) (k0_pay249 (k0_pay248 b3)) (k0_pay250 b4) (k0_pay251 b5) (k0_pay252 b6) (k0_pay253 b7) (k0_pay254 b8) (k0_pay255 b9) (k0_pay256 b10) b11 b12 b13 b14 b15 (ix2 q h) = g h.val q.val * SCALE := by
  rw [← top_at e0 e1 e2 e3 e4 e5 e6 e7 e8 e9 e10 e11 e12 e13 e14 e15 h q]
  pointwise [k0_pay258]
theorem run_at {v : Vec Ideal S16x256 .f32} {g : ℕ → ℕ → EReal} {b0 b1 b2 b3 b4 b5 b6 b7 b8 b9 b10 b11 b12 b13 b14 b15 : Vec Ideal S1x8x256 .f32} (e0 : ∀ q : Fin 256, ∀ x : EReal, (∀ s : Fin 8, b0 (ix3 0 s q) ≤ x) ↔ g 0 q.val ≤ x) (e1 : ∀ q : Fin 256, ∀ x : EReal, (∀ s : Fin 8, b1 (ix3 0 s q) ≤ x) ↔ g 1 q.val ≤ x) (e2 : ∀ q : Fin 256, ∀ x : EReal, (∀ s : Fin 8, b2 (ix3 0 s q) ≤ x) ↔ g 2 q.val ≤ x) (e3 : ∀ q : Fin 256, ∀ x : EReal, (∀ s : Fin 8, b3 (ix3 0 s q) ≤ x) ↔ g 3 q.val ≤ x) (e4 : ∀ q : Fin 256, ∀ x : EReal, (∀ s : Fin 8, b4 (ix3 0 s q) ≤ x) ↔ g 4 q.val ≤ x) (e5 : ∀ q : Fin 256, ∀ x : EReal, (∀ s : Fin 8, b5 (ix3 0 s q) ≤ x) ↔ g 5 q.val ≤ x) (e6 : ∀ q : Fin 256, ∀ x : EReal, (∀ s : Fin 8, b6 (ix3 0 s q) ≤ x) ↔ g 6 q.val ≤ x) (e7 : ∀ q : Fin 256, ∀ x : EReal, (∀ s : Fin 8, b7 (ix3 0 s q) ≤ x) ↔ g 7 q.val ≤ x) (e8 : ∀ q : Fin 256, ∀ x : EReal, (∀ s : Fin 8, b8 (ix3 0 s q) ≤ x) ↔ g 8 q.val ≤ x) (e9 : ∀ q : Fin 256, ∀ x : EReal, (∀ s : Fin 8, b9 (ix3 0 s q) ≤ x) ↔ g 9 q.val ≤ x) (e10 : ∀ q : Fin 256, ∀ x : EReal, (∀ s : Fin 8, b10 (ix3 0 s q) ≤ x) ↔ g 10 q.val ≤ x) (e11 : ∀ q : Fin 256, ∀ x : EReal, (∀ s : Fin 8, b11 (ix3 0 s q) ≤ x) ↔ g 11 q.val ≤ x) (e12 : ∀ q : Fin 256, ∀ x : EReal, (∀ s : Fin 8, b12 (ix3 0 s q) ≤ x) ↔ g 12 q.val ≤ x) (e13 : ∀ q : Fin 256, ∀ x : EReal, (∀ s : Fin 8, b13 (ix3 0 s q) ≤ x) ↔ g 13 q.val ≤ x) (e14 : ∀ q : Fin 256, ∀ x : EReal, (∀ s : Fin 8, b14 (ix3 0 s q) ≤ x) ↔ g 14 q.val ≤ x) (e15 : ∀ q : Fin 256, ∀ x : EReal, (∀ s : Fin 8, b15 (ix3 0 s q) ≤ x) ↔ g 15 q.val ≤ x) (h : Fin 16) (q : Fin 256) : k0_pay259 (k0_pay245 b0) (k0_pay246 b1) (k0_pay247 b2) (k0_pay249 (k0_pay248 b3)) (k0_pay250 b4) (k0_pay251 b5) (k0_pay252 b6) (k0_pay253 b7) (k0_pay254 b8) (k0_pay255 b9) (k0_pay256 b10) b11 b12 b13 b14 b15 v (ix2 h q) = max (v (ix2 h q)) (g h.val q.val * SCALE) := by
  rw [← top_at e0 e1 e2 e3 e4 e5 e6 e7 e8 e9 e10 e11 e12 e13 e14 e15 h q]
  pointwise [k0_pay259]
end Cert.KernelIdeal.Val
-- ==== Proof.Rd.lean ====
module

public import proofs.«01_k».proof.Proof.Pay
public import Idealize.ShloMosaic.Lib.WritesUnit
public import Idealize.ShloMosaic.Lib.Ring
public import Idealize.ShloMosaic.Lib.Tactic

@[expose] public section

noncomputable section

namespace Cert.KernelIdeal.Val

open Idealize.ShloMosaic Idealize.ShloMosaic.TcCoe Idealize.ShloMosaic.Tactic

variable {sig : RefSig} {κ : Kind} {sp : Space}

/-- A matrix given at every row and column. -/
def G2 {R C : ℕ} (g : ℕ → ℕ → EReal) : (⟨2, ![R, C]⟩ : Shape).Idx → EReal := fun y => g (y (0 : Fin 2)).val (y (1 : Fin 2)).val
def G3 {A B C : ℕ} (g : ℕ → ℕ → ℕ → EReal) : (⟨3, ![A, B, C]⟩ : Shape).Idx → EReal := fun y => g (y (0 : Fin 3)).val (y (1 : Fin 3)).val (y (2 : Fin 3)).val

theorem eta2 {R C : ℕ} (y : (⟨2, ![R, C]⟩ : Shape).Idx) : y = ix2 (y (0 : Fin 2)) (y (1 : Fin 2)) := funext (Fin.forall_fin_two.2 ⟨rfl, rfl⟩)
theorem eta3 {A B C : ℕ} (y : (⟨3, ![A, B, C]⟩ : Shape).Idx) : y = ix3 (y (0 : Fin 3)) (y (1 : Fin 3)) (y (2 : Fin 3)) :=
  funext (Fin.forall_fin_succ.2 ⟨rfl, Fin.forall_fin_two.2 ⟨rfl, rfl⟩⟩)
theorem At2.apply {R C : ℕ} {X : (⟨2, ![R, C]⟩ : Shape).Idx → EReal} {g : ℕ → ℕ → EReal} (h : At2 X g) (y : (⟨2, ![R, C]⟩ : Shape).Idx) :
    X y = g (y (0 : Fin 2)).val (y (1 : Fin 2)).val := by
  exact (congrArg X (eta2 y)).trans (h _ _)
theorem At3.apply {A B C : ℕ} {X : (⟨3, ![A, B, C]⟩ : Shape).Idx → EReal} {g : ℕ → ℕ → ℕ → EReal} (h : At3 X g) (y : (⟨3, ![A, B, C]⟩ : Shape).Idx) :
    X y = g (y (0 : Fin 3)).val (y (1 : Fin 3)).val (y (2 : Fin 3)).val := by
  exact (congrArg X (eta3 y)).trans (h _ _ _)
theorem AtR.apply {R C n : ℕ} {X : (⟨2, ![R, C]⟩ : Shape).Idx → EReal} {g : ℕ → ℕ → EReal} (h : AtR n X g) (y : (⟨2, ![R, C]⟩ : Shape).Idx) (hy : (y (0 : Fin 2)).val < n) :
    X y = g (y (0 : Fin 2)).val (y (1 : Fin 2)).val := by
  exact (congrArg X (eta2 y)).trans (h _ _ hy)
theorem At2.mk {R C : ℕ} {X : (⟨2, ![R, C]⟩ : Shape).Idx → EReal} {g : ℕ → ℕ → EReal}
    (h : ∀ y : (⟨2, ![R, C]⟩ : Shape).Idx, X y = g (y (0 : Fin 2)).val (y (1 : Fin 2)).val) : At2 X g := fun r c => h (ix2 r c)
theorem At2.cg {R C : ℕ} {X : (⟨2, ![R, C]⟩ : Shape).Idx → EReal} {g g' : ℕ → ℕ → EReal} (h : At2 X g) (e : ∀ r c, r < R → c < C → g r c = g' r c) : At2 X g' :=
  fun r c => (h r c).trans (e _ _ r.isLt c.isLt)
theorem At3.cg {A B C : ℕ} {X : (⟨3, ![A, B, C]⟩ : Shape).Idx → EReal} {g g' : ℕ → ℕ → ℕ → EReal} (h : At3 X g)
    (e : ∀ a b c, a < A → b < B → c < C → g a b c = g' a b c) : At3 X g' :=
  fun a b c => (h a b c).trans (e _ _ _ a.isLt b.isLt c.isLt)
theorem At2.toR {R C n : ℕ} {X : (⟨2, ![R, C]⟩ : Shape).Idx → EReal} {g : ℕ → ℕ → EReal} (h : At2 X g) : AtR n X g := fun r c _ => h r c

/-- A box read out of a matrix, and written into one. -/
theorem rd2f {R C R' C' : ℕ} (v : View sig κ sp (⟨2, ![R, C]⟩ : Shape) .f32) {f : v.ty.Contents (Elt Ideal)} {g : ℕ → ℕ → EReal} {off : Fin 2 → ℕ}
    {inb : ∀ a, off a + (![R', C'] : Fin 2 → ℕ) a ≤ (⟨2, ![R, C]⟩ : Shape).size a} (h : At2 (R := R) (C := C) (v.read (Elt Ideal) f) g) :
    At2 (R := R') (C := C') (v.readAt (Elt Ideal) (Rect.unit (s := (⟨2, ![R, C]⟩ : Shape)) off ![R', C'] inb).toLoadRect f) (fun r c => g (off 0 + r) (off 1 + c)) := by
  intro r c
  refine (At2.apply h _).trans ?_
  simp [LoadRect.idx_apply, Rect.unit]
theorem rdRf {R C R' C' n : ℕ} (v : View sig κ sp (⟨2, ![R, C]⟩ : Shape) .f32) {f : v.ty.Contents (Elt Ideal)} {g : ℕ → ℕ → EReal} {off : Fin 2 → ℕ}
    {inb : ∀ a, off a + (![R', C'] : Fin 2 → ℕ) a ≤ (⟨2, ![R, C]⟩ : Shape).size a} (h : AtR (R := R) (C := C) n (v.read (Elt Ideal) f) g) (hn : off 0 + R' ≤ n) :
    At2 (R := R') (C := C') (v.readAt (Elt Ideal) (Rect.unit (s := (⟨2, ![R, C]⟩ : Shape)) off ![R', C'] inb).toLoadRect f) (fun r c => g (off 0 + r) (off 1 + c)) := by
  intro r c
  refine (AtR.apply h _ ?_).trans ?_
  · have := r.isLt
    simp [LoadRect.idx_apply, Rect.unit]; omega
  · simp [LoadRect.idx_apply, Rect.unit]
theorem rd3f {A B C A' B' C' : ℕ} (v : View sig κ sp (⟨3, ![A, B, C]⟩ : Shape) .f32) {f : v.ty.Contents (Elt Ideal)} {g : ℕ → ℕ → ℕ → EReal} {off : Fin 3 → ℕ}
    {inb : ∀ a, off a + (![A', B', C'] : Fin 3 → ℕ) a ≤ (⟨3, ![A, B, C]⟩ : Shape).size a} (h : At3 (A := A) (B := B) (C := C) (v.read (Elt Ideal) f) g) :
    At3 (A := A') (B := B') (C := C') (v.readAt (Elt Ideal) (Rect.unit (s := (⟨3, ![A, B, C]⟩ : Shape)) off ![A', B', C'] inb).toLoadRect f)
      (fun a b c => g (off 0 + a) (off 1 + b) (off 2 + c)) := by
  intro a b c
  refine (At3.apply h _).trans ?_
  simp [LoadRect.idx_apply, Rect.unit]
theorem pc2f {R C R' C' : ℕ} {off : Fin 2 → ℕ} {inb : ∀ a, off a + (![R', C'] : Fin 2 → ℕ) a ≤ (⟨2, ![R, C]⟩ : Shape).size a}
    {w : (Rect.unit (s := (⟨2, ![R, C]⟩ : Shape)) off ![R', C'] inb).shape.Idx → Elt Ideal .f32} {g : ℕ → ℕ → EReal} (G : ℕ → ℕ → EReal)
    (h : At2 (R := R') (C := C') w g) (e : ∀ r c, r < R' → c < C' → g r c = G (off 0 + r) (off 1 + c)) :
    ∀ x, w x = G2 (R := R) (C := C) G ((Rect.unit (s := (⟨2, ![R, C]⟩ : Shape)) off ![R', C'] inb).emb x) := by
  intro x
  refine (At2.apply h x).trans ((e _ _ (x 0).isLt (x 1).isLt).trans ?_)
  show G (off 0 + (x 0).val) (off 1 + (x 1).val) = G (off 0 + 1 * (x 0).val) (off 1 + 1 * (x 1).val)
  rw [Nat.one_mul, Nat.one_mul]
theorem pc3f {A B C A' B' C' : ℕ} {off : Fin 3 → ℕ} {inb : ∀ a, off a + (![A', B', C'] : Fin 3 → ℕ) a ≤ (⟨3, ![A, B, C]⟩ : Shape).size a}
    {w : (Rect.unit (s := (⟨3, ![A, B, C]⟩ : Shape)) off ![A', B', C'] inb).shape.Idx → Elt Ideal .f32} {g : ℕ → ℕ → ℕ → EReal} (G : ℕ → ℕ → ℕ → EReal)
    (h : At3 (A := A') (B := B') (C := C') w g) (e : ∀ a b c, a < A' → b < B' → c < C' → g a b c = G (off 0 + a) (off 1 + b) (off 2 + c)) :
    ∀ x, w x = G3 (A := A) (B := B) (C := C) G ((Rect.unit (s := (⟨3, ![A, B, C]⟩ : Shape)) off ![A', B', C'] inb).emb x) := by
  intro x
  refine (At3.apply h x).trans ((e _ _ _ (x 0).isLt (x 1).isLt (x 2).isLt).trans ?_)
  show G (off 0 + (x 0).val) (off 1 + (x 1).val) (off 2 + (x 2).val) = G (off 0 + 1 * (x 0).val) (off 1 + 1 * (x 1).val) (off 2 + 1 * (x 2).val)
  rw [Nat.one_mul, Nat.one_mul, Nat.one_mul]
theorem all2f {R C : ℕ} (v : View sig κ sp (⟨2, ![R, C]⟩ : Shape) .f32) {f : v.ty.Contents (Elt Ideal)} {L : List (View.Piece (Elt Ideal) (⟨2, ![R, C]⟩ : Shape) .f32)} {G : ℕ → ℕ → EReal}
    (hp : ∀ p ∈ L, ∀ x, p.2 x = G2 (R := R) (C := C) G (p.1.emb x)) (hc : ∀ y, ∃ p ∈ L, y ∈ p.1.set) :
    At2 (R := R) (C := C) (v.read (Elt Ideal) (v.writes (Elt Ideal) f L)) G :=
  fun r c => View.read_writes_apply_of_pieces v f (G2 (R := R) (C := C) G) L hp (ix2 r c) (hc _)
theorem all3f {A B C : ℕ} (v : View sig κ sp (⟨3, ![A, B, C]⟩ : Shape) .f32) {f : v.ty.Contents (Elt Ideal)} {L : List (View.Piece (Elt Ideal) (⟨3, ![A, B, C]⟩ : Shape) .f32)} {G : ℕ → ℕ → ℕ → EReal}
    (hp : ∀ p ∈ L, ∀ x, p.2 x = G3 (A := A) (B := B) (C := C) G (p.1.emb x)) (hc : ∀ y, ∃ p ∈ L, y ∈ p.1.set) :
    At3 (A := A) (B := B) (C := C) (v.read (Elt Ideal) (v.writes (Elt Ideal) f L)) G :=
  fun a b c => View.read_writes_apply_of_pieces v f (G3 (A := A) (B := B) (C := C) G) L hp (ix3 a b c) (hc _)
/-- Rows added under the rows already right. -/
theorem add2f {R C R' n : ℕ} (v : View sig κ sp (⟨2, ![R, C]⟩ : Shape) .f32) {f : v.ty.Contents (Elt Ideal)} {G : ℕ → ℕ → EReal} {off : Fin 2 → ℕ}
    {inb : ∀ a, off a + (![R', C] : Fin 2 → ℕ) a ≤ (⟨2, ![R, C]⟩ : Shape).size a}
    {w : (Rect.unit (s := (⟨2, ![R, C]⟩ : Shape)) off ![R', C] inb).shape.Idx → Elt Ideal .f32}
    (hoff : off = ![n, 0]) (h : AtR (R := R) (C := C) n (v.read (Elt Ideal) f) G) (hw : At2 (R := R') (C := C) w (fun r c => G (n + r) c)) :
    AtR (R := R) (C := C) (n + R') (v.read (Elt Ideal) (v.writes (Elt Ideal) f [⟨Rect.unit (s := (⟨2, ![R, C]⟩ : Shape)) off ![R', C] inb, w⟩])) G := by
  intro r c hr
  by_cases h0 : r.val < n
  · refine (View.read_writes_cons_rows_of_not_mem (W := R') v f inb w [] (ix2 r c) hoff rfl (Or.inl h0)).trans ?_
    exact h r c h0
  · refine (View.read_writes_cons_rows_of_mem v f inb w [] (ix2 r c) (ix2 (⟨r.val - n, by omega⟩ : Fin R') c) hoff ?_ rfl).trans ?_
    · show r.val = n + (r.val - n); omega
    · refine (hw _ _).trans ?_
      show G (n + (r.val - n)) c.val = G r.val c.val
      rw [show n + (r.val - n) = r.val by omega]
/-- One piece over the whole matrix. -/
theorem one2f {R C : ℕ} (v : View sig κ sp (⟨2, ![R, C]⟩ : Shape) .f32) {f : v.ty.Contents (Elt Ideal)} {G : ℕ → ℕ → EReal} {L : List (View.Piece (Elt Ideal) (⟨2, ![R, C]⟩ : Shape) .f32)}
    {inb : ∀ a, (![0, 0] : Fin 2 → ℕ) a + (![R, C] : Fin 2 → ℕ) a ≤ (⟨2, ![R, C]⟩ : Shape).size a}
    {w : (Rect.unit (s := (⟨2, ![R, C]⟩ : Shape)) ![0, 0] ![R, C] inb).shape.Idx → Elt Ideal .f32} (hw : At2 (R := R) (C := C) w G) :
    At2 (R := R) (C := C) (v.read (Elt Ideal) (v.writes (Elt Ideal) f (⟨Rect.unit (s := (⟨2, ![R, C]⟩ : Shape)) ![0, 0] ![R, C] inb, w⟩ :: L))) G := by
  intro r c
  refine (View.read_writes_cons_rows_of_mem v f inb w L (ix2 r c) (ix2 r c) rfl ?_ rfl).trans (hw r c)
  show r.val = 0 + r.val; omega

/-- A box read out of a matrix, and written into one. -/
theorem rd2b {R C R' C' : ℕ} (v : View sig κ sp (⟨2, ![R, C]⟩ : Shape) .bf16) {f : v.ty.Contents (Elt Ideal)} {g : ℕ → ℕ → EReal} {off : Fin 2 → ℕ}
    {inb : ∀ a, off a + (![R', C'] : Fin 2 → ℕ) a ≤ (⟨2, ![R, C]⟩ : Shape).size a} (h : At2 (R := R) (C := C) (v.read (Elt Ideal) f) g) :
    At2 (R := R') (C := C') (v.readAt (Elt Ideal) (Rect.unit (s := (⟨2, ![R, C]⟩ : Shape)) off ![R', C'] inb).toLoadRect f) (fun r c => g (off 0 + r) (off 1 + c)) := by
  intro r c
  refine (At2.apply h _).trans ?_
  simp [LoadRect.idx_apply, Rect.unit]
theorem rdRb {R C R' C' n : ℕ} (v : View sig κ sp (⟨2, ![R, C]⟩ : Shape) .bf16) {f : v.ty.Contents (Elt Ideal)} {g : ℕ → ℕ → EReal} {off : Fin 2 → ℕ}
    {inb : ∀ a, off a + (![R', C'] : Fin 2 → ℕ) a ≤ (⟨2, ![R, C]⟩ : Shape).size a} (h : AtR (R := R) (C := C) n (v.read (Elt Ideal) f) g) (hn : off 0 + R' ≤ n) :
    At2 (R := R') (C := C') (v.readAt (Elt Ideal) (Rect.unit (s := (⟨2, ![R, C]⟩ : Shape)) off ![R', C'] inb).toLoadRect f) (fun r c => g (off 0 + r) (off 1 + c)) := by
  intro r c
  refine (AtR.apply h _ ?_).trans ?_
  · have := r.isLt
    simp [LoadRect.idx_apply, Rect.unit]; omega
  · simp [LoadRect.idx_apply, Rect.unit]
theorem rd3b {A B C A' B' C' : ℕ} (v : View sig κ sp (⟨3, ![A, B, C]⟩ : Shape) .bf16) {f : v.ty.Contents (Elt Ideal)} {g : ℕ → ℕ → ℕ → EReal} {off : Fin 3 → ℕ}
    {inb : ∀ a, off a + (![A', B', C'] : Fin 3 → ℕ) a ≤ (⟨3, ![A, B, C]⟩ : Shape).size a} (h : At3 (A := A) (B := B) (C := C) (v.read (Elt Ideal) f) g) :
    At3 (A := A') (B := B') (C := C') (v.readAt (Elt Ideal) (Rect.unit (s := (⟨3, ![A, B, C]⟩ : Shape)) off ![A', B', C'] inb).toLoadRect f)
      (fun a b c => g (off 0 + a) (off 1 + b) (off 2 + c)) := by
  intro a b c
  refine (At3.apply h _).trans ?_
  simp [LoadRect.idx_apply, Rect.unit]
theorem pc2b {R C R' C' : ℕ} {off : Fin 2 → ℕ} {inb : ∀ a, off a + (![R', C'] : Fin 2 → ℕ) a ≤ (⟨2, ![R, C]⟩ : Shape).size a}
    {w : (Rect.unit (s := (⟨2, ![R, C]⟩ : Shape)) off ![R', C'] inb).shape.Idx → Elt Ideal .bf16} {g : ℕ → ℕ → EReal} (G : ℕ → ℕ → EReal)
    (h : At2 (R := R') (C := C') w g) (e : ∀ r c, r < R' → c < C' → g r c = G (off 0 + r) (off 1 + c)) :
    ∀ x, w x = G2 (R := R) (C := C) G ((Rect.unit (s := (⟨2, ![R, C]⟩ : Shape)) off ![R', C'] inb).emb x) := by
  intro x
  refine (At2.apply h x).trans ((e _ _ (x 0).isLt (x 1).isLt).trans ?_)
  show G (off 0 + (x 0).val) (off 1 + (x 1).val) = G (off 0 + 1 * (x 0).val) (off 1 + 1 * (x 1).val)
  rw [Nat.one_mul, Nat.one_mul]
theorem pc3b {A B C A' B' C' : ℕ} {off : Fin 3 → ℕ} {inb : ∀ a, off a + (![A', B', C'] : Fin 3 → ℕ) a ≤ (⟨3, ![A, B, C]⟩ : Shape).size a}
    {w : (Rect.unit (s := (⟨3, ![A, B, C]⟩ : Shape)) off ![A', B', C'] inb).shape.Idx → Elt Ideal .bf16} {g : ℕ → ℕ → ℕ → EReal} (G : ℕ → ℕ → ℕ → EReal)
    (h : At3 (A := A') (B := B') (C := C') w g) (e : ∀ a b c, a < A' → b < B' → c < C' → g a b c = G (off 0 + a) (off 1 + b) (off 2 + c)) :
    ∀ x, w x = G3 (A := A) (B := B) (C := C) G ((Rect.unit (s := (⟨3, ![A, B, C]⟩ : Shape)) off ![A', B', C'] inb).emb x) := by
  intro x
  refine (At3.apply h x).trans ((e _ _ _ (x 0).isLt (x 1).isLt (x 2).isLt).trans ?_)
  show G (off 0 + (x 0).val) (off 1 + (x 1).val) (off 2 + (x 2).val) = G (off 0 + 1 * (x 0).val) (off 1 + 1 * (x 1).val) (off 2 + 1 * (x 2).val)
  rw [Nat.one_mul, Nat.one_mul, Nat.one_mul]
theorem all2b {R C : ℕ} (v : View sig κ sp (⟨2, ![R, C]⟩ : Shape) .bf16) {f : v.ty.Contents (Elt Ideal)} {L : List (View.Piece (Elt Ideal) (⟨2, ![R, C]⟩ : Shape) .bf16)} {G : ℕ → ℕ → EReal}
    (hp : ∀ p ∈ L, ∀ x, p.2 x = G2 (R := R) (C := C) G (p.1.emb x)) (hc : ∀ y, ∃ p ∈ L, y ∈ p.1.set) :
    At2 (R := R) (C := C) (v.read (Elt Ideal) (v.writes (Elt Ideal) f L)) G :=
  fun r c => View.read_writes_apply_of_pieces v f (G2 (R := R) (C := C) G) L hp (ix2 r c) (hc _)
theorem all3b {A B C : ℕ} (v : View sig κ sp (⟨3, ![A, B, C]⟩ : Shape) .bf16) {f : v.ty.Contents (Elt Ideal)} {L : List (View.Piece (Elt Ideal) (⟨3, ![A, B, C]⟩ : Shape) .bf16)} {G : ℕ → ℕ → ℕ → EReal}
    (hp : ∀ p ∈ L, ∀ x, p.2 x = G3 (A := A) (B := B) (C := C) G (p.1.emb x)) (hc : ∀ y, ∃ p ∈ L, y ∈ p.1.set) :
    At3 (A := A) (B := B) (C := C) (v.read (Elt Ideal) (v.writes (Elt Ideal) f L)) G :=
  fun a b c => View.read_writes_apply_of_pieces v f (G3 (A := A) (B := B) (C := C) G) L hp (ix3 a b c) (hc _)
/-- Rows added under the rows already right. -/
theorem add2b {R C R' n : ℕ} (v : View sig κ sp (⟨2, ![R, C]⟩ : Shape) .bf16) {f : v.ty.Contents (Elt Ideal)} {G : ℕ → ℕ → EReal} {off : Fin 2 → ℕ}
    {inb : ∀ a, off a + (![R', C] : Fin 2 → ℕ) a ≤ (⟨2, ![R, C]⟩ : Shape).size a}
    {w : (Rect.unit (s := (⟨2, ![R, C]⟩ : Shape)) off ![R', C] inb).shape.Idx → Elt Ideal .bf16}
    (hoff : off = ![n, 0]) (h : AtR (R := R) (C := C) n (v.read (Elt Ideal) f) G) (hw : At2 (R := R') (C := C) w (fun r c => G (n + r) c)) :
    AtR (R := R) (C := C) (n + R') (v.read (Elt Ideal) (v.writes (Elt Ideal) f [⟨Rect.unit (s := (⟨2, ![R, C]⟩ : Shape)) off ![R', C] inb, w⟩])) G := by
  intro r c hr
  by_cases h0 : r.val < n
  · refine (View.read_writes_cons_rows_of_not_mem (W := R') v f inb w [] (ix2 r c) hoff rfl (Or.inl h0)).trans ?_
    exact h r c h0
  · refine (View.read_writes_cons_rows_of_mem v f inb w [] (ix2 r c) (ix2 (⟨r.val - n, by omega⟩ : Fin R') c) hoff ?_ rfl).trans ?_
    · show r.val = n + (r.val - n); omega
    · refine (hw _ _).trans ?_
      show G (n + (r.val - n)) c.val = G r.val c.val
      rw [show n + (r.val - n) = r.val by omega]
/-- One piece over the whole matrix. -/
theorem one2b {R C : ℕ} (v : View sig κ sp (⟨2, ![R, C]⟩ : Shape) .bf16) {f : v.ty.Contents (Elt Ideal)} {G : ℕ → ℕ → EReal} {L : List (View.Piece (Elt Ideal) (⟨2, ![R, C]⟩ : Shape) .bf16)}
    {inb : ∀ a, (![0, 0] : Fin 2 → ℕ) a + (![R, C] : Fin 2 → ℕ) a ≤ (⟨2, ![R, C]⟩ : Shape).size a}
    {w : (Rect.unit (s := (⟨2, ![R, C]⟩ : Shape)) ![0, 0] ![R, C] inb).shape.Idx → Elt Ideal .bf16} (hw : At2 (R := R) (C := C) w G) :
    At2 (R := R) (C := C) (v.read (Elt Ideal) (v.writes (Elt Ideal) f (⟨Rect.unit (s := (⟨2, ![R, C]⟩ : Shape)) ![0, 0] ![R, C] inb, w⟩ :: L))) G := by
  intro r c
  refine (View.read_writes_cons_rows_of_mem v f inb w L (ix2 r c) (ix2 r c) rfl ?_ rfl).trans (hw r c)
  show r.val = 0 + r.val; omega

/-- A box read out of a matrix, and written into one. -/
theorem rd2q {R C R' C' : ℕ} (v : View sig κ sp (⟨2, ![R, C]⟩ : Shape) .fp8e4m3) {f : v.ty.Contents (Elt Ideal)} {g : ℕ → ℕ → EReal} {off : Fin 2 → ℕ}
    {inb : ∀ a, off a + (![R', C'] : Fin 2 → ℕ) a ≤ (⟨2, ![R, C]⟩ : Shape).size a} (h : At2 (R := R) (C := C) (v.read (Elt Ideal) f) g) :
    At2 (R := R') (C := C') (v.readAt (Elt Ideal) (Rect.unit (s := (⟨2, ![R, C]⟩ : Shape)) off ![R', C'] inb).toLoadRect f) (fun r c => g (off 0 + r) (off 1 + c)) := by
  intro r c
  refine (At2.apply h _).trans ?_
  simp [LoadRect.idx_apply, Rect.unit]
theorem rdRq {R C R' C' n : ℕ} (v : View sig κ sp (⟨2, ![R, C]⟩ : Shape) .fp8e4m3) {f : v.ty.Contents (Elt Ideal)} {g : ℕ → ℕ → EReal} {off : Fin 2 → ℕ}
    {inb : ∀ a, off a + (![R', C'] : Fin 2 → ℕ) a ≤ (⟨2, ![R, C]⟩ : Shape).size a} (h : AtR (R := R) (C := C) n (v.read (Elt Ideal) f) g) (hn : off 0 + R' ≤ n) :
    At2 (R := R') (C := C') (v.readAt (Elt Ideal) (Rect.unit (s := (⟨2, ![R, C]⟩ : Shape)) off ![R', C'] inb).toLoadRect f) (fun r c => g (off 0 + r) (off 1 + c)) := by
  intro r c
  refine (AtR.apply h _ ?_).trans ?_
  · have := r.isLt
    simp [LoadRect.idx_apply, Rect.unit]; omega
  · simp [LoadRect.idx_apply, Rect.unit]
theorem rd3q {A B C A' B' C' : ℕ} (v : View sig κ sp (⟨3, ![A, B, C]⟩ : Shape) .fp8e4m3) {f : v.ty.Contents (Elt Ideal)} {g : ℕ → ℕ → ℕ → EReal} {off : Fin 3 → ℕ}
    {inb : ∀ a, off a + (![A', B', C'] : Fin 3 → ℕ) a ≤ (⟨3, ![A, B, C]⟩ : Shape).size a} (h : At3 (A := A) (B := B) (C := C) (v.read (Elt Ideal) f) g) :
    At3 (A := A') (B := B') (C := C') (v.readAt (Elt Ideal) (Rect.unit (s := (⟨3, ![A, B, C]⟩ : Shape)) off ![A', B', C'] inb).toLoadRect f)
      (fun a b c => g (off 0 + a) (off 1 + b) (off 2 + c)) := by
  intro a b c
  refine (At3.apply h _).trans ?_
  simp [LoadRect.idx_apply, Rect.unit]
theorem pc2q {R C R' C' : ℕ} {off : Fin 2 → ℕ} {inb : ∀ a, off a + (![R', C'] : Fin 2 → ℕ) a ≤ (⟨2, ![R, C]⟩ : Shape).size a}
    {w : (Rect.unit (s := (⟨2, ![R, C]⟩ : Shape)) off ![R', C'] inb).shape.Idx → Elt Ideal .fp8e4m3} {g : ℕ → ℕ → EReal} (G : ℕ → ℕ → EReal)
    (h : At2 (R := R') (C := C') w g) (e : ∀ r c, r < R' → c < C' → g r c = G (off 0 + r) (off 1 + c)) :
    ∀ x, w x = G2 (R := R) (C := C) G ((Rect.unit (s := (⟨2, ![R, C]⟩ : Shape)) off ![R', C'] inb).emb x) := by
  intro x
  refine (At2.apply h x).trans ((e _ _ (x 0).isLt (x 1).isLt).trans ?_)
  show G (off 0 + (x 0).val) (off 1 + (x 1).val) = G (off 0 + 1 * (x 0).val) (off 1 + 1 * (x 1).val)
  rw [Nat.one_mul, Nat.one_mul]
theorem pc3q {A B C A' B' C' : ℕ} {off : Fin 3 → ℕ} {inb : ∀ a, off a + (![A', B', C'] : Fin 3 → ℕ) a ≤ (⟨3, ![A, B, C]⟩ : Shape).size a}
    {w : (Rect.unit (s := (⟨3, ![A, B, C]⟩ : Shape)) off ![A', B', C'] inb).shape.Idx → Elt Ideal .fp8e4m3} {g : ℕ → ℕ → ℕ → EReal} (G : ℕ → ℕ → ℕ → EReal)
    (h : At3 (A := A') (B := B') (C := C') w g) (e : ∀ a b c, a < A' → b < B' → c < C' → g a b c = G (off 0 + a) (off 1 + b) (off 2 + c)) :
    ∀ x, w x = G3 (A := A) (B := B) (C := C) G ((Rect.unit (s := (⟨3, ![A, B, C]⟩ : Shape)) off ![A', B', C'] inb).emb x) := by
  intro x
  refine (At3.apply h x).trans ((e _ _ _ (x 0).isLt (x 1).isLt (x 2).isLt).trans ?_)
  show G (off 0 + (x 0).val) (off 1 + (x 1).val) (off 2 + (x 2).val) = G (off 0 + 1 * (x 0).val) (off 1 + 1 * (x 1).val) (off 2 + 1 * (x 2).val)
  rw [Nat.one_mul, Nat.one_mul, Nat.one_mul]
theorem all2q {R C : ℕ} (v : View sig κ sp (⟨2, ![R, C]⟩ : Shape) .fp8e4m3) {f : v.ty.Contents (Elt Ideal)} {L : List (View.Piece (Elt Ideal) (⟨2, ![R, C]⟩ : Shape) .fp8e4m3)} {G : ℕ → ℕ → EReal}
    (hp : ∀ p ∈ L, ∀ x, p.2 x = G2 (R := R) (C := C) G (p.1.emb x)) (hc : ∀ y, ∃ p ∈ L, y ∈ p.1.set) :
    At2 (R := R) (C := C) (v.read (Elt Ideal) (v.writes (Elt Ideal) f L)) G :=
  fun r c => View.read_writes_apply_of_pieces v f (G2 (R := R) (C := C) G) L hp (ix2 r c) (hc _)
theorem all3q {A B C : ℕ} (v : View sig κ sp (⟨3, ![A, B, C]⟩ : Shape) .fp8e4m3) {f : v.ty.Contents (Elt Ideal)} {L : List (View.Piece (Elt Ideal) (⟨3, ![A, B, C]⟩ : Shape) .fp8e4m3)} {G : ℕ → ℕ → ℕ → EReal}
    (hp : ∀ p ∈ L, ∀ x, p.2 x = G3 (A := A) (B := B) (C := C) G (p.1.emb x)) (hc : ∀ y, ∃ p ∈ L, y ∈ p.1.set) :
    At3 (A := A) (B := B) (C := C) (v.read (Elt Ideal) (v.writes (Elt Ideal) f L)) G :=
  fun a b c => View.read_writes_apply_of_pieces v f (G3 (A := A) (B := B) (C := C) G) L hp (ix3 a b c) (hc _)
/-- Rows added under the rows already right. -/
theorem add2q {R C R' n : ℕ} (v : View sig κ sp (⟨2, ![R, C]⟩ : Shape) .fp8e4m3) {f : v.ty.Contents (Elt Ideal)} {G : ℕ → ℕ → EReal} {off : Fin 2 → ℕ}
    {inb : ∀ a, off a + (![R', C] : Fin 2 → ℕ) a ≤ (⟨2, ![R, C]⟩ : Shape).size a}
    {w : (Rect.unit (s := (⟨2, ![R, C]⟩ : Shape)) off ![R', C] inb).shape.Idx → Elt Ideal .fp8e4m3}
    (hoff : off = ![n, 0]) (h : AtR (R := R) (C := C) n (v.read (Elt Ideal) f) G) (hw : At2 (R := R') (C := C) w (fun r c => G (n + r) c)) :
    AtR (R := R) (C := C) (n + R') (v.read (Elt Ideal) (v.writes (Elt Ideal) f [⟨Rect.unit (s := (⟨2, ![R, C]⟩ : Shape)) off ![R', C] inb, w⟩])) G := by
  intro r c hr
  by_cases h0 : r.val < n
  · refine (View.read_writes_cons_rows_of_not_mem (W := R') v f inb w [] (ix2 r c) hoff rfl (Or.inl h0)).trans ?_
    exact h r c h0
  · refine (View.read_writes_cons_rows_of_mem v f inb w [] (ix2 r c) (ix2 (⟨r.val - n, by omega⟩ : Fin R') c) hoff ?_ rfl).trans ?_
    · show r.val = n + (r.val - n); omega
    · refine (hw _ _).trans ?_
      show G (n + (r.val - n)) c.val = G r.val c.val
      rw [show n + (r.val - n) = r.val by omega]
/-- One piece over the whole matrix. -/
theorem one2q {R C : ℕ} (v : View sig κ sp (⟨2, ![R, C]⟩ : Shape) .fp8e4m3) {f : v.ty.Contents (Elt Ideal)} {G : ℕ → ℕ → EReal} {L : List (View.Piece (Elt Ideal) (⟨2, ![R, C]⟩ : Shape) .fp8e4m3)}
    {inb : ∀ a, (![0, 0] : Fin 2 → ℕ) a + (![R, C] : Fin 2 → ℕ) a ≤ (⟨2, ![R, C]⟩ : Shape).size a}
    {w : (Rect.unit (s := (⟨2, ![R, C]⟩ : Shape)) ![0, 0] ![R, C] inb).shape.Idx → Elt Ideal .fp8e4m3} (hw : At2 (R := R) (C := C) w G) :
    At2 (R := R) (C := C) (v.read (Elt Ideal) (v.writes (Elt Ideal) f (⟨Rect.unit (s := (⟨2, ![R, C]⟩ : Shape)) ![0, 0] ![R, C] inb, w⟩ :: L))) G := by
  intro r c
  refine (View.read_writes_cons_rows_of_mem v f inb w L (ix2 r c) (ix2 r c) rfl ?_ rfl).trans (hw r c)
  show r.val = 0 + r.val; omega

theorem cov2b {R C R' C' : ℕ} (v : View sig κ sp (⟨2, ![R, C]⟩ : Shape) .bf16) {g : ℕ → ℕ → EReal} {off : Fin 2 → ℕ}
    {inb inb' : ∀ a, off a + (![R', C'] : Fin 2 → ℕ) a ≤ (⟨2, ![R, C]⟩ : Shape).size a}
    {w : (Rect.unit (s := (⟨2, ![R, C]⟩ : Shape)) off ![R', C'] inb).shape.Idx → Elt Ideal .bf16} (h : At2 (R := R') (C := C') w g) :
    At2 (R := R') (C := C') (v.readCov (Val := Elt Ideal) [⟨Rect.unit (s := (⟨2, ![R, C]⟩ : Shape)) off ![R', C'] inb, w⟩] (Rect.unit (s := (⟨2, ![R, C]⟩ : Shape)) off ![R', C'] inb').toLoadRect) g :=
  fun r c => (View.read_writes_cons_emb v _ (Rect.unit (s := (⟨2, ![R, C]⟩ : Shape)) off ![R', C'] inb) w [] (ix2 r c)).trans (h r c)

theorem cover_of_rects {s : Shape} {e : EltTy} (R : List (Rect s)) (g : Fin s.rank → ℕ)
    (ht : View.Piece.tiledBy (Val := fun _ => Unit) (e := EltTy.f32) (R.map fun r => ⟨r, fun _ => ()⟩) g = true)
    {L : List (View.Piece (Elt Ideal) s e)} (h : L.map Sigma.fst = R) : ∀ y, ∃ p ∈ L, y ∈ p.1.set := by
  intro y
  obtain ⟨p, hp, hy⟩ := View.cover_of_tiledBy _ g ht y
  obtain ⟨r, hr, rfl⟩ := List.mem_map.1 hp
  subst h
  obtain ⟨q, hq, rfl⟩ := List.mem_map.1 hr
  exact ⟨q, hq, hy⟩
/-- Slabs added after the slabs already right. -/
def AtH {A B C : ℕ} (n : ℕ) (X : (⟨3, ![A, B, C]⟩ : Shape).Idx → EReal) (g : ℕ → ℕ → ℕ → EReal) : Prop :=
  ∀ (a : Fin A) (b : Fin B) (c : Fin C), a.val < n → X (ix3 a b c) = g a.val b.val c.val
theorem add3f {A B C n : ℕ} (v : View sig κ sp (⟨3, ![A, B, C]⟩ : Shape) .f32) {f : v.ty.Contents (Elt Ideal)} {L : List (View.Piece (Elt Ideal) (⟨3, ![A, B, C]⟩ : Shape) .f32)} {G : ℕ → ℕ → ℕ → EReal}
    {inb : ∀ a, (![n, 0, 0] : Fin 3 → ℕ) a + (![1, B, C] : Fin 3 → ℕ) a ≤ (⟨3, ![A, B, C]⟩ : Shape).size a}
    {w : (Rect.unit (s := (⟨3, ![A, B, C]⟩ : Shape)) ![n, 0, 0] ![1, B, C] inb).shape.Idx → Elt Ideal .f32}
    (h : AtH (A := A) (B := B) (C := C) n (v.read (Elt Ideal) (v.writes (Elt Ideal) f L)) G) (hw : At3 (A := 1) (B := B) (C := C) w (fun _ b c => G n b c)) :
    AtH (A := A) (B := B) (C := C) (n + 1) (v.read (Elt Ideal) (v.writes (Elt Ideal) f (⟨Rect.unit (s := (⟨3, ![A, B, C]⟩ : Shape)) ![n, 0, 0] ![1, B, C] inb, w⟩ :: L))) G := by
  intro a b c ha
  by_cases h0 : a.val < n
  · exact (View.read_writes_cons_unit_of_not_mem v f inb w L (ix3 a b c) rfl 0 (Or.inl h0)).trans (h a b c h0)
  · have e : a.val = n := by omega
    refine (View.read_writes_cons_unit_of_mem v f inb w L (ix3 a b c) (ix3 (0 : Fin 1) b c) rfl ?_).trans ((hw 0 b c).trans (by rw [e]))
    refine Fin.forall_fin_succ.2 ⟨?_, Fin.forall_fin_two.2 ⟨?_, ?_⟩⟩
    · show a.val = n + 0; omega
    · show b.val = 0 + b.val; omega
    · show c.val = 0 + c.val; omega
theorem AtH.all {A B C : ℕ} {X : (⟨3, ![A, B, C]⟩ : Shape).Idx → EReal} {g : ℕ → ℕ → ℕ → EReal} (h : AtH A X g) : At3 X g := fun a b c => h a b c a.isLt
theorem AtH.zero {A B C : ℕ} {X : (⟨3, ![A, B, C]⟩ : Shape).Idx → EReal} {g : ℕ → ℕ → ℕ → EReal} : AtH 0 X g := fun a b c h => absurd h (Nat.not_lt_zero _)

/-- A word read from a list of seven. -/
theorem rd1 (v : View sig κ sp (⟨1, ![7]⟩ : Shape) .i32) {f : v.ty.Contents (Elt Ideal)} {g : ℕ → BitVec 32} (h : ∀ n : Fin 7, v.read (Elt Ideal) f (ix1 n) = g n.val)
    (y : (⟨1, ![7]⟩ : Shape).Idx) : v.read (Elt Ideal) f y = g (y 0).val := by
  idx_vars y
  exact h _

end Cert.KernelIdeal.Val
-- ==== Proof.Offs.lean ====
module

public import proofs.«01_k».proof.Proof.Gen.KernelIdeal.Frame
public import proofs.«01_k».proof.Proof.Gen.KernelIdeal.Skeleton
public import proofs.«01_k».proof.Proof.Rd
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem row_word (n : ℕ) (h : n < 32) : (Scalar.indexCast (Scalar.muli (BitVec.ofNat 32 n) 256#32) : BitVec 32).toNat = 256 * n := by
  show (BitVec.ofNat 32 n * 256#32).toNat = _
  rw [BitVec.toNat_mul, BitVec.toNat_ofNat]
  simp only [BitVec.toNat_ofNat]
  omega
theorem coord_lt (i : grid0.Coords) : (i 0).val < 32 := (i 0).isLt
theorem off35_eq (i : grid0.Coords) : k0_off35 i = ![256 * (i 0).val, 0] :=
  funext (Fin.forall_fin_two.2 ⟨row_word _ (coord_lt i), rfl⟩)
theorem off36_eq (i : grid0.Coords) : k0_off36 i = ![256 * (i 0).val, 0] :=
  funext (Fin.forall_fin_two.2 ⟨row_word _ (coord_lt i), rfl⟩)
theorem off37_eq (i : grid0.Coords) : k0_off37 i = ![256 * (i 0).val, 0] :=
  funext (Fin.forall_fin_two.2 ⟨row_word _ (coord_lt i), rfl⟩)
theorem off38_eq (i : grid0.Coords) : k0_off38 i = ![256 * (i 0).val, 128] :=
  funext (Fin.forall_fin_two.2 ⟨row_word _ (coord_lt i), rfl⟩)
theorem off39_eq (i : grid0.Coords) : k0_off39 i = ![256 * (i 0).val, 256] :=
  funext (Fin.forall_fin_two.2 ⟨row_word _ (coord_lt i), rfl⟩)
theorem off40_eq (i : grid0.Coords) : k0_off40 i = ![256 * (i 0).val, 384] :=
  funext (Fin.forall_fin_two.2 ⟨row_word _ (coord_lt i), rfl⟩)
theorem off41_eq (i : grid0.Coords) : k0_off41 i = ![256 * (i 0).val, 512] :=
  funext (Fin.forall_fin_two.2 ⟨row_word _ (coord_lt i), rfl⟩)
theorem off42_eq (i : grid0.Coords) : k0_off42 i = ![256 * (i 0).val, 640] :=
  funext (Fin.forall_fin_two.2 ⟨row_word _ (coord_lt i), rfl⟩)
theorem off43_eq (i : grid0.Coords) : k0_off43 i = ![256 * (i 0).val, 768] :=
  funext (Fin.forall_fin_two.2 ⟨row_word _ (coord_lt i), rfl⟩)
theorem off44_eq (i : grid0.Coords) : k0_off44 i = ![256 * (i 0).val, 896] :=
  funext (Fin.forall_fin_two.2 ⟨row_word _ (coord_lt i), rfl⟩)
theorem off45_eq (i : grid0.Coords) : k0_off45 i = ![256 * (i 0).val, 1024] :=
  funext (Fin.forall_fin_two.2 ⟨row_word _ (coord_lt i), rfl⟩)
theorem off46_eq (i : grid0.Coords) : k0_off46 i = ![256 * (i 0).val, 1152] :=
  funext (Fin.forall_fin_two.2 ⟨row_word _ (coord_lt i), rfl⟩)
theorem off47_eq (i : grid0.Coords) : k0_off47 i = ![256 * (i 0).val, 1280] :=
  funext (Fin.forall_fin_two.2 ⟨row_word _ (coord_lt i), rfl⟩)
theorem off48_eq (i : grid0.Coords) : k0_off48 i = ![256 * (i 0).val, 1408] :=
  funext (Fin.forall_fin_two.2 ⟨row_word _ (coord_lt i), rfl⟩)
theorem off49_eq (i : grid0.Coords) : k0_off49 i = ![256 * (i 0).val, 1536] :=
  funext (Fin.forall_fin_two.2 ⟨row_word _ (coord_lt i), rfl⟩)
theorem off50_eq (i : grid0.Coords) : k0_off50 i = ![256 * (i 0).val, 1664] :=
  funext (Fin.forall_fin_two.2 ⟨row_word _ (coord_lt i), rfl⟩)
theorem off51_eq (i : grid0.Coords) : k0_off51 i = ![256 * (i 0).val, 1792] :=
  funext (Fin.forall_fin_two.2 ⟨row_word _ (coord_lt i), rfl⟩)
theorem off52_eq (i : grid0.Coords) : k0_off52 i = ![256 * (i 0).val, 1920] :=
  funext (Fin.forall_fin_two.2 ⟨row_word _ (coord_lt i), rfl⟩)
end Cert.KernelIdeal.Val
-- ==== Proof.OffW.lean ====
module

public import proofs.«01_k».proof.Proof.Gen.KernelIdeal.Frame
public import proofs.«01_k».proof.Proof.Gen.KernelIdeal.Skeleton
public import proofs.«01_k».proof.Proof.Offs
public import proofs.«01_k».proof.Proof.Rd
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
theorem off1_0 : ∀ k : Fin k0_t1_loop.trips, k0_off1 k 0#32 = ![384 * k.val + 0, 0] := by decide +kernel
theorem off2_0 : ∀ k : Fin k0_t1_loop.trips, k0_off2 k 0#32 = ![3 * k.val + 0, 0] := by decide +kernel
theorem off1_1 : ∀ k : Fin k0_t1_loop.trips, k0_off1 k 128#32 = ![384 * k.val + 128, 0] := by decide +kernel
theorem off2_1 : ∀ k : Fin k0_t1_loop.trips, k0_off2 k 1#32 = ![3 * k.val + 1, 0] := by decide +kernel
theorem off1_2 : ∀ k : Fin k0_t1_loop.trips, k0_off1 k 256#32 = ![384 * k.val + 256, 0] := by decide +kernel
theorem off2_2 : ∀ k : Fin k0_t1_loop.trips, k0_off2 k 2#32 = ![3 * k.val + 2, 0] := by decide +kernel
theorem off3_0 : ∀ k : Fin k0_t1_loop.trips, k0_off3 k 0#32 = ![384 * k.val + 0, 128] := by decide +kernel
theorem off4_0 : ∀ k : Fin k0_t1_loop.trips, k0_off4 k 0#32 = ![3 * k.val + 0, 1] := by decide +kernel
theorem off3_1 : ∀ k : Fin k0_t1_loop.trips, k0_off3 k 128#32 = ![384 * k.val + 128, 128] := by decide +kernel
theorem off4_1 : ∀ k : Fin k0_t1_loop.trips, k0_off4 k 1#32 = ![3 * k.val + 1, 1] := by decide +kernel
theorem off3_2 : ∀ k : Fin k0_t1_loop.trips, k0_off3 k 256#32 = ![384 * k.val + 256, 128] := by decide +kernel
theorem off4_2 : ∀ k : Fin k0_t1_loop.trips, k0_off4 k 2#32 = ![3 * k.val + 2, 1] := by decide +kernel
theorem off5_0 : ∀ k : Fin k0_t1_loop.trips, k0_off5 k 0#32 = ![384 * k.val + 0, 256] := by decide +kernel
theorem off6_0 : ∀ k : Fin k0_t1_loop.trips, k0_off6 k 0#32 = ![3 * k.val + 0, 2] := by decide +kernel
theorem off5_1 : ∀ k : Fin k0_t1_loop.trips, k0_off5 k 128#32 = ![384 * k.val + 128, 256] := by decide +kernel
theorem off6_1 : ∀ k : Fin k0_t1_loop.trips, k0_off6 k 1#32 = ![3 * k.val + 1, 2] := by decide +kernel
theorem off5_2 : ∀ k : Fin k0_t1_loop.trips, k0_off5 k 256#32 = ![384 * k.val + 256, 256] := by decide +kernel
theorem off6_2 : ∀ k : Fin k0_t1_loop.trips, k0_off6 k 2#32 = ![3 * k.val + 2, 2] := by decide +kernel
theorem off7_0 : ∀ k : Fin k0_t1_loop.trips, k0_off7 k 0#32 = ![384 * k.val + 0, 384] := by decide +kernel
theorem off8_0 : ∀ k : Fin k0_t1_loop.trips, k0_off8 k 0#32 = ![3 * k.val + 0, 3] := by decide +kernel
theorem off7_1 : ∀ k : Fin k0_t1_loop.trips, k0_off7 k 128#32 = ![384 * k.val + 128, 384] := by decide +kernel
theorem off8_1 : ∀ k : Fin k0_t1_loop.trips, k0_off8 k 1#32 = ![3 * k.val + 1, 3] := by decide +kernel
theorem off7_2 : ∀ k : Fin k0_t1_loop.trips, k0_off7 k 256#32 = ![384 * k.val + 256, 384] := by decide +kernel
theorem off8_2 : ∀ k : Fin k0_t1_loop.trips, k0_off8 k 2#32 = ![3 * k.val + 2, 3] := by decide +kernel
theorem off9_0 : ∀ k : Fin k0_t1_loop.trips, k0_off9 k 0#32 = ![384 * k.val + 0, 512] := by decide +kernel
theorem off10_0 : ∀ k : Fin k0_t1_loop.trips, k0_off10 k 0#32 = ![3 * k.val + 0, 4] := by decide +kernel
theorem off9_1 : ∀ k : Fin k0_t1_loop.trips, k0_off9 k 128#32 = ![384 * k.val + 128, 512] := by decide +kernel
theorem off10_1 : ∀ k : Fin k0_t1_loop.trips, k0_off10 k 1#32 = ![3 * k.val + 1, 4] := by decide +kernel
theorem off9_2 : ∀ k : Fin k0_t1_loop.trips, k0_off9 k 256#32 = ![384 * k.val + 256, 512] := by decide +kernel
theorem off10_2 : ∀ k : Fin k0_t1_loop.trips, k0_off10 k 2#32 = ![3 * k.val + 2, 4] := by decide +kernel
theorem off11_0 : ∀ k : Fin k0_t1_loop.trips, k0_off11 k 0#32 = ![384 * k.val + 0, 640] := by decide +kernel
theorem off12_0 : ∀ k : Fin k0_t1_loop.trips, k0_off12 k 0#32 = ![3 * k.val + 0, 5] := by decide +kernel
theorem off11_1 : ∀ k : Fin k0_t1_loop.trips, k0_off11 k 128#32 = ![384 * k.val + 128, 640] := by decide +kernel
theorem off12_1 : ∀ k : Fin k0_t1_loop.trips, k0_off12 k 1#32 = ![3 * k.val + 1, 5] := by decide +kernel
theorem off11_2 : ∀ k : Fin k0_t1_loop.trips, k0_off11 k 256#32 = ![384 * k.val + 256, 640] := by decide +kernel
theorem off12_2 : ∀ k : Fin k0_t1_loop.trips, k0_off12 k 2#32 = ![3 * k.val + 2, 5] := by decide +kernel
theorem off13_0 : ∀ k : Fin k0_t1_loop.trips, k0_off13 k 0#32 = ![384 * k.val + 0, 768] := by decide +kernel
theorem off14_0 : ∀ k : Fin k0_t1_loop.trips, k0_off14 k 0#32 = ![3 * k.val + 0, 6] := by decide +kernel
theorem off13_1 : ∀ k : Fin k0_t1_loop.trips, k0_off13 k 128#32 = ![384 * k.val + 128, 768] := by decide +kernel
theorem off14_1 : ∀ k : Fin k0_t1_loop.trips, k0_off14 k 1#32 = ![3 * k.val + 1, 6] := by decide +kernel
theorem off13_2 : ∀ k : Fin k0_t1_loop.trips, k0_off13 k 256#32 = ![384 * k.val + 256, 768] := by decide +kernel
theorem off14_2 : ∀ k : Fin k0_t1_loop.trips, k0_off14 k 2#32 = ![3 * k.val + 2, 6] := by decide +kernel
theorem off15_0 : ∀ k : Fin k0_t1_loop.trips, k0_off15 k 0#32 = ![384 * k.val + 0, 896] := by decide +kernel
theorem off16_0 : ∀ k : Fin k0_t1_loop.trips, k0_off16 k 0#32 = ![3 * k.val + 0, 7] := by decide +kernel
theorem off15_1 : ∀ k : Fin k0_t1_loop.trips, k0_off15 k 128#32 = ![384 * k.val + 128, 896] := by decide +kernel
theorem off16_1 : ∀ k : Fin k0_t1_loop.trips, k0_off16 k 1#32 = ![3 * k.val + 1, 7] := by decide +kernel
theorem off15_2 : ∀ k : Fin k0_t1_loop.trips, k0_off15 k 256#32 = ![384 * k.val + 256, 896] := by decide +kernel
theorem off16_2 : ∀ k : Fin k0_t1_loop.trips, k0_off16 k 2#32 = ![3 * k.val + 2, 7] := by decide +kernel
theorem off17_0 : ∀ k : Fin k0_t1_loop.trips, k0_off17 k 0#32 = ![384 * k.val + 0, 1024] := by decide +kernel
theorem off18_0 : ∀ k : Fin k0_t1_loop.trips, k0_off18 k 0#32 = ![3 * k.val + 0, 8] := by decide +kernel
theorem off17_1 : ∀ k : Fin k0_t1_loop.trips, k0_off17 k 128#32 = ![384 * k.val + 128, 1024] := by decide +kernel
theorem off18_1 : ∀ k : Fin k0_t1_loop.trips, k0_off18 k 1#32 = ![3 * k.val + 1, 8] := by decide +kernel
theorem off17_2 : ∀ k : Fin k0_t1_loop.trips, k0_off17 k 256#32 = ![384 * k.val + 256, 1024] := by decide +kernel
theorem off18_2 : ∀ k : Fin k0_t1_loop.trips, k0_off18 k 2#32 = ![3 * k.val + 2, 8] := by decide +kernel
theorem off19_0 : ∀ k : Fin k0_t1_loop.trips, k0_off19 k 0#32 = ![384 * k.val + 0, 1152] := by decide +kernel
theorem off20_0 : ∀ k : Fin k0_t1_loop.trips, k0_off20 k 0#32 = ![3 * k.val + 0, 9] := by decide +kernel
theorem off19_1 : ∀ k : Fin k0_t1_loop.trips, k0_off19 k 128#32 = ![384 * k.val + 128, 1152] := by decide +kernel
theorem off20_1 : ∀ k : Fin k0_t1_loop.trips, k0_off20 k 1#32 = ![3 * k.val + 1, 9] := by decide +kernel
theorem off19_2 : ∀ k : Fin k0_t1_loop.trips, k0_off19 k 256#32 = ![384 * k.val + 256, 1152] := by decide +kernel
theorem off20_2 : ∀ k : Fin k0_t1_loop.trips, k0_off20 k 2#32 = ![3 * k.val + 2, 9] := by decide +kernel
theorem off21_0 : ∀ k : Fin k0_t1_loop.trips, k0_off21 k 0#32 = ![384 * k.val + 0, 1280] := by decide +kernel
theorem off22_0 : ∀ k : Fin k0_t1_loop.trips, k0_off22 k 0#32 = ![3 * k.val + 0, 10] := by decide +kernel
theorem off21_1 : ∀ k : Fin k0_t1_loop.trips, k0_off21 k 128#32 = ![384 * k.val + 128, 1280] := by decide +kernel
theorem off22_1 : ∀ k : Fin k0_t1_loop.trips, k0_off22 k 1#32 = ![3 * k.val + 1, 10] := by decide +kernel
theorem off21_2 : ∀ k : Fin k0_t1_loop.trips, k0_off21 k 256#32 = ![384 * k.val + 256, 1280] := by decide +kernel
theorem off22_2 : ∀ k : Fin k0_t1_loop.trips, k0_off22 k 2#32 = ![3 * k.val + 2, 10] := by decide +kernel
theorem off23_0 : ∀ k : Fin k0_t1_loop.trips, k0_off23 k 0#32 = ![384 * k.val + 0, 1408] := by decide +kernel
theorem off24_0 : ∀ k : Fin k0_t1_loop.trips, k0_off24 k 0#32 = ![3 * k.val + 0, 11] := by decide +kernel
theorem off23_1 : ∀ k : Fin k0_t1_loop.trips, k0_off23 k 128#32 = ![384 * k.val + 128, 1408] := by decide +kernel
theorem off24_1 : ∀ k : Fin k0_t1_loop.trips, k0_off24 k 1#32 = ![3 * k.val + 1, 11] := by decide +kernel
theorem off23_2 : ∀ k : Fin k0_t1_loop.trips, k0_off23 k 256#32 = ![384 * k.val + 256, 1408] := by decide +kernel
theorem off24_2 : ∀ k : Fin k0_t1_loop.trips, k0_off24 k 2#32 = ![3 * k.val + 2, 11] := by decide +kernel
theorem off25_0 : ∀ k : Fin k0_t1_loop.trips, k0_off25 k 0#32 = ![256 * k.val + 0, 0] := by decide +kernel
theorem off26_0 : ∀ k : Fin k0_t1_loop.trips, k0_off26 k 0#32 = ![64 * k.val + 0, 0] := by decide +kernel
theorem off25_1 : ∀ k : Fin k0_t1_loop.trips, k0_off25 k 1#32 = ![256 * k.val + 128, 0] := by decide +kernel
theorem off26_1 : ∀ k : Fin k0_t1_loop.trips, k0_off26 k 1#32 = ![64 * k.val + 32, 0] := by decide +kernel
theorem off27_eq : ∀ k : Fin k0_t2_loop.trips, k0_off27 k = ![k.val, 0] := by decide +kernel
theorem off28_eq : ∀ k : Fin k0_t2_loop.trips, k0_off28 k = ![128 * k.val, 0] := by decide +kernel
theorem off29_eq : ∀ k : Fin k0_t2_loop.trips, k0_off29 k = ![k.val, 1] := by decide +kernel
theorem off30_eq : ∀ k : Fin k0_t2_loop.trips, k0_off30 k = ![128 * k.val, 128] := by decide +kernel
theorem off31_eq : ∀ k : Fin k0_t2_loop.trips, k0_off31 k = ![k.val, 2] := by decide +kernel
theorem off32_eq : ∀ k : Fin k0_t2_loop.trips, k0_off32 k = ![128 * k.val, 256] := by decide +kernel
theorem off33_eq : ∀ k : Fin k0_t2_loop.trips, k0_off33 k = ![k.val, 3] := by decide +kernel
theorem off34_eq : ∀ k : Fin k0_t2_loop.trips, k0_off34 k = ![128 * k.val, 384] := by decide +kernel
theorem t1_trips : k0_t1_loop.trips = 8 := by decide +kernel
theorem t2_trips : k0_t2_loop.trips = 16 := by decide +kernel

/-- A band of rows written under the rows already right. -/
theorem band2b {κ : Kind} {sp : Space} {R C n n' : ℕ} (v : View sig κ sp (⟨2, ![R, C]⟩ : Shape) .bf16) {f : v.ty.Contents (Elt Ideal)} {L : List (View.Piece (Elt Ideal) (⟨2, ![R, C]⟩ : Shape) .bf16)} {G : ℕ → ℕ → EReal}
    (h : AtR (R := R) (C := C) n (v.read (Elt Ideal) f) G) (hp : ∀ p ∈ L, ∀ x, p.2 x = G2 (R := R) (C := C) G (p.1.emb x))
    (hc : ∀ (r : Fin R) (c : Fin C), n ≤ r.val → r.val < n' → ∃ p ∈ L, ix2 r c ∈ p.1.set) :
    AtR (R := R) (C := C) n' (v.read (Elt Ideal) (v.writes (Elt Ideal) f L)) G := by
  intro r c hr
  by_cases hm : ∃ p ∈ L, ix2 r c ∈ p.1.set
  · exact View.read_writes_apply_of_pieces v f (G2 (R := R) (C := C) G) L hp _ hm
  · rw [View.read_writes_apply_of_forall_not_mem v f _ _ (fun p hp hy => hm ⟨p, hp, hy⟩)]
    exact h r c (by by_contra hn; exact hm (hc r c (by omega) hr))

theorem mem2 {R C R' C' a b : ℕ} {off : Fin 2 → ℕ} {inb : ∀ a, off a + (![R', C'] : Fin 2 → ℕ) a ≤ (⟨2, ![R, C]⟩ : Shape).size a} {r : Fin R} {c : Fin C} (e : off = ![a, b])
    (h1 : a ≤ r.val) (h2 : r.val < a + R') (h3 : b ≤ c.val) (h4 : c.val < b + C') : ix2 r c ∈ (Rect.unit (s := (⟨2, ![R, C]⟩ : Shape)) off ![R', C'] inb).set := by
  subst e
  rw [Rect.mem_set_unit]
  exact Fin.forall_fin_two.2 ⟨⟨h1, h2⟩, ⟨h3, h4⟩⟩

/-- A scale read from its table. -/
theorem rds {κ : Kind} {sp : Space} {R C : ℕ} (v : View sig κ sp (⟨2, ![R, C]⟩ : Shape) .f32) {f : v.ty.Contents (Elt Ideal)} {g : ℕ → ℕ → EReal}
    (h : At2 (R := R) (C := C) (v.read (Elt Ideal) f) g) (y : (⟨2, ![R, C]⟩ : Shape).Idx) : v.read (Elt Ideal) f y = g (y (0 : Fin 2)).val (y (1 : Fin 2)).val := At2.apply h y

theorem rdsc {κ : Kind} {sp : Space} {R C a b : ℕ} (v : View sig κ sp (⟨2, ![R, C]⟩ : Shape) .f32) {f : v.ty.Contents (Elt Ideal)} {g : ℕ → ℕ → EReal} {off : Fin 2 → ℕ}
    {inb : ∀ a, off a + (![1, 1] : Fin 2 → ℕ) a ≤ (⟨2, ![R, C]⟩ : Shape).size a} (h : At2 (R := R) (C := C) (v.read (Elt Ideal) f) g) (e : off = ![a, b])
    (y : (⟨2, ![1, 1]⟩ : Shape).Idx) : v.readAt (Elt Ideal) (Rect.unit (s := (⟨2, ![R, C]⟩ : Shape)) off ![1, 1] inb).toLoadRect f y = g a b := by
  subst e
  refine (At2.apply (rd2f (R' := 1) (C' := 1) v h) y).trans ?_
  have h0 : (y (0 : Fin 2)).val = 0 := by have h : (y (0 : Fin 2)).val < 1 := (y (0 : Fin 2)).isLt; omega
  have h1 : (y (1 : Fin 2)).val = 0 := by have h : (y (1 : Fin 2)).val < 1 := (y (1 : Fin 2)).isLt; omega
  rw [h0, h1]; rfl
theorem pay8s {w : Vec Ideal S128x128 .fp8e4m3} {s : Elt Ideal .f32} {g} {σ : EReal} (h : At2 (R := 128) (C := 128) w g) (hs : s = σ) :
    At2 (R := 128) (C := 128) (k0_pay8 w s) (fun r c => g r c * σ) := hs ▸ pay8_at h
theorem wq_side (P : Inp) (k r c : ℕ) {off : Fin 2 → ℕ} (e : off = ![384 * k + 128 * r, 128 * c]) (a b : ℕ) (ha : a < 128) (hb : b < 128) :
    P.wqbC (off 0 + a) (off 1 + b) * P.wqbS (3 * k + r) c = WQ P (384 * k + (128 * r + a)) (128 * c + b) := by
  subst e
  show P.wqbC (384 * k + 128 * r + a) (128 * c + b) * _ = _
  unfold WQ
  rw [show (384 * k + (128 * r + a)) / 128 = 3 * k + r by omega, show (128 * c + b) / 128 = c by omega, ← Nat.add_assoc]
theorem wk_side (P : Inp) (k c : ℕ) {off off' : Fin 2 → ℕ} (e : off = ![128 * k, 128 * c]) (e' : off' = ![128 * k, 128 * c]) (a b : ℕ) (ha : a < 128) (hb : b < 128) :
    P.wkbC (off 0 + a) (off 1 + b) * P.wkbS k c = WK P (off' 0 + a) (off' 1 + b) := by
  subst e e'
  show P.wkbC (128 * k + a) (128 * c + b) * _ = WK P (128 * k + a) (128 * c + b)
  unfold WK
  rw [show (128 * k + a) / 128 = k by omega, show (128 * c + b) / 128 = c by omega]
end Cert.KernelIdeal.Val
-- ==== Proof.T1.lean ====
module

public import proofs.«01_k».proof.Proof.Gen.KernelIdeal.Frame
public import proofs.«01_k».proof.Proof.Gen.KernelIdeal.Skeleton
public import proofs.«01_k».proof.Proof.OffW
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
/-- The boxes a trip stores its weight rows in, the last first. -/
def wqRects : List (Rect S384x1536) :=
  [Rect.unit (s := S384x1536) ![256, 1408] S128x128.size (by decide),
   Rect.unit (s := S384x1536) ![256, 1280] S128x128.size (by decide),
   Rect.unit (s := S384x1536) ![256, 1152] S128x128.size (by decide),
   Rect.unit (s := S384x1536) ![256, 1024] S128x128.size (by decide),
   Rect.unit (s := S384x1536) ![256, 896] S128x128.size (by decide),
   Rect.unit (s := S384x1536) ![256, 768] S128x128.size (by decide),
   Rect.unit (s := S384x1536) ![256, 640] S128x128.size (by decide),
   Rect.unit (s := S384x1536) ![256, 512] S128x128.size (by decide),
   Rect.unit (s := S384x1536) ![256, 384] S128x128.size (by decide),
   Rect.unit (s := S384x1536) ![256, 256] S128x128.size (by decide),
   Rect.unit (s := S384x1536) ![256, 128] S128x128.size (by decide),
   Rect.unit (s := S384x1536) ![256, 0] S128x128.size (by decide),
   Rect.unit (s := S384x1536) ![128, 1408] S128x128.size (by decide),
   Rect.unit (s := S384x1536) ![128, 1280] S128x128.size (by decide),
   Rect.unit (s := S384x1536) ![128, 1152] S128x128.size (by decide),
   Rect.unit (s := S384x1536) ![128, 1024] S128x128.size (by decide),
   Rect.unit (s := S384x1536) ![128, 896] S128x128.size (by decide),
   Rect.unit (s := S384x1536) ![128, 768] S128x128.size (by decide),
   Rect.unit (s := S384x1536) ![128, 640] S128x128.size (by decide),
   Rect.unit (s := S384x1536) ![128, 512] S128x128.size (by decide),
   Rect.unit (s := S384x1536) ![128, 384] S128x128.size (by decide),
   Rect.unit (s := S384x1536) ![128, 256] S128x128.size (by decide),
   Rect.unit (s := S384x1536) ![128, 128] S128x128.size (by decide),
   Rect.unit (s := S384x1536) ![128, 0] S128x128.size (by decide),
   Rect.unit (s := S384x1536) ![0, 1408] S128x128.size (by decide),
   Rect.unit (s := S384x1536) ![0, 1280] S128x128.size (by decide),
   Rect.unit (s := S384x1536) ![0, 1152] S128x128.size (by decide),
   Rect.unit (s := S384x1536) ![0, 1024] S128x128.size (by decide),
   Rect.unit (s := S384x1536) ![0, 896] S128x128.size (by decide),
   Rect.unit (s := S384x1536) ![0, 768] S128x128.size (by decide),
   Rect.unit (s := S384x1536) ![0, 640] S128x128.size (by decide),
   Rect.unit (s := S384x1536) ![0, 512] S128x128.size (by decide),
   Rect.unit (s := S384x1536) ![0, 384] S128x128.size (by decide),
   Rect.unit (s := S384x1536) ![0, 256] S128x128.size (by decide),
   Rect.unit (s := S384x1536) ![0, 128] S128x128.size (by decide),
   Rect.unit (s := S384x1536) ![0, 0] S128x128.size (by decide)]

set_option maxHeartbeats 400000 in
theorem t1_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (h1 : k0_cond1 i = 1#1) (k : Fin k0_t1_loop.trips) (Q : Unit → sProp 𝕄)
    (x3 : Vec Ideal S24x12 .f32) (x12 : Vec Ideal S3072x1536 .fp8e4m3) (x18 : Vec Ideal S2048x1536 .bf16) (x19 : Vec Ideal S512x1536 .bf16) (x20 : Vec Ideal S512x1536 .bf16) (x22 : Vec Ideal S384x1536 .bf16) (P : Inp)
    (h3 : At2 (R := 24) (C := 12) x3 P.wqbS) (h12 : At2 (R := 3072) (C := 1536) x12 P.wqbC)
    (h18 : AtR (R := 2048) (C := 1536) (256 * k.val) x18 (fun n c => WQ P (192 * (n / 128) + n % 128) c)) (h19 : AtR (R := 512) (C := 1536) (64 * k.val) x19 (fun n c => WQ P (192 * (n / 32) + (128 + 2 * (n % 32))) c)) (h20 : AtR (R := 512) (C := 1536) (64 * k.val) x20 (fun n c => WQ P (192 * (n / 32) + (129 + 2 * (n % 32))) c)) :
    iprop(owns (c : Thread nD τ) arg3 fullShare x3 ∗ owns (c : Thread nD τ) arg12 fullShare x12 ∗ owns (c : Thread nD τ) arg18 fullShare x18 ∗ owns (c : Thread nD τ) arg19 fullShare x19 ∗ owns (c : Thread nD τ) arg20 fullShare x20 ∗ owns (c : Thread nD τ) arg22 fullShare x22 ∗ (∀ y18 y19 y20 y22, (owns (c : Thread nD τ) arg3 fullShare x3 ∗ owns (c : Thread nD τ) arg12 fullShare x12 ∗ owns (c : Thread nD τ) arg18 fullShare y18 ∗ owns (c : Thread nD τ) arg19 fullShare y19 ∗ owns (c : Thread nD τ) arg20 fullShare y20 ∗ owns (c : Thread nD τ) arg22 fullShare y22 ∗ ⌜AtR (R := 2048) (C := 1536) (256 * (k.val + 1)) y18 (fun n c => WQ P (192 * (n / 128) + n % 128) c) ∧ AtR (R := 512) (C := 1536) (64 * (k.val + 1)) y19 (fun n c => WQ P (192 * (n / 32) + (128 + 2 * (n % 32))) c) ∧ AtR (R := 512) (C := 1536) (64 * (k.val + 1)) y20 (fun n c => WQ P (192 * (n / 32) + (129 + 2 * (n % 32))) c)⌝) -∗ Q ()))
      ⊢ wp frame (wpE (defs₀ (F := Ideal)) Variants.none (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 h1 k ()) Q := by
  unfold k0_t1_body owns
  iintro ⟨⟨%f3, %hf3, H3⟩, ⟨%f12, %hf12, H12⟩, ⟨%f18, %hf18, H18⟩, ⟨%f19, %hf19, H19⟩, ⟨%f20, %hf20, H20⟩, ⟨%f22, %hf22, H22⟩, Hk⟩
  subst hf3; subst hf12; subst hf18; subst hf19; subst hf20; subst hf22
  sl_exec_parts
  sl_step
  iapply Hk
  isplitl [H3]
  · iexists f3
    isplitr; · ipureintro; rfl
    iexact H3
  isplitl [H12]
  · iexists f12
    isplitr; · ipureintro; rfl
    iexact H12
  isplitl [H18]
  · iexists _
    isplitr; swap; · iexact H18
    ipureintro; rfl
  isplitl [H19]
  · iexists _
    isplitr; swap; · iexact H19
    ipureintro; rfl
  isplitl [H20]
  · iexists _
    isplitr; swap; · iexact H20
    ipureintro; rfl
  isplitl [H22]
  · iexists _
    isplitr; swap; · iexact H22
    ipureintro; rfl
  ipureintro
  have hX : ∀ f, At2 (R := 384) (C := 1536) (arg22.view.read (Elt Ideal) (arg22.view.writes (Elt Ideal) f (Cert.KernelIdeal.Val.t1_run.sl.H22_36 c i arg3 arg12 h1 k f3 f12))) (fun a b => WQ P (384 * k.val + a) b) := by
    intro f
    refine all2b _ ?_ (cover_of_rects wqRects ![128, 128] (by decide +kernel) rfl)
    refine List.forall_mem_cons.2 ⟨?_, ?_⟩
    · exact pc2b (off := ![256, 1408]) (R' := 128) (C' := 128) (inb := by decide) (fun a b => WQ P (384 * k.val + a) b) (pay8s (rd2q (off := k0_off23 k 256#32) (R' := 128) (C' := 128) _ h12) (rdsc _ h3 (off24_2 k) _)) (wq_side P k.val 2 11 (off23_2 k))
    refine List.forall_mem_cons.2 ⟨?_, ?_⟩
    · exact pc2b (off := ![256, 1280]) (R' := 128) (C' := 128) (inb := by decide) (fun a b => WQ P (384 * k.val + a) b) (pay8s (rd2q (off := k0_off21 k 256#32) (R' := 128) (C' := 128) _ h12) (rdsc _ h3 (off22_2 k) _)) (wq_side P k.val 2 10 (off21_2 k))
    refine List.forall_mem_cons.2 ⟨?_, ?_⟩
    · exact pc2b (off := ![256, 1152]) (R' := 128) (C' := 128) (inb := by decide) (fun a b => WQ P (384 * k.val + a) b) (pay8s (rd2q (off := k0_off19 k 256#32) (R' := 128) (C' := 128) _ h12) (rdsc _ h3 (off20_2 k) _)) (wq_side P k.val 2 9 (off19_2 k))
    refine List.forall_mem_cons.2 ⟨?_, ?_⟩
    · exact pc2b (off := ![256, 1024]) (R' := 128) (C' := 128) (inb := by decide) (fun a b => WQ P (384 * k.val + a) b) (pay8s (rd2q (off := k0_off17 k 256#32) (R' := 128) (C' := 128) _ h12) (rdsc _ h3 (off18_2 k) _)) (wq_side P k.val 2 8 (off17_2 k))
    refine List.forall_mem_cons.2 ⟨?_, ?_⟩
    · exact pc2b (off := ![256, 896]) (R' := 128) (C' := 128) (inb := by decide) (fun a b => WQ P (384 * k.val + a) b) (pay8s (rd2q (off := k0_off15 k 256#32) (R' := 128) (C' := 128) _ h12) (rdsc _ h3 (off16_2 k) _)) (wq_side P k.val 2 7 (off15_2 k))
    refine List.forall_mem_cons.2 ⟨?_, ?_⟩
    · exact pc2b (off := ![256, 768]) (R' := 128) (C' := 128) (inb := by decide) (fun a b => WQ P (384 * k.val + a) b) (pay8s (rd2q (off := k0_off13 k 256#32) (R' := 128) (C' := 128) _ h12) (rdsc _ h3 (off14_2 k) _)) (wq_side P k.val 2 6 (off13_2 k))
    refine List.forall_mem_cons.2 ⟨?_, ?_⟩
    · exact pc2b (off := ![256, 640]) (R' := 128) (C' := 128) (inb := by decide) (fun a b => WQ P (384 * k.val + a) b) (pay8s (rd2q (off := k0_off11 k 256#32) (R' := 128) (C' := 128) _ h12) (rdsc _ h3 (off12_2 k) _)) (wq_side P k.val 2 5 (off11_2 k))
    refine List.forall_mem_cons.2 ⟨?_, ?_⟩
    · exact pc2b (off := ![256, 512]) (R' := 128) (C' := 128) (inb := by decide) (fun a b => WQ P (384 * k.val + a) b) (pay8s (rd2q (off := k0_off9 k 256#32) (R' := 128) (C' := 128) _ h12) (rdsc _ h3 (off10_2 k) _)) (wq_side P k.val 2 4 (off9_2 k))
    refine List.forall_mem_cons.2 ⟨?_, ?_⟩
    · exact pc2b (off := ![256, 384]) (R' := 128) (C' := 128) (inb := by decide) (fun a b => WQ P (384 * k.val + a) b) (pay8s (rd2q (off := k0_off7 k 256#32) (R' := 128) (C' := 128) _ h12) (rdsc _ h3 (off8_2 k) _)) (wq_side P k.val 2 3 (off7_2 k))
    refine List.forall_mem_cons.2 ⟨?_, ?_⟩
    · exact pc2b (off := ![256, 256]) (R' := 128) (C' := 128) (inb := by decide) (fun a b => WQ P (384 * k.val + a) b) (pay8s (rd2q (off := k0_off5 k 256#32) (R' := 128) (C' := 128) _ h12) (rdsc _ h3 (off6_2 k) _)) (wq_side P k.val 2 2 (off5_2 k))
    refine List.forall_mem_cons.2 ⟨?_, ?_⟩
    · exact pc2b (off := ![256, 128]) (R' := 128) (C' := 128) (inb := by decide) (fun a b => WQ P (384 * k.val + a) b) (pay8s (rd2q (off := k0_off3 k 256#32) (R' := 128) (C' := 128) _ h12) (rdsc _ h3 (off4_2 k) _)) (wq_side P k.val 2 1 (off3_2 k))
    refine List.forall_mem_cons.2 ⟨?_, ?_⟩
    · exact pc2b (off := ![256, 0]) (R' := 128) (C' := 128) (inb := by decide) (fun a b => WQ P (384 * k.val + a) b) (pay8s (rd2q (off := k0_off1 k 256#32) (R' := 128) (C' := 128) _ h12) (rdsc _ h3 (off2_2 k) _)) (wq_side P k.val 2 0 (off1_2 k))
    refine List.forall_mem_cons.2 ⟨?_, ?_⟩
    · exact pc2b (off := ![128, 1408]) (R' := 128) (C' := 128) (inb := by decide) (fun a b => WQ P (384 * k.val + a) b) (pay8s (rd2q (off := k0_off23 k 128#32) (R' := 128) (C' := 128) _ h12) (rdsc _ h3 (off24_1 k) _)) (wq_side P k.val 1 11 (off23_1 k))
    refine List.forall_mem_cons.2 ⟨?_, ?_⟩
    · exact pc2b (off := ![128, 1280]) (R' := 128) (C' := 128) (inb := by decide) (fun a b => WQ P (384 * k.val + a) b) (pay8s (rd2q (off := k0_off21 k 128#32) (R' := 128) (C' := 128) _ h12) (rdsc _ h3 (off22_1 k) _)) (wq_side P k.val 1 10 (off21_1 k))
    refine List.forall_mem_cons.2 ⟨?_, ?_⟩
    · exact pc2b (off := ![128, 1152]) (R' := 128) (C' := 128) (inb := by decide) (fun a b => WQ P (384 * k.val + a) b) (pay8s (rd2q (off := k0_off19 k 128#32) (R' := 128) (C' := 128) _ h12) (rdsc _ h3 (off20_1 k) _)) (wq_side P k.val 1 9 (off19_1 k))
    refine List.forall_mem_cons.2 ⟨?_, ?_⟩
    · exact pc2b (off := ![128, 1024]) (R' := 128) (C' := 128) (inb := by decide) (fun a b => WQ P (384 * k.val + a) b) (pay8s (rd2q (off := k0_off17 k 128#32) (R' := 128) (C' := 128) _ h12) (rdsc _ h3 (off18_1 k) _)) (wq_side P k.val 1 8 (off17_1 k))
    refine List.forall_mem_cons.2 ⟨?_, ?_⟩
    · exact pc2b (off := ![128, 896]) (R' := 128) (C' := 128) (inb := by decide) (fun a b => WQ P (384 * k.val + a) b) (pay8s (rd2q (off := k0_off15 k 128#32) (R' := 128) (C' := 128) _ h12) (rdsc _ h3 (off16_1 k) _)) (wq_side P k.val 1 7 (off15_1 k))
    refine List.forall_mem_cons.2 ⟨?_, ?_⟩
    · exact pc2b (off := ![128, 768]) (R' := 128) (C' := 128) (inb := by decide) (fun a b => WQ P (384 * k.val + a) b) (pay8s (rd2q (off := k0_off13 k 128#32) (R' := 128) (C' := 128) _ h12) (rdsc _ h3 (off14_1 k) _)) (wq_side P k.val 1 6 (off13_1 k))
    refine List.forall_mem_cons.2 ⟨?_, ?_⟩
    · exact pc2b (off := ![128, 640]) (R' := 128) (C' := 128) (inb := by decide) (fun a b => WQ P (384 * k.val + a) b) (pay8s (rd2q (off := k0_off11 k 128#32) (R' := 128) (C' := 128) _ h12) (rdsc _ h3 (off12_1 k) _)) (wq_side P k.val 1 5 (off11_1 k))
    refine List.forall_mem_cons.2 ⟨?_, ?_⟩
    · exact pc2b (off := ![128, 512]) (R' := 128) (C' := 128) (inb := by decide) (fun a b => WQ P (384 * k.val + a) b) (pay8s (rd2q (off := k0_off9 k 128#32) (R' := 128) (C' := 128) _ h12) (rdsc _ h3 (off10_1 k) _)) (wq_side P k.val 1 4 (off9_1 k))
    refine List.forall_mem_cons.2 ⟨?_, ?_⟩
    · exact pc2b (off := ![128, 384]) (R' := 128) (C' := 128) (inb := by decide) (fun a b => WQ P (384 * k.val + a) b) (pay8s (rd2q (off := k0_off7 k 128#32) (R' := 128) (C' := 128) _ h12) (rdsc _ h3 (off8_1 k) _)) (wq_side P k.val 1 3 (off7_1 k))
    refine List.forall_mem_cons.2 ⟨?_, ?_⟩
    · exact pc2b (off := ![128, 256]) (R' := 128) (C' := 128) (inb := by decide) (fun a b => WQ P (384 * k.val + a) b) (pay8s (rd2q (off := k0_off5 k 128#32) (R' := 128) (C' := 128) _ h12) (rdsc _ h3 (off6_1 k) _)) (wq_side P k.val 1 2 (off5_1 k))
    refine List.forall_mem_cons.2 ⟨?_, ?_⟩
    · exact pc2b (off := ![128, 128]) (R' := 128) (C' := 128) (inb := by decide) (fun a b => WQ P (384 * k.val + a) b) (pay8s (rd2q (off := k0_off3 k 128#32) (R' := 128) (C' := 128) _ h12) (rdsc _ h3 (off4_1 k) _)) (wq_side P k.val 1 1 (off3_1 k))
    refine List.forall_mem_cons.2 ⟨?_, ?_⟩
    · exact pc2b (off := ![128, 0]) (R' := 128) (C' := 128) (inb := by decide) (fun a b => WQ P (384 * k.val + a) b) (pay8s (rd2q (off := k0_off1 k 128#32) (R' := 128) (C' := 128) _ h12) (rdsc _ h3 (off2_1 k) _)) (wq_side P k.val 1 0 (off1_1 k))
    refine List.forall_mem_cons.2 ⟨?_, ?_⟩
    · exact pc2b (off := ![0, 1408]) (R' := 128) (C' := 128) (inb := by decide) (fun a b => WQ P (384 * k.val + a) b) (pay8s (rd2q (off := k0_off23 k 0#32) (R' := 128) (C' := 128) _ h12) (rdsc _ h3 (off24_0 k) _)) (wq_side P k.val 0 11 (off23_0 k))
    refine List.forall_mem_cons.2 ⟨?_, ?_⟩
    · exact pc2b (off := ![0, 1280]) (R' := 128) (C' := 128) (inb := by decide) (fun a b => WQ P (384 * k.val + a) b) (pay8s (rd2q (off := k0_off21 k 0#32) (R' := 128) (C' := 128) _ h12) (rdsc _ h3 (off22_0 k) _)) (wq_side P k.val 0 10 (off21_0 k))
    refine List.forall_mem_cons.2 ⟨?_, ?_⟩
    · exact pc2b (off := ![0, 1152]) (R' := 128) (C' := 128) (inb := by decide) (fun a b => WQ P (384 * k.val + a) b) (pay8s (rd2q (off := k0_off19 k 0#32) (R' := 128) (C' := 128) _ h12) (rdsc _ h3 (off20_0 k) _)) (wq_side P k.val 0 9 (off19_0 k))
    refine List.forall_mem_cons.2 ⟨?_, ?_⟩
    · exact pc2b (off := ![0, 1024]) (R' := 128) (C' := 128) (inb := by decide) (fun a b => WQ P (384 * k.val + a) b) (pay8s (rd2q (off := k0_off17 k 0#32) (R' := 128) (C' := 128) _ h12) (rdsc _ h3 (off18_0 k) _)) (wq_side P k.val 0 8 (off17_0 k))
    refine List.forall_mem_cons.2 ⟨?_, ?_⟩
    · exact pc2b (off := ![0, 896]) (R' := 128) (C' := 128) (inb := by decide) (fun a b => WQ P (384 * k.val + a) b) (pay8s (rd2q (off := k0_off15 k 0#32) (R' := 128) (C' := 128) _ h12) (rdsc _ h3 (off16_0 k) _)) (wq_side P k.val 0 7 (off15_0 k))
    refine List.forall_mem_cons.2 ⟨?_, ?_⟩
    · exact pc2b (off := ![0, 768]) (R' := 128) (C' := 128) (inb := by decide) (fun a b => WQ P (384 * k.val + a) b) (pay8s (rd2q (off := k0_off13 k 0#32) (R' := 128) (C' := 128) _ h12) (rdsc _ h3 (off14_0 k) _)) (wq_side P k.val 0 6 (off13_0 k))
    refine List.forall_mem_cons.2 ⟨?_, ?_⟩
    · exact pc2b (off := ![0, 640]) (R' := 128) (C' := 128) (inb := by decide) (fun a b => WQ P (384 * k.val + a) b) (pay8s (rd2q (off := k0_off11 k 0#32) (R' := 128) (C' := 128) _ h12) (rdsc _ h3 (off12_0 k) _)) (wq_side P k.val 0 5 (off11_0 k))
    refine List.forall_mem_cons.2 ⟨?_, ?_⟩
    · exact pc2b (off := ![0, 512]) (R' := 128) (C' := 128) (inb := by decide) (fun a b => WQ P (384 * k.val + a) b) (pay8s (rd2q (off := k0_off9 k 0#32) (R' := 128) (C' := 128) _ h12) (rdsc _ h3 (off10_0 k) _)) (wq_side P k.val 0 4 (off9_0 k))
    refine List.forall_mem_cons.2 ⟨?_, ?_⟩
    · exact pc2b (off := ![0, 384]) (R' := 128) (C' := 128) (inb := by decide) (fun a b => WQ P (384 * k.val + a) b) (pay8s (rd2q (off := k0_off7 k 0#32) (R' := 128) (C' := 128) _ h12) (rdsc _ h3 (off8_0 k) _)) (wq_side P k.val 0 3 (off7_0 k))
    refine List.forall_mem_cons.2 ⟨?_, ?_⟩
    · exact pc2b (off := ![0, 256]) (R' := 128) (C' := 128) (inb := by decide) (fun a b => WQ P (384 * k.val + a) b) (pay8s (rd2q (off := k0_off5 k 0#32) (R' := 128) (C' := 128) _ h12) (rdsc _ h3 (off6_0 k) _)) (wq_side P k.val 0 2 (off5_0 k))
    refine List.forall_mem_cons.2 ⟨?_, ?_⟩
    · exact pc2b (off := ![0, 128]) (R' := 128) (C' := 128) (inb := by decide) (fun a b => WQ P (384 * k.val + a) b) (pay8s (rd2q (off := k0_off3 k 0#32) (R' := 128) (C' := 128) _ h12) (rdsc _ h3 (off4_0 k) _)) (wq_side P k.val 0 1 (off3_0 k))
    refine List.forall_mem_cons.2 ⟨?_, ?_⟩
    · exact pc2b (off := ![0, 0]) (R' := 128) (C' := 128) (inb := by decide) (fun a b => WQ P (384 * k.val + a) b) (pay8s (rd2q (off := k0_off1 k 0#32) (R' := 128) (C' := 128) _ h12) (rdsc _ h3 (off2_0 k) _)) (wq_side P k.val 0 0 (off1_0 k))
    exact fun _ h => absurd h List.not_mem_nil
  refine ⟨?_, ?_, ?_⟩
  · refine band2b _ h18 ?_ ?_
    · refine List.forall_mem_cons.2 ⟨?_, ?_⟩
      · exact pc2b (off := k0_off25 k 1#32) (R' := 128) (C' := 1536) (inb := k0_off25_inb i k h1 1) (fun n c => WQ P (192 * (n / 128) + n % 128) c) (copy_at (rd2b (off := ![192, 0]) (R' := 128) (C' := 1536) _ (hX _))) (fun a b ha hb => by rw [off25_1 k]; show WQ P (384 * k.val + (192 + a)) (0 + b) = (fun n c => WQ P (192 * (n / 128) + n % 128) c) (256 * k.val + 128 + a) (0 + b); show WQ P _ _ = WQ P _ _; congr 1; omega)
      refine List.forall_mem_cons.2 ⟨?_, ?_⟩
      · exact pc2b (off := k0_off25 k 0#32) (R' := 128) (C' := 1536) (inb := k0_off25_inb i k h1 0) (fun n c => WQ P (192 * (n / 128) + n % 128) c) (copy_at (rd2b (off := ![0, 0]) (R' := 128) (C' := 1536) _ (hX _))) (fun a b ha hb => by rw [off25_0 k]; show WQ P (384 * k.val + (0 + a)) (0 + b) = (fun n c => WQ P (192 * (n / 128) + n % 128) c) (256 * k.val + 0 + a) (0 + b); show WQ P _ _ = WQ P _ _; congr 1; omega)
      exact fun _ h => absurd h List.not_mem_nil
    · intro r c g1 g2
      have hc := c.isLt
      obtain h | h : 256 * k.val + 128 ≤ r.val ∨ r.val < 256 * k.val + 128 := by omega
      · exact ⟨_, List.mem_cons_self, mem2 (inb := k0_off25_inb i k h1 1) (off25_1 k) (by omega) (by omega) (by omega) (by omega)⟩
      · exact ⟨_, (List.mem_cons_of_mem _ List.mem_cons_self), mem2 (inb := k0_off25_inb i k h1 0) (off25_0 k) (by omega) (by omega) (by omega) (by omega)⟩
  · refine band2b _ h19 ?_ ?_
    · refine List.forall_mem_cons.2 ⟨?_, ?_⟩
      · exact pc2b (off := k0_off26 k 1#32) (R' := 32) (C' := 1536) (inb := k0_off26_inb i k h1 1) (fun n c => WQ P (192 * (n / 32) + (128 + 2 * (n % 32))) c) (even_at (rd2b (off := ![320, 0]) (R' := 64) (C' := 1536) _ (hX _))) (fun a b ha hb => by rw [off26_1 k]; show WQ P (384 * k.val + (320 + 2 * a)) (0 + b) = (fun n c => WQ P (192 * (n / 32) + (128 + 2 * (n % 32))) c) (64 * k.val + 32 + a) (0 + b); show WQ P _ _ = WQ P _ _; congr 1; omega)
      refine List.forall_mem_cons.2 ⟨?_, ?_⟩
      · exact pc2b (off := k0_off26 k 0#32) (R' := 32) (C' := 1536) (inb := k0_off26_inb i k h1 0) (fun n c => WQ P (192 * (n / 32) + (128 + 2 * (n % 32))) c) (even_at (rd2b (off := ![128, 0]) (R' := 64) (C' := 1536) _ (hX _))) (fun a b ha hb => by rw [off26_0 k]; show WQ P (384 * k.val + (128 + 2 * a)) (0 + b) = (fun n c => WQ P (192 * (n / 32) + (128 + 2 * (n % 32))) c) (64 * k.val + 0 + a) (0 + b); show WQ P _ _ = WQ P _ _; congr 1; omega)
      exact fun _ h => absurd h List.not_mem_nil
    · intro r c g1 g2
      have hc := c.isLt
      obtain h | h : 64 * k.val + 32 ≤ r.val ∨ r.val < 64 * k.val + 32 := by omega
      · exact ⟨_, List.mem_cons_self, mem2 (inb := k0_off26_inb i k h1 1) (off26_1 k) (by omega) (by omega) (by omega) (by omega)⟩
      · exact ⟨_, (List.mem_cons_of_mem _ List.mem_cons_self), mem2 (inb := k0_off26_inb i k h1 0) (off26_0 k) (by omega) (by omega) (by omega) (by omega)⟩
  · refine band2b _ h20 ?_ ?_
    · refine List.forall_mem_cons.2 ⟨?_, ?_⟩
      · exact pc2b (off := k0_off26 k 1#32) (R' := 32) (C' := 1536) (inb := k0_off26_inb i k h1 1) (fun n c => WQ P (192 * (n / 32) + (129 + 2 * (n % 32))) c) (odd_at (rd2b (off := ![320, 0]) (R' := 64) (C' := 1536) _ (hX _))) (fun a b ha hb => by rw [off26_1 k]; show WQ P (384 * k.val + (320 + (2 * a + 1))) (0 + b) = (fun n c => WQ P (192 * (n / 32) + (129 + 2 * (n % 32))) c) (64 * k.val + 32 + a) (0 + b); show WQ P _ _ = WQ P _ _; congr 1; omega)
      refine List.forall_mem_cons.2 ⟨?_, ?_⟩
      · exact pc2b (off := k0_off26 k 0#32) (R' := 32) (C' := 1536) (inb := k0_off26_inb i k h1 0) (fun n c => WQ P (192 * (n / 32) + (129 + 2 * (n % 32))) c) (odd_at (rd2b (off := ![128, 0]) (R' := 64) (C' := 1536) _ (hX _))) (fun a b ha hb => by rw [off26_0 k]; show WQ P (384 * k.val + (128 + (2 * a + 1))) (0 + b) = (fun n c => WQ P (192 * (n / 32) + (129 + 2 * (n % 32))) c) (64 * k.val + 0 + a) (0 + b); show WQ P _ _ = WQ P _ _; congr 1; omega)
      exact fun _ h => absurd h List.not_mem_nil
    · intro r c g1 g2
      have hc := c.isLt
      obtain h | h : 64 * k.val + 32 ≤ r.val ∨ r.val < 64 * k.val + 32 := by omega
      · exact ⟨_, List.mem_cons_self, mem2 (inb := k0_off26_inb i k h1 1) (off26_1 k) (by omega) (by omega) (by omega) (by omega)⟩
      · exact ⟨_, (List.mem_cons_of_mem _ List.mem_cons_self), mem2 (inb := k0_off26_inb i k h1 0) (off26_0 k) (by omega) (by omega) (by omega) (by omega)⟩
end Cert.KernelIdeal.Val
-- ==== Proof.T2.lean ====
module

public import proofs.«01_k».proof.Proof.Gen.KernelIdeal.Frame
public import proofs.«01_k».proof.Proof.Gen.KernelIdeal.Skeleton
public import proofs.«01_k».proof.Proof.OffW
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec

set_option maxHeartbeats 400000 in
theorem t2_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (h1 : k0_cond1 i = 1#1) (k : Fin k0_t2_loop.trips) (Q : Unit → sProp 𝕄)
    (x4 : Vec Ideal S16x4 .f32) (x13 : Vec Ideal S2048x512 .fp8e4m3) (x21 : Vec Ideal S2048x512 .bf16) (P : Inp)
    (h4 : At2 (R := 16) (C := 4) x4 P.wkbS) (h13 : At2 (R := 2048) (C := 512) x13 P.wkbC)
    (h21 : AtR (R := 2048) (C := 512) (128 * k.val) x21 (WK P)) :
    iprop(owns (c : Thread nD τ) arg4 fullShare x4 ∗ owns (c : Thread nD τ) arg13 fullShare x13 ∗ owns (c : Thread nD τ) arg21 fullShare x21 ∗ (∀ y21, (owns (c : Thread nD τ) arg4 fullShare x4 ∗ owns (c : Thread nD τ) arg13 fullShare x13 ∗ owns (c : Thread nD τ) arg21 fullShare y21 ∗ ⌜AtR (R := 2048) (C := 512) (128 * (k.val + 1)) y21 (WK P)⌝) -∗ Q ()))
      ⊢ wp frame (wpE (defs₀ (F := Ideal)) Variants.none (c : Thread nD τ) none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 h1 k ()) Q := by
  unfold k0_t2_body owns
  iintro ⟨⟨%f4, %hf4, H4⟩, ⟨%f13, %hf13, H13⟩, ⟨%f21, %hf21, H21⟩, Hk⟩
  subst hf4; subst hf13; subst hf21
  sl_exec_parts
  sl_step
  iapply Hk
  isplitl [H4]
  · iexists f4
    isplitr; · ipureintro; rfl
    iexact H4
  isplitl [H13]
  · iexists f13
    isplitr; · ipureintro; rfl
    iexact H13
  isplitl [H21]
  · iexists _
    isplitr; swap; · iexact H21
    ipureintro; rfl
  ipureintro
  refine band2b _ h21 ?_ ?_
  · refine List.forall_mem_cons.2 ⟨?_, ?_⟩
    · exact pc2b (off := k0_off34 k) (R' := 128) (C' := 128) (inb := k0_off34_inb i k h1) (WK P) (pay8s (rd2q (off := k0_off34 k) (R' := 128) (C' := 128) _ h13) (rdsc _ h4 (off33_eq k) _)) (wk_side P k.val 3 (off34_eq k) (off34_eq k))
    refine List.forall_mem_cons.2 ⟨?_, ?_⟩
    · exact pc2b (off := k0_off32 k) (R' := 128) (C' := 128) (inb := k0_off32_inb i k h1) (WK P) (pay8s (rd2q (off := k0_off32 k) (R' := 128) (C' := 128) _ h13) (rdsc _ h4 (off31_eq k) _)) (wk_side P k.val 2 (off32_eq k) (off32_eq k))
    refine List.forall_mem_cons.2 ⟨?_, ?_⟩
    · exact pc2b (off := k0_off30 k) (R' := 128) (C' := 128) (inb := k0_off30_inb i k h1) (WK P) (pay8s (rd2q (off := k0_off30 k) (R' := 128) (C' := 128) _ h13) (rdsc _ h4 (off29_eq k) _)) (wk_side P k.val 1 (off30_eq k) (off30_eq k))
    refine List.forall_mem_cons.2 ⟨?_, ?_⟩
    · exact pc2b (off := k0_off28 k) (R' := 128) (C' := 128) (inb := k0_off28_inb i k h1) (WK P) (pay8s (rd2q (off := k0_off28 k) (R' := 128) (C' := 128) _ h13) (rdsc _ h4 (off27_eq k) _)) (wk_side P k.val 0 (off28_eq k) (off28_eq k))
    exact fun _ h => absurd h List.not_mem_nil
  · intro r c g1 g2
    have hc := c.isLt
    obtain h | h | h | h : 384 ≤ c.val ∨ (256 ≤ c.val ∧ c.val < 384) ∨ (128 ≤ c.val ∧ c.val < 256) ∨ c.val < 128 := by omega
    · exact ⟨_, List.mem_cons_self, mem2 (inb := k0_off34_inb i k h1) (off34_eq k) (by omega) (by omega) (by omega) (by omega)⟩
    · exact ⟨_, (List.mem_cons_of_mem _ List.mem_cons_self), mem2 (inb := k0_off32_inb i k h1) (off32_eq k) (by omega) (by omega) (by omega) (by omega)⟩
    · exact ⟨_, (List.mem_cons_of_mem _ (List.mem_cons_of_mem _ List.mem_cons_self)), mem2 (inb := k0_off30_inb i k h1) (off30_eq k) (by omega) (by omega) (by omega) (by omega)⟩
    · exact ⟨_, (List.mem_cons_of_mem _ (List.mem_cons_of_mem _ (List.mem_cons_of_mem _ List.mem_cons_self))), mem2 (inb := k0_off28_inb i k h1) (off28_eq k) (by omega) (by omega) (by omega) (by omega)⟩
end Cert.KernelIdeal.Val
-- ==== Proof.Best.lean ====
module

public import proofs.«01_k».proof.Proof.Gen.KernelIdeal.Frame
public import proofs.«01_k».proof.Proof.Gen.KernelIdeal.Skeleton
public import proofs.«01_k».proof.Proof.Offs
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
variable (P : Inp)

/-- Tokens of tile `t`'s query `q` that the diagonal tile and the `j` tiles from tile `lo` on give. -/
def Seen (t lo j s q k : ℕ) : Prop := k % 8 = s ∧ ((256 * t ≤ k ∧ k ≤ 256 * t + q) ∨ (256 * lo ≤ k ∧ k < 256 * (lo + j)))
open Classical in
/-- The greatest score over those of them that are `s` modulo eight. -/
def BEST (t lo j h s q : ℕ) : EReal := ⨆ k : Fin 8192, if Seen t lo j s q k.val then score P h k.val (256 * t + q) else ⊥

theorem best_le {t lo j h s q : ℕ} (x : EReal) : BEST P t lo j h s q ≤ x ↔ ∀ k < 8192, Seen t lo j s q k → score P h k (256 * t + q) ≤ x := by
  classical
  unfold BEST
  rw [iSup_le_iff]
  constructor
  · intro H k hk hs
    have := H ⟨k, hk⟩
    rwa [if_pos hs] at this
  · intro H k
    split
    · rename_i hs; exact H _ k.isLt hs
    · exact bot_le

theorem diag_best (t h : ℕ) (ht : t < 32) {k f : Vec Ideal S256x128 .bf16} {q : Vec Ideal S1x256x256 .bf16}
    (hk : At2 (R := 256) (C := 128) k (fun r n => KEY P (256 * t + r) (128 * h + n))) (hf : At2 (R := 256) (C := 128) f (fun r n => FEAT P (256 * t + r) n))
    (hq : At3 (A := 1) (B := 256) (C := 256) q (fun _ f q => QT P h f (256 * t + q))) :
    At3 (A := 1) (B := 8) (C := 256) (k0_pay219 k0_pay217 (k0_pay218 k f) q) (fun _ s q => BEST P t t 0 h s q) := by
  intro z s c
  obtain rfl : z = 0 := Subsingleton.elim _ _
  refine eq_of_forall_ge_iff fun x => (diag_at hk hf hq s c x).trans ((best_le P x).trans ?_).symm
  constructor
  · intro H r hr
    have := H (256 * t + (r.val * 8 + s.val)) (by omega) ⟨by omega, Or.inl ⟨by omega, by omega⟩⟩
    exact this
  · intro H k hk hs
    obtain ⟨h8, ⟨ha, hb⟩ | ⟨ha, hb⟩⟩ := hs
    · have := H ⟨(k - 256 * t) / 8, by omega⟩ (by show (k - 256 * t) / 8 * 8 + s.val ≤ c.val; omega)
      simp only [] at this
      rw [show 256 * t + ((k - 256 * t) / 8 * 8 + s.val) = k by omega] at this
      exact this
    · omega

theorem step_best (t lo j h : ℕ) (ht : t < 32) (hj : lo + j < t) {b : Vec Ideal S1x8x256 .f32} {k f : Vec Ideal S256x128 .bf16} {q : Vec Ideal S1x256x256 .bf16}
    (hb : At3 (A := 1) (B := 8) (C := 256) b (fun _ s q => BEST P t lo j h s q))
    (hk : At2 (R := 256) (C := 128) k (fun r n => KEY P (256 * (lo + j) + r) (128 * h + n))) (hf : At2 (R := 256) (C := 128) f (fun r n => FEAT P (256 * (lo + j) + r) n))
    (hq : At3 (A := 1) (B := 256) (C := 256) q (fun _ f q => QT P h f (256 * t + q))) :
    At3 (A := 1) (B := 8) (C := 256) (k0_pay62 b k f q) (fun _ s q => BEST P t lo (j + 1) h s q) := by
  intro z s c
  obtain rfl : z = 0 := Subsingleton.elim _ _
  refine eq_of_forall_ge_iff fun x => (step_at hk hf hq s c x).trans ?_
  rw [hb 0 s c, best_le, best_le]
  constructor
  · rintro ⟨H, H'⟩ k hk ⟨h8, h2⟩
    by_cases h3 : 256 * (lo + j) ≤ k ∧ k < 256 * (lo + j) + 256
    · have := H' ⟨(k - 256 * (lo + j)) / 8, by omega⟩
      simp only [] at this
      rw [show 256 * (lo + j) + ((k - 256 * (lo + j)) / 8 * 8 + s.val) = k by omega] at this
      exact this
    · exact H k hk ⟨h8, by omega⟩
  · intro H
    refine ⟨fun k hk hs => H k hk ⟨hs.1, by have := hs.2; omega⟩, fun r => ?_⟩
    exact H (256 * (lo + j) + (r.val * 8 + s.val)) (by omega) ⟨by omega, Or.inr ⟨by omega, by omega⟩⟩
end Cert.KernelIdeal.Val
-- ==== Proof.SegA.lean ====
module

public import proofs.«01_k».proof.Proof.Gen.KernelIdeal.Frame
public import proofs.«01_k».proof.Proof.Gen.KernelIdeal.Skeleton
public import proofs.«01_k».proof.Proof.T1
public import proofs.«01_k».proof.Proof.T2
public import proofs.«01_k».proof.Proof.Best
public import proofs.«01_k».proof.Proof.Offs
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
/-- The boxes the query features are stored in, the last first. -/
def cqRects : List (Rect S256x1536) :=
  [Rect.unit (s := S256x1536) ![0, 1408] S256x128.size (by decide),
   Rect.unit (s := S256x1536) ![0, 1280] S256x128.size (by decide),
   Rect.unit (s := S256x1536) ![0, 1152] S256x128.size (by decide),
   Rect.unit (s := S256x1536) ![0, 1024] S256x128.size (by decide),
   Rect.unit (s := S256x1536) ![0, 896] S256x128.size (by decide),
   Rect.unit (s := S256x1536) ![0, 768] S256x128.size (by decide),
   Rect.unit (s := S256x1536) ![0, 640] S256x128.size (by decide),
   Rect.unit (s := S256x1536) ![0, 512] S256x128.size (by decide),
   Rect.unit (s := S256x1536) ![0, 384] S256x128.size (by decide),
   Rect.unit (s := S256x1536) ![0, 256] S256x128.size (by decide),
   Rect.unit (s := S256x1536) ![0, 128] S256x128.size (by decide),
   Rect.unit (s := S256x1536) ![0, 0] S256x128.size (by decide)]
/-- The boxes the key features are stored in, the last first. -/
def ckvRects : List (Rect S256x512) :=
  [Rect.unit (s := S256x512) ![0, 384] S256x128.size (by decide),
   Rect.unit (s := S256x512) ![0, 256] S256x128.size (by decide),
   Rect.unit (s := S256x512) ![0, 128] S256x128.size (by decide),
   Rect.unit (s := S256x512) ![0, 0] S256x128.size (by decide)]
theorem cq_side (P : Inp) (T k : ℕ) : ∀ a b, a < 256 → b < 128 →
    (fun r c => (fun r c => P.cqC (T + r) c) ((![0, 128 * k] : Fin 2 → ℕ) 0 + r) ((![0, 128 * k] : Fin 2 → ℕ) 1 + c)) a b *
      (fun r c => (fun r c => P.cqS (T + r) c) ((![0, 0] : Fin 2 → ℕ) 0 + r) ((![0, 0] : Fin 2 → ℕ) 1 + c)) a k
      = (fun r c => CQ P (T + r) c) ((![0, 128 * k] : Fin 2 → ℕ) 0 + a) ((![0, 128 * k] : Fin 2 → ℕ) 1 + b) := by
  intro a b ha hb
  show P.cqC (T + (0 + a)) (128 * k + b) * P.cqS (T + (0 + a)) (0 + k) = CQ P (T + (0 + a)) (128 * k + b)
  unfold CQ
  rw [show (128 * k + b) / 128 = k by omega, Nat.zero_add k]
theorem ckv_side (P : Inp) (T k : ℕ) : ∀ a b, a < 256 → b < 128 →
    (fun r c => (fun r c => P.ckvC (T + r) c) ((![0, 128 * k] : Fin 2 → ℕ) 0 + r) ((![0, 128 * k] : Fin 2 → ℕ) 1 + c)) a b *
      (fun r c => (fun r c => P.ckvS (T + r) c) ((![0, 0] : Fin 2 → ℕ) 0 + r) ((![0, 0] : Fin 2 → ℕ) 1 + c)) a k
      = (fun r c => CKV P (T + r) c) ((![0, 128 * k] : Fin 2 → ℕ) 0 + a) ((![0, 128 * k] : Fin 2 → ℕ) 1 + b) := by
  intro a b ha hb
  show P.ckvC (T + (0 + a)) (128 * k + b) * P.ckvS (T + (0 + a)) (0 + k) = CKV P (T + (0 + a)) (128 * k + b)
  unfold CKV
  rw [show (128 * k + b) / 128 = k by omega, Nat.zero_add k]
theorem v3_eq (i : grid0.Coords) : Scalar.muli (BitVec.ofNat 32 (i 0).val) 256#32 = BitVec.ofNat 32 (256 * (i 0).val) := by
  have h : ∀ x : Fin 32, Scalar.muli (BitVec.ofNat 32 x.val) 256#32 = BitVec.ofNat 32 (256 * x.val) := by decide +kernel
  exact h (i 0)
/-- The weights of the first step, the latent features of a tile and its keys. -/
def segA (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (kk : BitVec 32 → BitVec 32 → Prog (TpuEff nD τ sig (Elt Ideal) Λ₀ .tc) PUnit) : Prog (TpuEff nD τ sig (Elt Ideal) Λ₀ .tc) PUnit := do
  let ⟨arg0, v3, v5, v34⟩ : Σ' (arg0 : BitVec 32) (v3 : BitVec 32) (v5 : FVec Ideal S256x12 .bf16), FVec Ideal S256x128 .bf16 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29
  let v70 : Vec Ideal S256x128 .fp8e4m3 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v34
  let ⟨v103, v108⟩ : Σ' (v103 : FVec Ideal S256x4 .bf16), FVec Ideal S256x128 .bf16 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v5 v70
  k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v103 v108
  kk arg0 v3

theorem key_side (P : Inp) (T : ℕ) : ∀ a b, a < 256 → b < 2048 →
    (fun (r n : ℕ) => ∑ c : Fin 512, (fun r c => CKV P (T + r) c) ((![0, 0] : Fin 2 → ℕ) 0 + r) ((![0, 0] : Fin 2 → ℕ) 1 + c.val) * (fun r c => WK P ((![0, 0] : Fin 2 → ℕ) 0 + r) ((![0, 0] : Fin 2 → ℕ) 1 + c)) n c.val) a b
      = (fun r n => KEY P (T + r) n) a b := by
  intro a b _ _
  unfold KEY
  refine Finset.sum_congr rfl fun k _ => ?_
  show CKV P (T + (0 + a)) (0 + k.val) * WK P (0 + b) (0 + k.val) = _
  rw [Nat.zero_add, Nat.zero_add, Nat.zero_add]
theorem run0_any {P : Inp} {t : ℕ} {X : Vec Ideal S16x256 .f32} (ht : t = 0) (hX : At2 (R := 16) (C := 256) X (fun _ _ => ⊥)) : RunAt P t X := by
  subst ht
  intro h q x
  rw [hX h q]
  simp
set_option maxHeartbeats 400000 in
theorem segA_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (kk : BitVec 32 → BitVec 32 → Prog (TpuEff nD τ sig (Elt Ideal) Λ₀ .tc) PUnit) (Q : PUnit → sProp 𝕄)
    (x3 : Vec Ideal S24x12 .f32) (x4 : Vec Ideal S16x4 .f32) (x5 : Vec Ideal S256x1536 .fp8e4m3) (x6 : Vec Ideal S256x12 .f32) (x7 : Vec Ideal S256x512 .fp8e4m3) (x8 : Vec Ideal S256x4 .f32) (x12 : Vec Ideal S3072x1536 .fp8e4m3) (x13 : Vec Ideal S2048x512 .fp8e4m3) (x18 : Vec Ideal S2048x1536 .bf16) (x19 : Vec Ideal S512x1536 .bf16) (x20 : Vec Ideal S512x1536 .bf16) (x21 : Vec Ideal S2048x512 .bf16) (x22 : Vec Ideal S384x1536 .bf16) (x23 : Vec Ideal S256x1536 .bf16) (x24 : Vec Ideal S256x512 .bf16) (x25 : Vec Ideal S8192x2048 .bf16) (x29 : Vec Ideal S16x256 .f32) (P : Inp)
    (h3 : At2 (R := 24) (C := 12) x3 P.wqbS) (h4 : At2 (R := 16) (C := 4) x4 P.wkbS)
    (h5 : At2 (R := 256) (C := 1536) x5 (fun r c => P.cqC (256 * (i 0).val + r) c)) (h6 : At2 (R := 256) (C := 12) x6 (fun r c => P.cqS (256 * (i 0).val + r) c))
    (h7 : At2 (R := 256) (C := 512) x7 (fun r c => P.ckvC (256 * (i 0).val + r) c)) (h8 : At2 (R := 256) (C := 4) x8 (fun r c => P.ckvS (256 * (i 0).val + r) c))
    (h12 : At2 (R := 3072) (C := 1536) x12 P.wqbC) (h13 : At2 (R := 2048) (C := 512) x13 P.wkbC)
    (hW : ¬ k0_cond1 i = 1#1 → At2 (R := 2048) (C := 1536) x18 (fun n c => WQ P (192 * (n / 128) + n % 128) c) ∧ At2 (R := 512) (C := 1536) x19 (fun n c => WQ P (192 * (n / 32) + (128 + 2 * (n % 32))) c) ∧ At2 (R := 512) (C := 1536) x20 (fun n c => WQ P (192 * (n / 32) + (129 + 2 * (n % 32))) c) ∧ At2 (R := 2048) (C := 512) x21 (WK P))
    (h25 : AtR (R := 8192) (C := 2048) (256 * (i 0).val) x25 (KEY P))
    (h29 : ¬ k0_cond1 i = 1#1 → RunAt P (i 0).val x29) (hbeg : k0_cond1 i = 1#1 → (i 0).val = 0) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg12 fullShare x12 ∗ owns (c : Thread nD τ) arg13 fullShare x13 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg29 fullShare x29 ∗ (∀ y18 y19 y20 y21 y22 y23 y24 y25 y29, (owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg12 fullShare x12 ∗ owns (c : Thread nD τ) arg13 fullShare x13 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22 ∗ owns (c : Thread nD τ) arg23 fullShare y23 ∗ owns (c : Thread nD τ) arg24 fullShare y24 ∗ owns (c : Thread nD τ) arg25 fullShare y25 ∗ owns (c : Thread nD τ) arg29 fullShare y29 ∗ ⌜(At2 (R := 2048) (C := 1536) y18 (fun n c => WQ P (192 * (n / 128) + n % 128) c) ∧ At2 (R := 512) (C := 1536) y19 (fun n c => WQ P (192 * (n / 32) + (128 + 2 * (n % 32))) c) ∧ At2 (R := 512) (C := 1536) y20 (fun n c => WQ P (192 * (n / 32) + (129 + 2 * (n % 32))) c) ∧ At2 (R := 2048) (C := 512) y21 (WK P)) ∧ At2 (R := 256) (C := 1536) y23 (fun r c => CQ P (256 * (i 0).val + r) c) ∧
      AtR (R := 8192) (C := 2048) (256 * (i 0).val + 256) y25 (KEY P) ∧ RunAt P (i 0).val y29⌝) -∗ wp frame (wpE (defs₀ (F := Ideal)) Variants.none (c : Thread nD τ) none) Set.univ (kk (BitVec.ofNat 32 (i 0).val) (BitVec.ofNat 32 (256 * (i 0).val))) Q))
      ⊢ wp frame (wpE (defs₀ (F := Ideal)) Variants.none (c : Thread nD τ) none) Set.univ (segA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kk) Q := by
  unfold segA
  simp only [k0_part34_eq_skeleton]; unfold k0_part34_skel
  by_cases hc : k0_cond1 i = 1#1
  · simp only [dif_pos hc]
    iintro ⟨H3, H4, H5, H6, H7, H8, H12, H13, H18, H19, H20, H21, H22, H23, H24, H25, H29, Hk⟩
    sl_exec_parts
    sl_for (fun (j : ℕ) (_ : Unit) => iprop(owns (c : Thread nD τ) arg3 fullShare x3 ∗ owns (c : Thread nD τ) arg12 fullShare x12 ∗ ∃ y18 y19 y20 y22, ⌜AtR (R := 2048) (C := 1536) (256 * j) y18 (fun n c => WQ P (192 * (n / 128) + n % 128) c) ∧ AtR (R := 512) (C := 1536) (64 * j) y19 (fun n c => WQ P (192 * (n / 32) + (128 + 2 * (n % 32))) c) ∧ AtR (R := 512) (C := 1536) (64 * j) y20 (fun n c => WQ P (192 * (n / 32) + (129 + 2 * (n % 32))) c)⌝ ∗ owns (c : Thread nD τ) arg18 fullShare y18 ∗ owns (c : Thread nD τ) arg19 fullShare y19 ∗ owns (c : Thread nD τ) arg20 fullShare y20 ∗ owns (c : Thread nD τ) arg22 fullShare y22)) $$ [H3 H12 H18 H19 H20 H22]
    · intro k acc
      iintro ⟨H3, H12, ⟨%y18, %y19, %y20, %y22, %hy, H18, H19, H20, H22⟩⟩
      iapply (t1_run (h3 := h3) (h12 := h12) (h18 := hy.1) (h19 := hy.2.1) (h20 := hy.2.2))
      isplitl [H3]; · iexact H3
      isplitl [H12]; · iexact H12
      isplitl [H18]; · iexact H18
      isplitl [H19]; · iexact H19
      isplitl [H20]; · iexact H20
      isplitl [H22]; · iexact H22
      iintro %z18 %z19 %z20 %z22 ⟨H3, H12, H18, H19, H20, H22, %hz⟩
      isplitl [H3]; · iexact H3
      isplitl [H12]; · iexact H12
      iexists z18, z19, z20, z22
      isplitr; · ipureintro; exact hz
      isplitl [H18]; · iexact H18
      isplitl [H19]; · iexact H19
      isplitl [H20]; · iexact H20
      iexact H22
    · isplitl [H3]; · iexact H3
      isplitl [H12]; · iexact H12
      iexists x18, x19, x20, x22
      isplitr
      · ipureintro
        exact ⟨fun r c h => absurd h (Nat.not_lt_zero _), fun r c h => absurd h (Nat.not_lt_zero _), fun r c h => absurd h (Nat.not_lt_zero _)⟩
      isplitl [H18]; · iexact H18
      isplitl [H19]; · iexact H19
      isplitl [H20]; · iexact H20
      iexact H22
    iintro %acc1 HI
    icases HI with ⟨H3, H12, ⟨%y18, %y19, %y20, %y22, %hy, H18, H19, H20, H22⟩⟩
    sl_for (fun (j : ℕ) (_ : Unit) => iprop(owns (c : Thread nD τ) arg4 fullShare x4 ∗ owns (c : Thread nD τ) arg13 fullShare x13 ∗ ∃ y21, ⌜AtR (R := 2048) (C := 512) (128 * j) y21 (WK P)⌝ ∗ owns (c : Thread nD τ) arg21 fullShare y21)) $$ [H4 H13 H21]
    · intro k acc
      iintro ⟨H4, H13, ⟨%y21, %hy', H21⟩⟩
      iapply (t2_run (h4 := h4) (h13 := h13) (h21 := hy'))
      isplitl [H4]; · iexact H4
      isplitl [H13]; · iexact H13
      isplitl [H21]; · iexact H21
      iintro %z21 ⟨H4, H13, H21, %hz⟩
      isplitl [H4]; · iexact H4
      isplitl [H13]; · iexact H13
      iexists z21
      isplitr; · ipureintro; exact hz
      iexact H21
    · isplitl [H4]; · iexact H4
      isplitl [H13]; · iexact H13
      iexists x21
      isplitr
      · ipureintro
        exact fun r c h => absurd h (Nat.not_lt_zero _)
      iexact H21
    iintro %acc2 HI
    icases HI with ⟨H4, H13, ⟨%y21, %hy', H21⟩⟩
    have hb1 : AtR (R := 2048) (C := 1536) (256 * 8) y18 (fun n c => WQ P (192 * (n / 128) + n % 128) c) ∧ AtR (R := 512) (C := 1536) (64 * 8) y19 (fun n c => WQ P (192 * (n / 32) + (128 + 2 * (n % 32))) c) ∧ AtR (R := 512) (C := 1536) (64 * 8) y20 (fun n c => WQ P (192 * (n / 32) + (129 + 2 * (n % 32))) c) := by
      rw [← t1_trips]; exact hy
    have hb2 : AtR (R := 2048) (C := 512) (128 * 16) y21 (WK P) := by
      rw [← t2_trips]; exact hy'
    have hw : At2 (R := 2048) (C := 1536) y18 (fun n c => WQ P (192 * (n / 128) + n % 128) c) ∧ At2 (R := 512) (C := 1536) y19 (fun n c => WQ P (192 * (n / 32) + (128 + 2 * (n % 32))) c) ∧ At2 (R := 512) (C := 1536) y20 (fun n c => WQ P (192 * (n / 32) + (129 + 2 * (n % 32))) c) ∧ At2 (R := 2048) (C := 512) y21 (WK P) :=
      ⟨fun r c => hb1.1 r c r.isLt, fun r c => hb1.2.1 r c r.isLt, fun r c => hb1.2.2 r c r.isLt, fun r c => hb2 r c r.isLt⟩
    clear hy hy' hb1 hb2 hW h29
    unfold owns
    icases H3 with ⟨%f3, %hf3, H3⟩
    subst hf3
    icases H4 with ⟨%f4, %hf4, H4⟩
    subst hf4
    icases H5 with ⟨%f5, %hf5, H5⟩
    subst hf5
    icases H6 with ⟨%f6, %hf6, H6⟩
    subst hf6
    icases H7 with ⟨%f7, %hf7, H7⟩
    subst hf7
    icases H8 with ⟨%f8, %hf8, H8⟩
    subst hf8
    icases H12 with ⟨%f12, %hf12, H12⟩
    subst hf12
    icases H13 with ⟨%f13, %hf13, H13⟩
    subst hf13
    icases H18 with ⟨%f18, %hf18, H18⟩
    subst hf18
    icases H19 with ⟨%f19, %hf19, H19⟩
    subst hf19
    icases H20 with ⟨%f20, %hf20, H20⟩
    subst hf20
    icases H21 with ⟨%f21, %hf21, H21⟩
    subst hf21
    icases H22 with ⟨%f22, %hf22, H22⟩
    subst hf22
    icases H23 with ⟨%f23, %hf23, H23⟩
    subst hf23
    icases H24 with ⟨%f24, %hf24, H24⟩
    subst hf24
    icases H25 with ⟨%f25, %hf25, H25⟩
    subst hf25
    icases H29 with ⟨%f29, %hf29, H29⟩
    subst hf29
    sl_exec_parts
    rw [show segA_run.sl.r i = BitVec.ofNat 32 (256 * (i 0).val) from v3_eq i]
    iapply Hk
    isplitl [H3]
    · iexists f3
      isplitr; · ipureintro; rfl
      iexact H3
    isplitl [H4]
    · iexists f4
      isplitr; · ipureintro; rfl
      iexact H4
    isplitl [H5]
    · iexists f5
      isplitr; · ipureintro; rfl
      iexact H5
    isplitl [H6]
    · iexists f6
      isplitr; · ipureintro; rfl
      iexact H6
    isplitl [H7]
    · iexists f7
      isplitr; · ipureintro; rfl
      iexact H7
    isplitl [H8]
    · iexists f8
      isplitr; · ipureintro; rfl
      iexact H8
    isplitl [H12]
    · iexists f12
      isplitr; · ipureintro; rfl
      iexact H12
    isplitl [H13]
    · iexists f13
      isplitr; · ipureintro; rfl
      iexact H13
    isplitl [H18]
    · iexists _
      isplitr; swap; · iexact H18
      ipureintro; rfl
    isplitl [H19]
    · iexists _
      isplitr; swap; · iexact H19
      ipureintro; rfl
    isplitl [H20]
    · iexists _
      isplitr; swap; · iexact H20
      ipureintro; rfl
    isplitl [H21]
    · iexists _
      isplitr; swap; · iexact H21
      ipureintro; rfl
    isplitl [H22]
    · iexists _
      isplitr; swap; · iexact H22
      ipureintro; rfl
    isplitl [H23]
    · iexists _
      isplitr; swap; · iexact H23
      ipureintro; rfl
    isplitl [H24]
    · iexists _
      isplitr; swap; · iexact H24
      ipureintro; rfl
    isplitl [H25]
    · iexists _
      isplitr; swap; · iexact H25
      ipureintro; rfl
    isplitl [H29]
    · iexists _
      isplitr; swap; · iexact H29
      ipureintro; rfl
    ipureintro
    refine ⟨hw, ?_, ?_, run0_any (hbeg hc) (one2f _ run0_at)⟩
    · refine all2b _ ?_ (cover_of_rects cqRects ![256, 128] (by decide +kernel) rfl)
      refine List.forall_mem_cons.2 ⟨?_, ?_⟩
      · exact pc2b (off := ![0, 1408]) (R' := 256) (C' := 128) (inb := by decide) (fun r c => CQ P (256 * (i 0).val + r) c) (cq11_at (rd2f (off := ![0, 0]) (R' := 256) (C' := 12) _ h6) (rd2q (off := ![0, 1408]) (R' := 256) (C' := 128) _ h5)) (cq_side P _ 11)
      refine List.forall_mem_cons.2 ⟨?_, ?_⟩
      · exact pc2b (off := ![0, 1280]) (R' := 256) (C' := 128) (inb := by decide) (fun r c => CQ P (256 * (i 0).val + r) c) (cq10_at (rd2f (off := ![0, 0]) (R' := 256) (C' := 12) _ h6) (rd2q (off := ![0, 1280]) (R' := 256) (C' := 128) _ h5)) (cq_side P _ 10)
      refine List.forall_mem_cons.2 ⟨?_, ?_⟩
      · exact pc2b (off := ![0, 1152]) (R' := 256) (C' := 128) (inb := by decide) (fun r c => CQ P (256 * (i 0).val + r) c) (cq9_at (rd2f (off := ![0, 0]) (R' := 256) (C' := 12) _ h6) (rd2q (off := ![0, 1152]) (R' := 256) (C' := 128) _ h5)) (cq_side P _ 9)
      refine List.forall_mem_cons.2 ⟨?_, ?_⟩
      · exact pc2b (off := ![0, 1024]) (R' := 256) (C' := 128) (inb := by decide) (fun r c => CQ P (256 * (i 0).val + r) c) (cq8_at (rd2f (off := ![0, 0]) (R' := 256) (C' := 12) _ h6) (rd2q (off := ![0, 1024]) (R' := 256) (C' := 128) _ h5)) (cq_side P _ 8)
      refine List.forall_mem_cons.2 ⟨?_, ?_⟩
      · exact pc2b (off := ![0, 896]) (R' := 256) (C' := 128) (inb := by decide) (fun r c => CQ P (256 * (i 0).val + r) c) (cq7_at (rd2f (off := ![0, 0]) (R' := 256) (C' := 12) _ h6) (rd2q (off := ![0, 896]) (R' := 256) (C' := 128) _ h5)) (cq_side P _ 7)
      refine List.forall_mem_cons.2 ⟨?_, ?_⟩
      · exact pc2b (off := ![0, 768]) (R' := 256) (C' := 128) (inb := by decide) (fun r c => CQ P (256 * (i 0).val + r) c) (cq6_at (rd2f (off := ![0, 0]) (R' := 256) (C' := 12) _ h6) (rd2q (off := ![0, 768]) (R' := 256) (C' := 128) _ h5)) (cq_side P _ 6)
      refine List.forall_mem_cons.2 ⟨?_, ?_⟩
      · exact pc2b (off := ![0, 640]) (R' := 256) (C' := 128) (inb := by decide) (fun r c => CQ P (256 * (i 0).val + r) c) (cq5_at (rd2f (off := ![0, 0]) (R' := 256) (C' := 12) _ h6) (rd2q (off := ![0, 640]) (R' := 256) (C' := 128) _ h5)) (cq_side P _ 5)
      refine List.forall_mem_cons.2 ⟨?_, ?_⟩
      · exact pc2b (off := ![0, 512]) (R' := 256) (C' := 128) (inb := by decide) (fun r c => CQ P (256 * (i 0).val + r) c) (cq4_at (rd2f (off := ![0, 0]) (R' := 256) (C' := 12) _ h6) (rd2q (off := ![0, 512]) (R' := 256) (C' := 128) _ h5)) (cq_side P _ 4)
      refine List.forall_mem_cons.2 ⟨?_, ?_⟩
      · exact pc2b (off := ![0, 384]) (R' := 256) (C' := 128) (inb := by decide) (fun r c => CQ P (256 * (i 0).val + r) c) (cq3_at (rd2f (off := ![0, 0]) (R' := 256) (C' := 12) _ h6) (rd2q (off := ![0, 384]) (R' := 256) (C' := 128) _ h5)) (cq_side P _ 3)
      refine List.forall_mem_cons.2 ⟨?_, ?_⟩
      · exact pc2b (off := ![0, 256]) (R' := 256) (C' := 128) (inb := by decide) (fun r c => CQ P (256 * (i 0).val + r) c) (cq2_at (rd2f (off := ![0, 0]) (R' := 256) (C' := 12) _ h6) (rd2q (off := ![0, 256]) (R' := 256) (C' := 128) _ h5)) (cq_side P _ 2)
      refine List.forall_mem_cons.2 ⟨?_, ?_⟩
      · exact pc2b (off := ![0, 128]) (R' := 256) (C' := 128) (inb := by decide) (fun r c => CQ P (256 * (i 0).val + r) c) (cq1_at (rd2f (off := ![0, 0]) (R' := 256) (C' := 12) _ h6) (rd2q (off := ![0, 128]) (R' := 256) (C' := 128) _ h5)) (cq_side P _ 1)
      refine List.forall_mem_cons.2 ⟨?_, ?_⟩
      · exact pc2b (off := ![0, 0]) (R' := 256) (C' := 128) (inb := by decide) (fun r c => CQ P (256 * (i 0).val + r) c) (cq0_at (rd2f (off := ![0, 0]) (R' := 256) (C' := 12) _ h6) (rd2q (off := ![0, 0]) (R' := 256) (C' := 128) _ h5)) (cq_side P _ 0)
      exact fun _ h => absurd h List.not_mem_nil
    · refine add2b _ (off35_eq i) h25 ?_
      refine At2.cg (keys_at (rd2b (off := ![0, 0]) (R' := 256) (C' := 512) _ (all2b (G := fun r c => CKV P (256 * (i 0).val + r) c) _ ?_ (cover_of_rects ckvRects ![256, 128] (by decide +kernel) rfl))) (rd2b (off := ![0, 0]) (R' := 2048) (C' := 512) _ hw.2.2.2)) (key_side P (256 * (i 0).val))
      refine List.forall_mem_cons.2 ⟨?_, ?_⟩
      · exact pc2b (off := ![0, 384]) (R' := 256) (C' := 128) (inb := by decide) (fun r c => CKV P (256 * (i 0).val + r) c) (ckv3_at (rd2f (off := ![0, 0]) (R' := 256) (C' := 4) _ h8) (rd2q (off := ![0, 384]) (R' := 256) (C' := 128) _ h7)) (ckv_side P _ 3)
      refine List.forall_mem_cons.2 ⟨?_, ?_⟩
      · exact pc2b (off := ![0, 256]) (R' := 256) (C' := 128) (inb := by decide) (fun r c => CKV P (256 * (i 0).val + r) c) (ckv2_at (rd2f (off := ![0, 0]) (R' := 256) (C' := 4) _ h8) (rd2q (off := ![0, 256]) (R' := 256) (C' := 128) _ h7)) (ckv_side P _ 2)
      refine List.forall_mem_cons.2 ⟨?_, ?_⟩
      · exact pc2b (off := ![0, 128]) (R' := 256) (C' := 128) (inb := by decide) (fun r c => CKV P (256 * (i 0).val + r) c) (ckv1_at (rd2f (off := ![0, 0]) (R' := 256) (C' := 4) _ h8) (rd2q (off := ![0, 128]) (R' := 256) (C' := 128) _ h7)) (ckv_side P _ 1)
      refine List.forall_mem_cons.2 ⟨?_, ?_⟩
      · exact pc2b (off := ![0, 0]) (R' := 256) (C' := 128) (inb := by decide) (fun r c => CKV P (256 * (i 0).val + r) c) (ckv0_at (rd2f (off := ![0, 0]) (R' := 256) (C' := 4) _ h8) (rd2q (off := ![0, 0]) (R' := 256) (C' := 128) _ h7)) (ckv_side P _ 0)
      exact fun _ h => absurd h List.not_mem_nil
  · simp only [dif_neg hc]
    have hw := hW hc
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f29, %hf29, H29⟩, Hk⟩
    subst hf3; subst hf4; subst hf5; subst hf6; subst hf7; subst hf8; subst hf12; subst hf13; subst hf18; subst hf19; subst hf20; subst hf21; subst hf22; subst hf23; subst hf24; subst hf25; subst hf29
    sl_exec_parts
    rw [show segA_run.sl.r_4 i = BitVec.ofNat 32 (256 * (i 0).val) from v3_eq i]
    iapply Hk
    isplitl [H3]
    · iexists f3
      isplitr; · ipureintro; rfl
      iexact H3
    isplitl [H4]
    · iexists f4
      isplitr; · ipureintro; rfl
      iexact H4
    isplitl [H5]
    · iexists f5
      isplitr; · ipureintro; rfl
      iexact H5
    isplitl [H6]
    · iexists f6
      isplitr; · ipureintro; rfl
      iexact H6
    isplitl [H7]
    · iexists f7
      isplitr; · ipureintro; rfl
      iexact H7
    isplitl [H8]
    · iexists f8
      isplitr; · ipureintro; rfl
      iexact H8
    isplitl [H12]
    · iexists f12
      isplitr; · ipureintro; rfl
      iexact H12
    isplitl [H13]
    · iexists f13
      isplitr; · ipureintro; rfl
      iexact H13
    isplitl [H18]
    · iexists _
      isplitr; swap; · iexact H18
      ipureintro; rfl
    isplitl [H19]
    · iexists _
      isplitr; swap; · iexact H19
      ipureintro; rfl
    isplitl [H20]
    · iexists _
      isplitr; swap; · iexact H20
      ipureintro; rfl
    isplitl [H21]
    · iexists _
      isplitr; swap; · iexact H21
      ipureintro; rfl
    isplitl [H22]
    · iexists _
      isplitr; swap; · iexact H22
      ipureintro; rfl
    isplitl [H23]
    · iexists _
      isplitr; swap; · iexact H23
      ipureintro; rfl
    isplitl [H24]
    · iexists _
      isplitr; swap; · iexact H24
      ipureintro; rfl
    isplitl [H25]
    · iexists _
      isplitr; swap; · iexact H25
      ipureintro; rfl
    isplitl [H29]
    · iexists _
      isplitr; swap; · iexact H29
      ipureintro; rfl
    ipureintro
    refine ⟨hw, ?_, ?_, h29 hc⟩
    · refine all2b _ ?_ (cover_of_rects cqRects ![256, 128] (by decide +kernel) rfl)
      refine List.forall_mem_cons.2 ⟨?_, ?_⟩
      · exact pc2b (off := ![0, 1408]) (R' := 256) (C' := 128) (inb := by decide) (fun r c => CQ P (256 * (i 0).val + r) c) (cq11_at (rd2f (off := ![0, 0]) (R' := 256) (C' := 12) _ h6) (rd2q (off := ![0, 1408]) (R' := 256) (C' := 128) _ h5)) (cq_side P _ 11)
      refine List.forall_mem_cons.2 ⟨?_, ?_⟩
      · exact pc2b (off := ![0, 1280]) (R' := 256) (C' := 128) (inb := by decide) (fun r c => CQ P (256 * (i 0).val + r) c) (cq10_at (rd2f (off := ![0, 0]) (R' := 256) (C' := 12) _ h6) (rd2q (off := ![0, 1280]) (R' := 256) (C' := 128) _ h5)) (cq_side P _ 10)
      refine List.forall_mem_cons.2 ⟨?_, ?_⟩
      · exact pc2b (off := ![0, 1152]) (R' := 256) (C' := 128) (inb := by decide) (fun r c => CQ P (256 * (i 0).val + r) c) (cq9_at (rd2f (off := ![0, 0]) (R' := 256) (C' := 12) _ h6) (rd2q (off := ![0, 1152]) (R' := 256) (C' := 128) _ h5)) (cq_side P _ 9)
      refine List.forall_mem_cons.2 ⟨?_, ?_⟩
      · exact pc2b (off := ![0, 1024]) (R' := 256) (C' := 128) (inb := by decide) (fun r c => CQ P (256 * (i 0).val + r) c) (cq8_at (rd2f (off := ![0, 0]) (R' := 256) (C' := 12) _ h6) (rd2q (off := ![0, 1024]) (R' := 256) (C' := 128) _ h5)) (cq_side P _ 8)
      refine List.forall_mem_cons.2 ⟨?_, ?_⟩
      · exact pc2b (off := ![0, 896]) (R' := 256) (C' := 128) (inb := by decide) (fun r c => CQ P (256 * (i 0).val + r) c) (cq7_at (rd2f (off := ![0, 0]) (R' := 256) (C' := 12) _ h6) (rd2q (off := ![0, 896]) (R' := 256) (C' := 128) _ h5)) (cq_side P _ 7)
      refine List.forall_mem_cons.2 ⟨?_, ?_⟩
      · exact pc2b (off := ![0, 768]) (R' := 256) (C' := 128) (inb := by decide) (fun r c => CQ P (256 * (i 0).val + r) c) (cq6_at (rd2f (off := ![0, 0]) (R' := 256) (C' := 12) _ h6) (rd2q (off := ![0, 768]) (R' := 256) (C' := 128) _ h5)) (cq_side P _ 6)
      refine List.forall_mem_cons.2 ⟨?_, ?_⟩
      · exact pc2b (off := ![0, 640]) (R' := 256) (C' := 128) (inb := by decide) (fun r c => CQ P (256 * (i 0).val + r) c) (cq5_at (rd2f (off := ![0, 0]) (R' := 256) (C' := 12) _ h6) (rd2q (off := ![0, 640]) (R' := 256) (C' := 128) _ h5)) (cq_side P _ 5)
      refine List.forall_mem_cons.2 ⟨?_, ?_⟩
      · exact pc2b (off := ![0, 512]) (R' := 256) (C' := 128) (inb := by decide) (fun r c => CQ P (256 * (i 0).val + r) c) (cq4_at (rd2f (off := ![0, 0]) (R' := 256) (C' := 12) _ h6) (rd2q (off := ![0, 512]) (R' := 256) (C' := 128) _ h5)) (cq_side P _ 4)
      refine List.forall_mem_cons.2 ⟨?_, ?_⟩
      · exact pc2b (off := ![0, 384]) (R' := 256) (C' := 128) (inb := by decide) (fun r c => CQ P (256 * (i 0).val + r) c) (cq3_at (rd2f (off := ![0, 0]) (R' := 256) (C' := 12) _ h6) (rd2q (off := ![0, 384]) (R' := 256) (C' := 128) _ h5)) (cq_side P _ 3)
      refine List.forall_mem_cons.2 ⟨?_, ?_⟩
      · exact pc2b (off := ![0, 256]) (R' := 256) (C' := 128) (inb := by decide) (fun r c => CQ P (256 * (i 0).val + r) c) (cq2_at (rd2f (off := ![0, 0]) (R' := 256) (C' := 12) _ h6) (rd2q (off := ![0, 256]) (R' := 256) (C' := 128) _ h5)) (cq_side P _ 2)
      refine List.forall_mem_cons.2 ⟨?_, ?_⟩
      · exact pc2b (off := ![0, 128]) (R' := 256) (C' := 128) (inb := by decide) (fun r c => CQ P (256 * (i 0).val + r) c) (cq1_at (rd2f (off := ![0, 0]) (R' := 256) (C' := 12) _ h6) (rd2q (off := ![0, 128]) (R' := 256) (C' := 128) _ h5)) (cq_side P _ 1)
      refine List.forall_mem_cons.2 ⟨?_, ?_⟩
      · exact pc2b (off := ![0, 0]) (R' := 256) (C' := 128) (inb := by decide) (fun r c => CQ P (256 * (i 0).val + r) c) (cq0_at (rd2f (off := ![0, 0]) (R' := 256) (C' := 12) _ h6) (rd2q (off := ![0, 0]) (R' := 256) (C' := 128) _ h5)) (cq_side P _ 0)
      exact fun _ h => absurd h List.not_mem_nil
    · refine add2b _ (off35_eq i) h25 ?_
      refine At2.cg (keys_at (rd2b (off := ![0, 0]) (R' := 256) (C' := 512) _ (all2b (G := fun r c => CKV P (256 * (i 0).val + r) c) _ ?_ (cover_of_rects ckvRects ![256, 128] (by decide +kernel) rfl))) (rd2b (off := ![0, 0]) (R' := 2048) (C' := 512) _ hw.2.2.2)) (key_side P (256 * (i 0).val))
      refine List.forall_mem_cons.2 ⟨?_, ?_⟩
      · exact pc2b (off := ![0, 384]) (R' := 256) (C' := 128) (inb := by decide) (fun r c => CKV P (256 * (i 0).val + r) c) (ckv3_at (rd2f (off := ![0, 0]) (R' := 256) (C' := 4) _ h8) (rd2q (off := ![0, 384]) (R' := 256) (C' := 128) _ h7)) (ckv_side P _ 3)
      refine List.forall_mem_cons.2 ⟨?_, ?_⟩
      · exact pc2b (off := ![0, 256]) (R' := 256) (C' := 128) (inb := by decide) (fun r c => CKV P (256 * (i 0).val + r) c) (ckv2_at (rd2f (off := ![0, 0]) (R' := 256) (C' := 4) _ h8) (rd2q (off := ![0, 256]) (R' := 256) (C' := 128) _ h7)) (ckv_side P _ 2)
      refine List.forall_mem_cons.2 ⟨?_, ?_⟩
      · exact pc2b (off := ![0, 128]) (R' := 256) (C' := 128) (inb := by decide) (fun r c => CKV P (256 * (i 0).val + r) c) (ckv1_at (rd2f (off := ![0, 0]) (R' := 256) (C' := 4) _ h8) (rd2q (off := ![0, 128]) (R' := 256) (C' := 128) _ h7)) (ckv_side P _ 1)
      refine List.forall_mem_cons.2 ⟨?_, ?_⟩
      · exact pc2b (off := ![0, 0]) (R' := 256) (C' := 128) (inb := by decide) (fun r c => CKV P (256 * (i 0).val + r) c) (ckv0_at (rd2f (off := ![0, 0]) (R' := 256) (C' := 4) _ h8) (rd2q (off := ![0, 0]) (R' := 256) (C' := 128) _ h7)) (ckv_side P _ 0)
      exact fun _ h => absurd h List.not_mem_nil
end Cert.KernelIdeal.Val
-- ==== Proof.SegB.lean ====
module

public import proofs.«01_k».proof.Proof.Gen.KernelIdeal.Frame
public import proofs.«01_k».proof.Proof.Gen.KernelIdeal.Skeleton
public import proofs.«01_k».proof.Proof.Offs
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
/-- The features and the transposed queries of one tile. -/
def segB (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (v3 : BitVec 32) (kk : IVec S256x256 1 → FVec Ideal S256x256 .bf16 → Prog (TpuEff nD τ sig (Elt Ideal) Λ₀ .tc) PUnit) : Prog (TpuEff nD τ sig (Elt Ideal) Λ₀ .tc) PUnit := do
  let ⟨v146, v147, v178, v183, v185⟩ : Σ' (v146 : IVec S256x1 32) (v147 : IVec S1x64 32) (v178 : IVec S1x64 32) (v183 : IVec S1x64 32), IVec S1x64 1 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3
  let v231 : FVec Ideal S256x64 .f32 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v146 v147 v178 v183 v185
  let ⟨v239, v241, v243, v246, v247, v263, v268, v270⟩ : Σ' (v239 : Vec Ideal S256x1536 .bf16) (v241 : FVec Ideal S32x256 .f32) (v243 : FVec Ideal S32x256 .f32) (v246 : IVec S1x256 32) (v247 : IVec S64x1 32) (v263 : IVec S64x1 32) (v268 : IVec S64x1 32), IVec S64x1 1 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v231
  let ⟨v308, v313⟩ : Σ' (v308 : IVec S64x1 32), IVec S64x1 32 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v247 v263 v268 v270
  let ⟨v337, v350, v353⟩ : Σ' (v337 : FVec Ideal S64x256 .bf16) (v350 : FVec Ideal S32x256 .f32), FVec Ideal S32x256 .f32 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v246 v247 v308 v313
  let v383 : Vec Ideal S1x64x256 .bf16 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v350 v353
  let v412 : FVec Ideal S128x256 .bf16 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v383
  let ⟨v441, v443, v444, v445⟩ : Σ' (v441 : FVec Ideal S32x256 .f32) (v443 : FVec Ideal S32x256 .f32) (v444 : FVec Ideal S32x256 .f32), FVec Ideal S32x256 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v412
  k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v441 v443 v444 v445
  let v508 : FVec Ideal S128x256 .bf16 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337
  let ⟨v537, v538⟩ : Σ' (v537 : FVec Ideal S32x256 .f32), Vec Ideal S32x1536 .bf16 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v508
  let v571 : FVec Ideal S64x256 .bf16 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v537 v538
  let v602 : Vec Ideal S128x1536 .bf16 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v571
  let ⟨v632, cst_331⟩ : Σ' (v632 : Vec Ideal S32x1536 .bf16), FVec Ideal S32x256 .f32 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v602
  let ⟨v666_lo, v666_hi⟩ : Σ' (v666_lo : FVec Ideal S32x256 .bf16), FVec Ideal S32x256 .bf16 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v632 cst_331
  let v697 : FVec Ideal S1x64x256 .bf16 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v239 v241 v243 v337 v666_lo v666_hi
  let ⟨v724, v729⟩ : Σ' (v724 : IVec S256x256 1), FVec Ideal S256x256 .bf16 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v239 v241 v243 v337 v697
  kk v724 v729

/-- The boxes the transposed queries are stored in, the last first. -/
def qtRects : List (Rect S16x256x256) :=
  [Rect.unit (s := S16x256x256) ![15, 192, 0] ![1, 64, 256] (by decide),
   Rect.unit (s := S16x256x256) ![15, 128, 0] ![1, 64, 256] (by decide),
   Rect.unit (s := S16x256x256) ![15, 0, 0] ![1, 128, 256] (by decide),
   Rect.unit (s := S16x256x256) ![14, 192, 0] ![1, 64, 256] (by decide),
   Rect.unit (s := S16x256x256) ![14, 128, 0] ![1, 64, 256] (by decide),
   Rect.unit (s := S16x256x256) ![14, 0, 0] ![1, 128, 256] (by decide),
   Rect.unit (s := S16x256x256) ![13, 192, 0] ![1, 64, 256] (by decide),
   Rect.unit (s := S16x256x256) ![13, 128, 0] ![1, 64, 256] (by decide),
   Rect.unit (s := S16x256x256) ![13, 0, 0] ![1, 128, 256] (by decide),
   Rect.unit (s := S16x256x256) ![12, 192, 0] ![1, 64, 256] (by decide),
   Rect.unit (s := S16x256x256) ![12, 128, 0] ![1, 64, 256] (by decide),
   Rect.unit (s := S16x256x256) ![12, 0, 0] ![1, 128, 256] (by decide),
   Rect.unit (s := S16x256x256) ![11, 192, 0] ![1, 64, 256] (by decide),
   Rect.unit (s := S16x256x256) ![11, 128, 0] ![1, 64, 256] (by decide),
   Rect.unit (s := S16x256x256) ![11, 0, 0] ![1, 128, 256] (by decide),
   Rect.unit (s := S16x256x256) ![10, 192, 0] ![1, 64, 256] (by decide),
   Rect.unit (s := S16x256x256) ![10, 128, 0] ![1, 64, 256] (by decide),
   Rect.unit (s := S16x256x256) ![10, 0, 0] ![1, 128, 256] (by decide),
   Rect.unit (s := S16x256x256) ![9, 192, 0] ![1, 64, 256] (by decide),
   Rect.unit (s := S16x256x256) ![9, 128, 0] ![1, 64, 256] (by decide),
   Rect.unit (s := S16x256x256) ![9, 0, 0] ![1, 128, 256] (by decide),
   Rect.unit (s := S16x256x256) ![8, 192, 0] ![1, 64, 256] (by decide),
   Rect.unit (s := S16x256x256) ![8, 128, 0] ![1, 64, 256] (by decide),
   Rect.unit (s := S16x256x256) ![8, 0, 0] ![1, 128, 256] (by decide),
   Rect.unit (s := S16x256x256) ![7, 192, 0] ![1, 64, 256] (by decide),
   Rect.unit (s := S16x256x256) ![7, 128, 0] ![1, 64, 256] (by decide),
   Rect.unit (s := S16x256x256) ![7, 0, 0] ![1, 128, 256] (by decide),
   Rect.unit (s := S16x256x256) ![6, 192, 0] ![1, 64, 256] (by decide),
   Rect.unit (s := S16x256x256) ![6, 128, 0] ![1, 64, 256] (by decide),
   Rect.unit (s := S16x256x256) ![6, 0, 0] ![1, 128, 256] (by decide),
   Rect.unit (s := S16x256x256) ![5, 192, 0] ![1, 64, 256] (by decide),
   Rect.unit (s := S16x256x256) ![5, 128, 0] ![1, 64, 256] (by decide),
   Rect.unit (s := S16x256x256) ![5, 0, 0] ![1, 128, 256] (by decide),
   Rect.unit (s := S16x256x256) ![4, 192, 0] ![1, 64, 256] (by decide),
   Rect.unit (s := S16x256x256) ![4, 128, 0] ![1, 64, 256] (by decide),
   Rect.unit (s := S16x256x256) ![4, 0, 0] ![1, 128, 256] (by decide),
   Rect.unit (s := S16x256x256) ![3, 192, 0] ![1, 64, 256] (by decide),
   Rect.unit (s := S16x256x256) ![3, 128, 0] ![1, 64, 256] (by decide),
   Rect.unit (s := S16x256x256) ![3, 0, 0] ![1, 128, 256] (by decide),
   Rect.unit (s := S16x256x256) ![2, 192, 0] ![1, 64, 256] (by decide),
   Rect.unit (s := S16x256x256) ![2, 128, 0] ![1, 64, 256] (by decide),
   Rect.unit (s := S16x256x256) ![2, 0, 0] ![1, 128, 256] (by decide),
   Rect.unit (s := S16x256x256) ![1, 192, 0] ![1, 64, 256] (by decide),
   Rect.unit (s := S16x256x256) ![1, 128, 0] ![1, 64, 256] (by decide),
   Rect.unit (s := S16x256x256) ![1, 0, 0] ![1, 128, 256] (by decide),
   Rect.unit (s := S16x256x256) ![0, 192, 0] ![1, 64, 256] (by decide),
   Rect.unit (s := S16x256x256) ![0, 128, 0] ![1, 64, 256] (by decide),
   Rect.unit (s := S16x256x256) ![0, 0, 0] ![1, 128, 256] (by decide)]
theorem qt_nope (P : Inp) (T h : ℕ) : ∀ a b c, a < 1 → b < 128 → c < 256 →
    (fun (_ d q : ℕ) => ∑ c : Fin 1536, (fun r c => (fun n c => WQ P (192 * (n / 128) + n % 128) c) ((![128 * h, 0] : Fin 2 → ℕ) 0 + r) ((![128 * h, 0] : Fin 2 → ℕ) 1 + c)) d c.val *
      (fun r c => CQ P (T + r) c) q c.val) a b c = (fun h f q => QT P h f (T + q)) ((![h, 0, 0] : Fin 3 → ℕ) 0 + a) ((![h, 0, 0] : Fin 3 → ℕ) 1 + b) ((![h, 0, 0] : Fin 3 → ℕ) 2 + c) := by
  intro a b c ha hb hc
  show _ = QT P (h + a) (0 + b) (T + (0 + c))
  obtain rfl : a = 0 := by omega
  unfold QT
  rw [if_pos (by omega), Nat.zero_add, Nat.zero_add, Nat.add_zero]
  unfold QN
  refine Finset.sum_congr rfl fun k _ => ?_
  show WQ P (192 * ((128 * h + b) / 128) + (128 * h + b) % 128) (0 + k.val) * _ = _
  rw [show (128 * h + b) / 128 = h by omega, show (128 * h + b) % 128 = b by omega, Nat.zero_add]
theorem qt_rope (P : Inp) (T h : ℕ) : ∀ a b c, a < 1 → b < 64 → c < 256 →
    (fun (_ d q : ℕ) => if d % 2 = 0 then
        (∑ c : Fin 1536, (fun r c => (fun n c => WQ P (192 * (n / 32) + (128 + 2 * (n % 32))) c) ((![32 * h, 0] : Fin 2 → ℕ) 0 + r) ((![32 * h, 0] : Fin 2 → ℕ) 1 + c)) (d/2) c.val * (fun r c => CQ P (T + r) c) q c.val) * (fun d q => (fun r c => P.cos (T + r) c) q d) (d/2) q
        - (∑ c : Fin 1536, (fun r c => (fun n c => WQ P (192 * (n / 32) + (129 + 2 * (n % 32))) c) ((![32 * h, 0] : Fin 2 → ℕ) 0 + r) ((![32 * h, 0] : Fin 2 → ℕ) 1 + c)) (d/2) c.val * (fun r c => CQ P (T + r) c) q c.val) * (fun d q => (fun r c => P.sin (T + r) c) q d) (d/2) q
       else (∑ c : Fin 1536, (fun r c => (fun n c => WQ P (192 * (n / 32) + (128 + 2 * (n % 32))) c) ((![32 * h, 0] : Fin 2 → ℕ) 0 + r) ((![32 * h, 0] : Fin 2 → ℕ) 1 + c)) (d/2) c.val * (fun r c => CQ P (T + r) c) q c.val) * (fun d q => (fun r c => P.sin (T + r) c) q d) (d/2) q
        + (∑ c : Fin 1536, (fun r c => (fun n c => WQ P (192 * (n / 32) + (129 + 2 * (n % 32))) c) ((![32 * h, 0] : Fin 2 → ℕ) 0 + r) ((![32 * h, 0] : Fin 2 → ℕ) 1 + c)) (d/2) c.val * (fun r c => CQ P (T + r) c) q c.val) * (fun d q => (fun r c => P.cos (T + r) c) q d) (d/2) q) a b c
      = (fun h f q => QT P h f (T + q)) ((![h, 128, 0] : Fin 3 → ℕ) 0 + a) ((![h, 128, 0] : Fin 3 → ℕ) 1 + b) ((![h, 128, 0] : Fin 3 → ℕ) 2 + c) := by
  intro a b c ha hb hc
  show _ = QT P (h + a) (128 + b) (T + (0 + c))
  obtain rfl : a = 0 := by omega
  unfold QT
  rw [if_neg (by omega), if_pos (by omega), Nat.zero_add, Nat.add_zero, Nat.add_sub_cancel_left]
  have e : ∀ m : ℕ, (∑ k : Fin 1536, WQ P (192 * ((32 * h + b / 2) / 32) + (m + 2 * ((32 * h + b / 2) % 32))) (0 + k.val) * CQ P (T + c) k.val) = QN P h (m + 2 * (b / 2)) (T + c) := by
    intro m
    unfold QN
    refine Finset.sum_congr rfl fun k _ => ?_
    rw [show (32 * h + b / 2) / 32 = h by omega, show (32 * h + b / 2) % 32 = b / 2 by omega, Nat.zero_add]
  unfold QR
  rw [← e, ← e]
  rfl
theorem qt_pen (P : Inp) (T h : ℕ) (hh : h < 16) : ∀ a b c, a < 1 → b < 64 → c < 256 →
    (fun (_ d q : ℕ) => (fun s q => PEN P s (T + q)) d q) a b c
      = (fun h f q => QT P h f (T + q)) ((![h, 192, 0] : Fin 3 → ℕ) 0 + a) ((![h, 192, 0] : Fin 3 → ℕ) 1 + b) ((![h, 192, 0] : Fin 3 → ℕ) 2 + c) := by
  intro a b c ha hb hc
  show _ = QT P (h + a) (192 + b) (T + (0 + c))
  obtain rfl : a = 0 := by omega
  unfold QT
  rw [if_neg (by omega), if_neg (by omega), Nat.zero_add, Nat.add_sub_cancel_left]
set_option maxHeartbeats 400000 in
theorem segB_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (kk : IVec S256x256 1 → FVec Ideal S256x256 .bf16 → Prog (TpuEff nD τ sig (Elt Ideal) Λ₀ .tc) PUnit) (Q : PUnit → sProp 𝕄)
    (x1 : Vec Ideal S7 .i32) (x9 : Vec Ideal S256x64 .bf16) (x10 : Vec Ideal S256x32 .f32) (x11 : Vec Ideal S256x32 .f32) (x18 : Vec Ideal S2048x1536 .bf16) (x19 : Vec Ideal S512x1536 .bf16) (x20 : Vec Ideal S512x1536 .bf16) (x23 : Vec Ideal S256x1536 .bf16) (x25 : Vec Ideal S8192x2048 .bf16) (x26 : Vec Ideal S8192x128 .bf16) (x27 : Vec Ideal S16x256x256 .bf16) (P : Inp) (h1 : ∀ n : Fin 7, x1 (ix1 n) = P.cu n.val)
    (h9 : At2 (R := 256) (C := 64) x9 (fun r c => P.rope (256 * (i 0).val + r) c))
    (h10 : At2 (R := 256) (C := 32) x10 (fun r c => P.cos (256 * (i 0).val + r) c))
    (h11 : At2 (R := 256) (C := 32) x11 (fun r c => P.sin (256 * (i 0).val + r) c))
    (h18 : At2 (R := 2048) (C := 1536) x18 (fun n c => WQ P (192 * (n / 128) + n % 128) c))
    (h19 : At2 (R := 512) (C := 1536) x19 (fun n c => WQ P (192 * (n / 32) + (128 + 2 * (n % 32))) c))
    (h20 : At2 (R := 512) (C := 1536) x20 (fun n c => WQ P (192 * (n / 32) + (129 + 2 * (n % 32))) c))
    (h23 : At2 (R := 256) (C := 1536) x23 (fun r c => CQ P (256 * (i 0).val + r) c))
    (h25 : AtR (R := 8192) (C := 2048) (256 * (i 0).val + 256) x25 (KEY P))
    (h26 : AtR (R := 8192) (C := 128) (256 * (i 0).val) x26 (FEAT P)) :
    iprop(owns (c : Thread nD τ) arg1 fullShare x1 ∗ owns (c : Thread nD τ) arg9 fullShare x9 ∗ owns (c : Thread nD τ) arg10 fullShare x10 ∗ owns (c : Thread nD τ) arg11 fullShare x11 ∗ owns (c : Thread nD τ) arg18 fullShare x18 ∗ owns (c : Thread nD τ) arg19 fullShare x19 ∗ owns (c : Thread nD τ) arg20 fullShare x20 ∗ owns (c : Thread nD τ) arg23 fullShare x23 ∗ owns (c : Thread nD τ) arg25 fullShare x25 ∗ owns (c : Thread nD τ) arg26 fullShare x26 ∗ owns (c : Thread nD τ) arg27 fullShare x27 ∗ (∀ v724 v729 y26 y27, (owns (c : Thread nD τ) arg1 fullShare x1 ∗ owns (c : Thread nD τ) arg9 fullShare x9 ∗ owns (c : Thread nD τ) arg10 fullShare x10 ∗ owns (c : Thread nD τ) arg11 fullShare x11 ∗ owns (c : Thread nD τ) arg18 fullShare x18 ∗ owns (c : Thread nD τ) arg19 fullShare x19 ∗ owns (c : Thread nD τ) arg20 fullShare x20 ∗ owns (c : Thread nD τ) arg23 fullShare x23 ∗ owns (c : Thread nD τ) arg25 fullShare x25 ∗ owns (c : Thread nD τ) arg26 fullShare y26 ∗ owns (c : Thread nD τ) arg27 fullShare y27 ∗ ⌜v724 = k0_pay217 ∧ (∃ a b, v729 = k0_pay218 a b ∧ At2 (R := 256) (C := 128) a (fun r c => KEY P (256 * (i 0).val + r) c) ∧
        At2 (R := 256) (C := 128) b (fun r c => FEAT P (256 * (i 0).val + r) c)) ∧
      AtR (R := 8192) (C := 128) (256 * (i 0).val + 256) y26 (FEAT P) ∧ At3 (A := 16) (B := 256) (C := 256) y27 (fun h f q => QT P h f (256 * (i 0).val + q))⌝) -∗ wp frame (wpE (defs₀ (F := Ideal)) Variants.none (c : Thread nD τ) none) Set.univ (kk v724 v729) Q))
      ⊢ wp frame (wpE (defs₀ (F := Ideal)) Variants.none (c : Thread nD τ) none) Set.univ (segB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (256 * (i 0).val)) kk) Q := by
  unfold segB owns
  iintro ⟨⟨%f1, %hf1, H1⟩, ⟨%f9, %hf9, H9⟩, ⟨%f10, %hf10, H10⟩, ⟨%f11, %hf11, H11⟩, ⟨%f18, %hf18, H18⟩, ⟨%f19, %hf19, H19⟩, ⟨%f20, %hf20, H20⟩, ⟨%f23, %hf23, H23⟩, ⟨%f25, %hf25, H25⟩, ⟨%f26, %hf26, H26⟩, ⟨%f27, %hf27, H27⟩, Hk⟩
  subst hf1; subst hf9; subst hf10; subst hf11; subst hf18; subst hf19; subst hf20; subst hf23; subst hf25; subst hf26; subst hf27
  sl_exec_parts
  iapply Hk
  isplitl [H1]
  · iexists f1
    isplitr; · ipureintro; rfl
    iexact H1
  isplitl [H9]
  · iexists f9
    isplitr; · ipureintro; rfl
    iexact H9
  isplitl [H10]
  · iexists f10
    isplitr; · ipureintro; rfl
    iexact H10
  isplitl [H11]
  · iexists f11
    isplitr; · ipureintro; rfl
    iexact H11
  isplitl [H18]
  · iexists f18
    isplitr; · ipureintro; rfl
    iexact H18
  isplitl [H19]
  · iexists f19
    isplitr; · ipureintro; rfl
    iexact H19
  isplitl [H20]
  · iexists f20
    isplitr; · ipureintro; rfl
    iexact H20
  isplitl [H23]
  · iexists f23
    isplitr; · ipureintro; rfl
    iexact H23
  isplitl [H25]
  · iexists f25
    isplitr; · ipureintro; rfl
    iexact H25
  isplitl [H26]
  · iexists _
    isplitr; swap; · iexact H26
    ipureintro; rfl
  isplitl [H27]
  · iexists _
    isplitr; swap; · iexact H27
    ipureintro; rfl
  ipureintro
  have hcq := (rd2b (off := ![0, 0]) (R' := 256) (C' := 1536) (inb := by decide) arg23.view h23).cg (g' := (fun r c => CQ P (256 * (i 0).val + r) c)) (fun r c _ _ => by simp)
  have hco := tr_at ((rd2f (off := ![0, 0]) (R' := 256) (C' := 32) (inb := by decide) arg10.view h10).cg (g' := (fun r c => P.cos (256 * (i 0).val + r) c)) (fun r c _ _ => by simp))
  have hsi := tr_at ((rd2f (off := ![0, 0]) (R' := 256) (C' := 32) (inb := by decide) arg11.view h11).cg (g' := (fun r c => P.sin (256 * (i 0).val + r) c)) (fun r c _ _ => by simp))
  refine ⟨rfl, ⟨_, _, rfl, ?_, ?_⟩, ?_, ?_⟩
  · refine At2.cg (rdRb (off := k0_off37 i) (R' := 256) (C' := 128) _ h25 ?_) ?_
    · rw [off37_eq]; exact le_rfl
    · intro r n _ _
      rw [off37_eq]; simp
  · refine cov2b _ (w := _) ?_
    refine At2.cg (feat_at (onehot_at' P (256 * (i 0).val) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _)) (rd2b _ h9)) ?_
    intro r n _ _
    unfold FEAT
    simp
  · refine add2b _ (off36_eq i) h26 ?_
    refine At2.cg (feat_at (onehot_at' P (256 * (i 0).val) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _)) (rd2b _ h9)) ?_
    intro r n _ _
    unfold FEAT
    simp
  · have hpen : At2 (R := 64) (C := 256) (segB_run.sl.r_9 c i arg1 f1) (fun s q => PEN P s (256 * (i 0).val + q)) :=
      pen_at' P (256 * (i 0).val) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _) (rd1 _ h1 _)
    refine all3b _ ?_ (cover_of_rects qtRects ![1, 64, 256] (by decide +kernel) rfl)
    refine List.forall_mem_cons.2 ⟨?_, ?_⟩
    · exact pc3b (off := ![15, 192, 0]) (A' := 1) (B' := 64) (C' := 256) (inb := by decide) (fun h f q => QT P h f (256 * (i 0).val + q)) (pen3_at (hpen)) (qt_pen P _ 15 (by omega))
    refine List.forall_mem_cons.2 ⟨?_, ?_⟩
    · exact pc3b (off := ![15, 128, 0]) (A' := 1) (B' := 64) (C' := 256) (inb := by decide) (fun h f q => QT P h f (256 * (i 0).val + q)) (rope_at hcq hco hsi (rd2b _ h19) (rd2b _ h20)) (qt_rope P _ 15)
    refine List.forall_mem_cons.2 ⟨?_, ?_⟩
    · exact pc3b (off := ![15, 0, 0]) (A' := 1) (B' := 128) (C' := 256) (inb := by decide) (fun h f q => QT P h f (256 * (i 0).val + q)) (nope_at hcq (rd2b _ h18)) (qt_nope P _ 15)
    refine List.forall_mem_cons.2 ⟨?_, ?_⟩
    · exact pc3b (off := ![14, 192, 0]) (A' := 1) (B' := 64) (C' := 256) (inb := by decide) (fun h f q => QT P h f (256 * (i 0).val + q)) (pen3_at (hpen)) (qt_pen P _ 14 (by omega))
    refine List.forall_mem_cons.2 ⟨?_, ?_⟩
    · exact pc3b (off := ![14, 128, 0]) (A' := 1) (B' := 64) (C' := 256) (inb := by decide) (fun h f q => QT P h f (256 * (i 0).val + q)) (rope_at hcq hco hsi (rd2b _ h19) (rd2b _ h20)) (qt_rope P _ 14)
    refine List.forall_mem_cons.2 ⟨?_, ?_⟩
    · exact pc3b (off := ![14, 0, 0]) (A' := 1) (B' := 128) (C' := 256) (inb := by decide) (fun h f q => QT P h f (256 * (i 0).val + q)) (nope_at hcq (rd2b _ h18)) (qt_nope P _ 14)
    refine List.forall_mem_cons.2 ⟨?_, ?_⟩
    · exact pc3b (off := ![13, 192, 0]) (A' := 1) (B' := 64) (C' := 256) (inb := by decide) (fun h f q => QT P h f (256 * (i 0).val + q)) (pen3_at (hpen)) (qt_pen P _ 13 (by omega))
    refine List.forall_mem_cons.2 ⟨?_, ?_⟩
    · exact pc3b (off := ![13, 128, 0]) (A' := 1) (B' := 64) (C' := 256) (inb := by decide) (fun h f q => QT P h f (256 * (i 0).val + q)) (rope_at hcq hco hsi (rd2b _ h19) (rd2b _ h20)) (qt_rope P _ 13)
    refine List.forall_mem_cons.2 ⟨?_, ?_⟩
    · exact pc3b (off := ![13, 0, 0]) (A' := 1) (B' := 128) (C' := 256) (inb := by decide) (fun h f q => QT P h f (256 * (i 0).val + q)) (nope_at hcq (rd2b _ h18)) (qt_nope P _ 13)
    refine List.forall_mem_cons.2 ⟨?_, ?_⟩
    · exact pc3b (off := ![12, 192, 0]) (A' := 1) (B' := 64) (C' := 256) (inb := by decide) (fun h f q => QT P h f (256 * (i 0).val + q)) (pen3_at (hpen)) (qt_pen P _ 12 (by omega))
    refine List.forall_mem_cons.2 ⟨?_, ?_⟩
    · exact pc3b (off := ![12, 128, 0]) (A' := 1) (B' := 64) (C' := 256) (inb := by decide) (fun h f q => QT P h f (256 * (i 0).val + q)) (rope_at hcq hco hsi (rd2b _ h19) (rd2b _ h20)) (qt_rope P _ 12)
    refine List.forall_mem_cons.2 ⟨?_, ?_⟩
    · exact pc3b (off := ![12, 0, 0]) (A' := 1) (B' := 128) (C' := 256) (inb := by decide) (fun h f q => QT P h f (256 * (i 0).val + q)) (nope_at hcq (rd2b _ h18)) (qt_nope P _ 12)
    refine List.forall_mem_cons.2 ⟨?_, ?_⟩
    · exact pc3b (off := ![11, 192, 0]) (A' := 1) (B' := 64) (C' := 256) (inb := by decide) (fun h f q => QT P h f (256 * (i 0).val + q)) (pen3_at (hpen)) (qt_pen P _ 11 (by omega))
    refine List.forall_mem_cons.2 ⟨?_, ?_⟩
    · exact pc3b (off := ![11, 128, 0]) (A' := 1) (B' := 64) (C' := 256) (inb := by decide) (fun h f q => QT P h f (256 * (i 0).val + q)) (rope_at hcq hco hsi (rd2b _ h19) (rd2b _ h20)) (qt_rope P _ 11)
    refine List.forall_mem_cons.2 ⟨?_, ?_⟩
    · exact pc3b (off := ![11, 0, 0]) (A' := 1) (B' := 128) (C' := 256) (inb := by decide) (fun h f q => QT P h f (256 * (i 0).val + q)) (nope_at hcq (rd2b _ h18)) (qt_nope P _ 11)
    refine List.forall_mem_cons.2 ⟨?_, ?_⟩
    · exact pc3b (off := ![10, 192, 0]) (A' := 1) (B' := 64) (C' := 256) (inb := by decide) (fun h f q => QT P h f (256 * (i 0).val + q)) (pen3_at (hpen)) (qt_pen P _ 10 (by omega))
    refine List.forall_mem_cons.2 ⟨?_, ?_⟩
    · exact pc3b (off := ![10, 128, 0]) (A' := 1) (B' := 64) (C' := 256) (inb := by decide) (fun h f q => QT P h f (256 * (i 0).val + q)) (rope_at hcq hco hsi (rd2b _ h19) (rd2b _ h20)) (qt_rope P _ 10)
    refine List.forall_mem_cons.2 ⟨?_, ?_⟩
    · exact pc3b (off := ![10, 0, 0]) (A' := 1) (B' := 128) (C' := 256) (inb := by decide) (fun h f q => QT P h f (256 * (i 0).val + q)) (nope_at hcq (rd2b _ h18)) (qt_nope P _ 10)
    refine List.forall_mem_cons.2 ⟨?_, ?_⟩
    · exact pc3b (off := ![9, 192, 0]) (A' := 1) (B' := 64) (C' := 256) (inb := by decide) (fun h f q => QT P h f (256 * (i 0).val + q)) (pen3_at (hpen)) (qt_pen P _ 9 (by omega))
    refine List.forall_mem_cons.2 ⟨?_, ?_⟩
    · exact pc3b (off := ![9, 128, 0]) (A' := 1) (B' := 64) (C' := 256) (inb := by decide) (fun h f q => QT P h f (256 * (i 0).val + q)) (rope_at hcq hco hsi (rd2b _ h19) (rd2b _ h20)) (qt_rope P _ 9)
    refine List.forall_mem_cons.2 ⟨?_, ?_⟩
    · exact pc3b (off := ![9, 0, 0]) (A' := 1) (B' := 128) (C' := 256) (inb := by decide) (fun h f q => QT P h f (256 * (i 0).val + q)) (nope_at hcq (rd2b _ h18)) (qt_nope P _ 9)
    refine List.forall_mem_cons.2 ⟨?_, ?_⟩
    · exact pc3b (off := ![8, 192, 0]) (A' := 1) (B' := 64) (C' := 256) (inb := by decide) (fun h f q => QT P h f (256 * (i 0).val + q)) (pen3_at (hpen)) (qt_pen P _ 8 (by omega))
    refine List.forall_mem_cons.2 ⟨?_, ?_⟩
    · exact pc3b (off := ![8, 128, 0]) (A' := 1) (B' := 64) (C' := 256) (inb := by decide) (fun h f q => QT P h f (256 * (i 0).val + q)) (rope_at hcq hco hsi (rd2b _ h19) (rd2b _ h20)) (qt_rope P _ 8)
    refine List.forall_mem_cons.2 ⟨?_, ?_⟩
    · exact pc3b (off := ![8, 0, 0]) (A' := 1) (B' := 128) (C' := 256) (inb := by decide) (fun h f q => QT P h f (256 * (i 0).val + q)) (nope_at hcq (rd2b _ h18)) (qt_nope P _ 8)
    refine List.forall_mem_cons.2 ⟨?_, ?_⟩
    · exact pc3b (off := ![7, 192, 0]) (A' := 1) (B' := 64) (C' := 256) (inb := by decide) (fun h f q => QT P h f (256 * (i 0).val + q)) (pen3_at (hpen)) (qt_pen P _ 7 (by omega))
    refine List.forall_mem_cons.2 ⟨?_, ?_⟩
    · exact pc3b (off := ![7, 128, 0]) (A' := 1) (B' := 64) (C' := 256) (inb := by decide) (fun h f q => QT P h f (256 * (i 0).val + q)) (rope_at hcq hco hsi (rd2b _ h19) (rd2b _ h20)) (qt_rope P _ 7)
    refine List.forall_mem_cons.2 ⟨?_, ?_⟩
    · exact pc3b (off := ![7, 0, 0]) (A' := 1) (B' := 128) (C' := 256) (inb := by decide) (fun h f q => QT P h f (256 * (i 0).val + q)) (nope_at hcq (rd2b _ h18)) (qt_nope P _ 7)
    refine List.forall_mem_cons.2 ⟨?_, ?_⟩
    · exact pc3b (off := ![6, 192, 0]) (A' := 1) (B' := 64) (C' := 256) (inb := by decide) (fun h f q => QT P h f (256 * (i 0).val + q)) (pen3_at (hpen)) (qt_pen P _ 6 (by omega))
    refine List.forall_mem_cons.2 ⟨?_, ?_⟩
    · exact pc3b (off := ![6, 128, 0]) (A' := 1) (B' := 64) (C' := 256) (inb := by decide) (fun h f q => QT P h f (256 * (i 0).val + q)) (rope_at hcq hco hsi (rd2b _ h19) (rd2b _ h20)) (qt_rope P _ 6)
    refine List.forall_mem_cons.2 ⟨?_, ?_⟩
    · exact pc3b (off := ![6, 0, 0]) (A' := 1) (B' := 128) (C' := 256) (inb := by decide) (fun h f q => QT P h f (256 * (i 0).val + q)) (nope_at hcq (rd2b _ h18)) (qt_nope P _ 6)
    refine List.forall_mem_cons.2 ⟨?_, ?_⟩
    · exact pc3b (off := ![5, 192, 0]) (A' := 1) (B' := 64) (C' := 256) (inb := by decide) (fun h f q => QT P h f (256 * (i 0).val + q)) (pen3_at (hpen)) (qt_pen P _ 5 (by omega))
    refine List.forall_mem_cons.2 ⟨?_, ?_⟩
    · exact pc3b (off := ![5, 128, 0]) (A' := 1) (B' := 64) (C' := 256) (inb := by decide) (fun h f q => QT P h f (256 * (i 0).val + q)) (rope_at hcq hco hsi (rd2b _ h19) (rd2b _ h20)) (qt_rope P _ 5)
    refine List.forall_mem_cons.2 ⟨?_, ?_⟩
    · exact pc3b (off := ![5, 0, 0]) (A' := 1) (B' := 128) (C' := 256) (inb := by decide) (fun h f q => QT P h f (256 * (i 0).val + q)) (nope_at hcq (rd2b _ h18)) (qt_nope P _ 5)
    refine List.forall_mem_cons.2 ⟨?_, ?_⟩
    · exact pc3b (off := ![4, 192, 0]) (A' := 1) (B' := 64) (C' := 256) (inb := by decide) (fun h f q => QT P h f (256 * (i 0).val + q)) (pen3_at (hpen)) (qt_pen P _ 4 (by omega))
    refine List.forall_mem_cons.2 ⟨?_, ?_⟩
    · exact pc3b (off := ![4, 128, 0]) (A' := 1) (B' := 64) (C' := 256) (inb := by decide) (fun h f q => QT P h f (256 * (i 0).val + q)) (rope_at hcq hco hsi (rd2b _ h19) (rd2b _ h20)) (qt_rope P _ 4)
    refine List.forall_mem_cons.2 ⟨?_, ?_⟩
    · exact pc3b (off := ![4, 0, 0]) (A' := 1) (B' := 128) (C' := 256) (inb := by decide) (fun h f q => QT P h f (256 * (i 0).val + q)) (nope_at hcq (rd2b _ h18)) (qt_nope P _ 4)
    refine List.forall_mem_cons.2 ⟨?_, ?_⟩
    · exact pc3b (off := ![3, 192, 0]) (A' := 1) (B' := 64) (C' := 256) (inb := by decide) (fun h f q => QT P h f (256 * (i 0).val + q)) (pen3_at (hpen)) (qt_pen P _ 3 (by omega))
    refine List.forall_mem_cons.2 ⟨?_, ?_⟩
    · exact pc3b (off := ![3, 128, 0]) (A' := 1) (B' := 64) (C' := 256) (inb := by decide) (fun h f q => QT P h f (256 * (i 0).val + q)) (rope_at hcq hco hsi (rd2b _ h19) (rd2b _ h20)) (qt_rope P _ 3)
    refine List.forall_mem_cons.2 ⟨?_, ?_⟩
    · exact pc3b (off := ![3, 0, 0]) (A' := 1) (B' := 128) (C' := 256) (inb := by decide) (fun h f q => QT P h f (256 * (i 0).val + q)) (nope_at hcq (rd2b _ h18)) (qt_nope P _ 3)
    refine List.forall_mem_cons.2 ⟨?_, ?_⟩
    · exact pc3b (off := ![2, 192, 0]) (A' := 1) (B' := 64) (C' := 256) (inb := by decide) (fun h f q => QT P h f (256 * (i 0).val + q)) (pen3_at (hpen)) (qt_pen P _ 2 (by omega))
    refine List.forall_mem_cons.2 ⟨?_, ?_⟩
    · exact pc3b (off := ![2, 128, 0]) (A' := 1) (B' := 64) (C' := 256) (inb := by decide) (fun h f q => QT P h f (256 * (i 0).val + q)) (rope_at hcq hco hsi (rd2b _ h19) (rd2b _ h20)) (qt_rope P _ 2)
    refine List.forall_mem_cons.2 ⟨?_, ?_⟩
    · exact pc3b (off := ![2, 0, 0]) (A' := 1) (B' := 128) (C' := 256) (inb := by decide) (fun h f q => QT P h f (256 * (i 0).val + q)) (nope_at hcq (rd2b _ h18)) (qt_nope P _ 2)
    refine List.forall_mem_cons.2 ⟨?_, ?_⟩
    · exact pc3b (off := ![1, 192, 0]) (A' := 1) (B' := 64) (C' := 256) (inb := by decide) (fun h f q => QT P h f (256 * (i 0).val + q)) (pen3_at (hpen)) (qt_pen P _ 1 (by omega))
    refine List.forall_mem_cons.2 ⟨?_, ?_⟩
    · exact pc3b (off := ![1, 128, 0]) (A' := 1) (B' := 64) (C' := 256) (inb := by decide) (fun h f q => QT P h f (256 * (i 0).val + q)) (rope_at hcq hco hsi (rd2b _ h19) (rd2b _ h20)) (qt_rope P _ 1)
    refine List.forall_mem_cons.2 ⟨?_, ?_⟩
    · exact pc3b (off := ![1, 0, 0]) (A' := 1) (B' := 128) (C' := 256) (inb := by decide) (fun h f q => QT P h f (256 * (i 0).val + q)) (nope_at hcq (rd2b _ h18)) (qt_nope P _ 1)
    refine List.forall_mem_cons.2 ⟨?_, ?_⟩
    · exact pc3b (off := ![0, 192, 0]) (A' := 1) (B' := 64) (C' := 256) (inb := by decide) (fun h f q => QT P h f (256 * (i 0).val + q)) (pen3_at (hpen)) (qt_pen P _ 0 (by omega))
    refine List.forall_mem_cons.2 ⟨?_, ?_⟩
    · exact pc3b (off := ![0, 128, 0]) (A' := 1) (B' := 64) (C' := 256) (inb := by decide) (fun h f q => QT P h f (256 * (i 0).val + q)) (rope_at hcq hco hsi (rd2b _ h19) (rd2b _ h20)) (qt_rope P _ 0)
    refine List.forall_mem_cons.2 ⟨?_, ?_⟩
    · exact pc3b (off := ![0, 0, 0]) (A' := 1) (B' := 128) (C' := 256) (inb := by decide) (fun h f q => QT P h f (256 * (i 0).val + q)) (nope_at hcq (rd2b _ h18)) (qt_nope P _ 0)
    exact fun _ h => absurd h List.not_mem_nil
end Cert.KernelIdeal.Val
-- ==== Proof.SegC.lean ====
module

public import proofs.«01_k».proof.Proof.Gen.KernelIdeal.Frame
public import proofs.«01_k».proof.Proof.Gen.KernelIdeal.Skeleton
public import proofs.«01_k».proof.Proof.Best
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
/-- The greatest scores inside the diagonal tile. -/
def segC (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (v3 : BitVec 32) (v724 : IVec S256x256 1) (v729 : FVec Ideal S256x256 .bf16) (kk : FVec Ideal S8x256 .f32 → Prog (TpuEff nD τ sig (Elt Ideal) Λ₀ .tc) PUnit) : Prog (TpuEff nD τ sig (Elt Ideal) Λ₀ .tc) PUnit := do
  let ⟨v762, v763⟩ : Σ' (v762 : FVec Ideal S256x256 .f32), FVec Ideal S256x256 .f32 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724 v729
  let v796 : FVec Ideal S8x256 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724 v762 v763
  k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724 v796
  let v864 : FVec Ideal S256x256 .bf16 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724
  let ⟨v894, v896, cst_512⟩ : Σ' (v894 : FVec Ideal S256x256 .bf16) (v896 : FVec Ideal S256x256 .bf16), FVec Ideal S256x256 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724 v864
  let v930 : FVec Ideal S32x8x256 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724 v894 v896 cst_512
  let v961 : FVec Ideal S8x256 .f32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724 v930
  kk v961

set_option maxHeartbeats 400000 in
theorem segC_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (kk : FVec Ideal S8x256 .f32 → Prog (TpuEff nD τ sig (Elt Ideal) Λ₀ .tc) PUnit) (Q : PUnit → sProp 𝕄)
    (x25 : Vec Ideal S8192x2048 .bf16) (x26 : Vec Ideal S8192x128 .bf16) (x27 : Vec Ideal S16x256x256 .bf16) (x28 : Vec Ideal S16x8x256 .f32) (P : Inp)
    (h25 : AtR (R := 8192) (C := 2048) (256 * (i 0).val + 256) x25 (KEY P))
    (h26 : AtR (R := 8192) (C := 128) (256 * (i 0).val + 256) x26 (FEAT P))
    (h27 : At3 (A := 16) (B := 256) (C := 256) x27 (fun h f q => QT P h f (256 * (i 0).val + q)))
    (ka fa : Vec Ideal S256x128 .bf16) (hka : At2 (R := 256) (C := 128) ka (fun r c => KEY P (256 * (i 0).val + r) c))
    (hfa : At2 (R := 256) (C := 128) fa (fun r c => FEAT P (256 * (i 0).val + r) c)) :
    iprop(owns (c : Thread nD τ) arg25 fullShare x25 ∗ owns (c : Thread nD τ) arg26 fullShare x26 ∗ owns (c : Thread nD τ) arg27 fullShare x27 ∗ owns (c : Thread nD τ) arg28 fullShare x28 ∗ (∀ v961 y28, (owns (c : Thread nD τ) arg25 fullShare x25 ∗ owns (c : Thread nD τ) arg26 fullShare x26 ∗ owns (c : Thread nD τ) arg27 fullShare x27 ∗ owns (c : Thread nD τ) arg28 fullShare y28 ∗ ⌜AtH (A := 16) (B := 8) (C := 256) 15 y28 (BEST P (i 0).val (i 0).val 0) ∧ At3 (A := 1) (B := 8) (C := 256) (k0_pay242 v961) (fun _ s q => BEST P (i 0).val (i 0).val 0 15 s q)⌝) -∗ wp frame (wpE (defs₀ (F := Ideal)) Variants.none (c : Thread nD τ) none) Set.univ (kk v961) Q))
      ⊢ wp frame (wpE (defs₀ (F := Ideal)) Variants.none (c : Thread nD τ) none) Set.univ (segC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (256 * (i 0).val)) k0_pay217 (k0_pay218 ka fa) kk) Q := by
  unfold segC owns
  iintro ⟨⟨%f25, %hf25, H25⟩, ⟨%f26, %hf26, H26⟩, ⟨%f27, %hf27, H27⟩, ⟨%f28, %hf28, H28⟩, Hk⟩
  subst hf25; subst hf26; subst hf27; subst hf28
  sl_exec_parts
  iapply Hk
  isplitl [H25]
  · iexists f25
    isplitr; · ipureintro; rfl
    iexact H25
  isplitl [H26]
  · iexists f26
    isplitr; · ipureintro; rfl
    iexact H26
  isplitl [H27]
  · iexists f27
    isplitr; · ipureintro; rfl
    iexact H27
  isplitl [H28]
  · iexists _
    isplitr; swap; · iexact H28
    ipureintro; rfl
  ipureintro
  refine ⟨?_, ?_⟩
  · refine add3f _ ?_ ?_; swap
    · exact diag_best P (i 0).val 14 (coord_lt i) (At2.cg (rdRb (off := k0_off51 i) (R' := 256) (C' := 128) _ h25 (by rw [off51_eq]; exact le_rfl)) (fun r n _ _ => by rw [off51_eq]; simp)) (At2.cg (rdRb (off := k0_off36 i) (R' := 256) (C' := 128) _ h26 (by rw [off36_eq]; exact le_rfl)) (fun r n _ _ => by rw [off36_eq]; simp)) (At3.cg (rd3b (off := ![14, 0, 0]) (A' := 1) (B' := 256) (C' := 256) _ h27) (fun a b c ha _ _ => by simp; congr 1; omega))
    refine add3f _ ?_ ?_; swap
    · exact diag_best P (i 0).val 13 (coord_lt i) (At2.cg (rdRb (off := k0_off50 i) (R' := 256) (C' := 128) _ h25 (by rw [off50_eq]; exact le_rfl)) (fun r n _ _ => by rw [off50_eq]; simp)) (At2.cg (rdRb (off := k0_off36 i) (R' := 256) (C' := 128) _ h26 (by rw [off36_eq]; exact le_rfl)) (fun r n _ _ => by rw [off36_eq]; simp)) (At3.cg (rd3b (off := ![13, 0, 0]) (A' := 1) (B' := 256) (C' := 256) _ h27) (fun a b c ha _ _ => by simp; congr 1; omega))
    refine add3f _ ?_ ?_; swap
    · exact diag_best P (i 0).val 12 (coord_lt i) (At2.cg (rdRb (off := k0_off49 i) (R' := 256) (C' := 128) _ h25 (by rw [off49_eq]; exact le_rfl)) (fun r n _ _ => by rw [off49_eq]; simp)) (At2.cg (rdRb (off := k0_off36 i) (R' := 256) (C' := 128) _ h26 (by rw [off36_eq]; exact le_rfl)) (fun r n _ _ => by rw [off36_eq]; simp)) (At3.cg (rd3b (off := ![12, 0, 0]) (A' := 1) (B' := 256) (C' := 256) _ h27) (fun a b c ha _ _ => by simp; congr 1; omega))
    refine add3f _ ?_ ?_; swap
    · exact diag_best P (i 0).val 11 (coord_lt i) (At2.cg (rdRb (off := k0_off48 i) (R' := 256) (C' := 128) _ h25 (by rw [off48_eq]; exact le_rfl)) (fun r n _ _ => by rw [off48_eq]; simp)) (At2.cg (rdRb (off := k0_off36 i) (R' := 256) (C' := 128) _ h26 (by rw [off36_eq]; exact le_rfl)) (fun r n _ _ => by rw [off36_eq]; simp)) (At3.cg (rd3b (off := ![11, 0, 0]) (A' := 1) (B' := 256) (C' := 256) _ h27) (fun a b c ha _ _ => by simp; congr 1; omega))
    refine add3f _ ?_ ?_; swap
    · exact diag_best P (i 0).val 10 (coord_lt i) (At2.cg (rdRb (off := k0_off47 i) (R' := 256) (C' := 128) _ h25 (by rw [off47_eq]; exact le_rfl)) (fun r n _ _ => by rw [off47_eq]; simp)) (At2.cg (rdRb (off := k0_off36 i) (R' := 256) (C' := 128) _ h26 (by rw [off36_eq]; exact le_rfl)) (fun r n _ _ => by rw [off36_eq]; simp)) (At3.cg (rd3b (off := ![10, 0, 0]) (A' := 1) (B' := 256) (C' := 256) _ h27) (fun a b c ha _ _ => by simp; congr 1; omega))
    refine add3f _ ?_ ?_; swap
    · exact diag_best P (i 0).val 9 (coord_lt i) (At2.cg (rdRb (off := k0_off46 i) (R' := 256) (C' := 128) _ h25 (by rw [off46_eq]; exact le_rfl)) (fun r n _ _ => by rw [off46_eq]; simp)) (At2.cg (rdRb (off := k0_off36 i) (R' := 256) (C' := 128) _ h26 (by rw [off36_eq]; exact le_rfl)) (fun r n _ _ => by rw [off36_eq]; simp)) (At3.cg (rd3b (off := ![9, 0, 0]) (A' := 1) (B' := 256) (C' := 256) _ h27) (fun a b c ha _ _ => by simp; congr 1; omega))
    refine add3f _ ?_ ?_; swap
    · exact diag_best P (i 0).val 8 (coord_lt i) (At2.cg (rdRb (off := k0_off45 i) (R' := 256) (C' := 128) _ h25 (by rw [off45_eq]; exact le_rfl)) (fun r n _ _ => by rw [off45_eq]; simp)) (At2.cg (rdRb (off := k0_off36 i) (R' := 256) (C' := 128) _ h26 (by rw [off36_eq]; exact le_rfl)) (fun r n _ _ => by rw [off36_eq]; simp)) (At3.cg (rd3b (off := ![8, 0, 0]) (A' := 1) (B' := 256) (C' := 256) _ h27) (fun a b c ha _ _ => by simp; congr 1; omega))
    refine add3f _ ?_ ?_; swap
    · exact diag_best P (i 0).val 7 (coord_lt i) (At2.cg (rdRb (off := k0_off44 i) (R' := 256) (C' := 128) _ h25 (by rw [off44_eq]; exact le_rfl)) (fun r n _ _ => by rw [off44_eq]; simp)) (At2.cg (rdRb (off := k0_off36 i) (R' := 256) (C' := 128) _ h26 (by rw [off36_eq]; exact le_rfl)) (fun r n _ _ => by rw [off36_eq]; simp)) (At3.cg (rd3b (off := ![7, 0, 0]) (A' := 1) (B' := 256) (C' := 256) _ h27) (fun a b c ha _ _ => by simp; congr 1; omega))
    refine add3f _ ?_ ?_; swap
    · exact diag_best P (i 0).val 6 (coord_lt i) (At2.cg (rdRb (off := k0_off43 i) (R' := 256) (C' := 128) _ h25 (by rw [off43_eq]; exact le_rfl)) (fun r n _ _ => by rw [off43_eq]; simp)) (At2.cg (rdRb (off := k0_off36 i) (R' := 256) (C' := 128) _ h26 (by rw [off36_eq]; exact le_rfl)) (fun r n _ _ => by rw [off36_eq]; simp)) (At3.cg (rd3b (off := ![6, 0, 0]) (A' := 1) (B' := 256) (C' := 256) _ h27) (fun a b c ha _ _ => by simp; congr 1; omega))
    refine add3f _ ?_ ?_; swap
    · exact diag_best P (i 0).val 5 (coord_lt i) (At2.cg (rdRb (off := k0_off42 i) (R' := 256) (C' := 128) _ h25 (by rw [off42_eq]; exact le_rfl)) (fun r n _ _ => by rw [off42_eq]; simp)) (At2.cg (rdRb (off := k0_off36 i) (R' := 256) (C' := 128) _ h26 (by rw [off36_eq]; exact le_rfl)) (fun r n _ _ => by rw [off36_eq]; simp)) (At3.cg (rd3b (off := ![5, 0, 0]) (A' := 1) (B' := 256) (C' := 256) _ h27) (fun a b c ha _ _ => by simp; congr 1; omega))
    refine add3f _ ?_ ?_; swap
    · exact diag_best P (i 0).val 4 (coord_lt i) (At2.cg (rdRb (off := k0_off41 i) (R' := 256) (C' := 128) _ h25 (by rw [off41_eq]; exact le_rfl)) (fun r n _ _ => by rw [off41_eq]; simp)) (At2.cg (rdRb (off := k0_off36 i) (R' := 256) (C' := 128) _ h26 (by rw [off36_eq]; exact le_rfl)) (fun r n _ _ => by rw [off36_eq]; simp)) (At3.cg (rd3b (off := ![4, 0, 0]) (A' := 1) (B' := 256) (C' := 256) _ h27) (fun a b c ha _ _ => by simp; congr 1; omega))
    refine add3f _ ?_ ?_; swap
    · exact diag_best P (i 0).val 3 (coord_lt i) (At2.cg (rdRb (off := k0_off40 i) (R' := 256) (C' := 128) _ h25 (by rw [off40_eq]; exact le_rfl)) (fun r n _ _ => by rw [off40_eq]; simp)) (At2.cg (rdRb (off := k0_off36 i) (R' := 256) (C' := 128) _ h26 (by rw [off36_eq]; exact le_rfl)) (fun r n _ _ => by rw [off36_eq]; simp)) (At3.cg (rd3b (off := ![3, 0, 0]) (A' := 1) (B' := 256) (C' := 256) _ h27) (fun a b c ha _ _ => by simp; congr 1; omega))
    refine add3f _ ?_ ?_; swap
    · exact diag_best P (i 0).val 2 (coord_lt i) (At2.cg (rdRb (off := k0_off39 i) (R' := 256) (C' := 128) _ h25 (by rw [off39_eq]; exact le_rfl)) (fun r n _ _ => by rw [off39_eq]; simp)) (At2.cg (rdRb (off := k0_off36 i) (R' := 256) (C' := 128) _ h26 (by rw [off36_eq]; exact le_rfl)) (fun r n _ _ => by rw [off36_eq]; simp)) (At3.cg (rd3b (off := ![2, 0, 0]) (A' := 1) (B' := 256) (C' := 256) _ h27) (fun a b c ha _ _ => by simp; congr 1; omega))
    refine add3f _ ?_ ?_; swap
    · exact diag_best P (i 0).val 1 (coord_lt i) (At2.cg (rdRb (off := k0_off38 i) (R' := 256) (C' := 128) _ h25 (by rw [off38_eq]; exact le_rfl)) (fun r n _ _ => by rw [off38_eq]; simp)) (At2.cg (rdRb (off := k0_off36 i) (R' := 256) (C' := 128) _ h26 (by rw [off36_eq]; exact le_rfl)) (fun r n _ _ => by rw [off36_eq]; simp)) (At3.cg (rd3b (off := ![1, 0, 0]) (A' := 1) (B' := 256) (C' := 256) _ h27) (fun a b c ha _ _ => by simp; congr 1; omega))
    refine add3f _ ?_ ?_; swap
    · exact diag_best P (i 0).val 0 (coord_lt i) (At2.cg hka (fun r n _ _ => by simp)) (At2.cg hfa (fun r n _ _ => by simp)) (At3.cg (rd3b (off := ![0, 0, 0]) (A' := 1) (B' := 256) (C' := 256) _ h27) (fun a b c ha _ _ => by simp; congr 1; omega))
    exact AtH.zero
  · exact diag_best P (i 0).val 15 (coord_lt i) (At2.cg (rdRb (off := k0_off52 i) (R' := 256) (C' := 128) _ h25 (by rw [off52_eq]; exact le_rfl)) (fun r n _ _ => by rw [off52_eq]; simp)) (At2.cg (rdRb (off := k0_off36 i) (R' := 256) (C' := 128) _ h26 (by rw [off36_eq]; exact le_rfl)) (fun r n _ _ => by rw [off36_eq]; simp)) (At3.cg (rd3b (off := ![15, 0, 0]) (A' := 1) (B' := 256) (C' := 256) _ h27) (fun a b c ha _ _ => by simp; congr 1; omega))
end Cert.KernelIdeal.Val
-- ==== Proof.T3.lean ====
module

public import proofs.«01_k».proof.Proof.Gen.KernelIdeal.Frame
public import proofs.«01_k».proof.Proof.Gen.KernelIdeal.Skeleton
public import proofs.«01_k».proof.Proof.Offs
public import proofs.«01_k».proof.Proof.Best
public import proofs.«01_k».proof.Proof.Rd
public import proofs.«01_k».proof.Proof.KernelIdealChk
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
open Cert.KernelIdeal.Hand Cert.Words
theorem off53_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off53 i w0 w0 w1 w1 w2 w2 w3 w3 w4 w4 w5 w5 w6 w6 k = ![256 * (lo + k.val), 0] := by
  show ![rowW (lowW i w0 w1 w2 w3 w4 w5 w6) k.val, 0] = _
  rw [hl, rowW_eq hb]
theorem off54_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off54 i w0 w0 w1 w1 w2 w2 w3 w3 w4 w4 w5 w5 w6 w6 k = ![256 * (lo + k.val), 0] := by
  show ![rowW (lowW i w0 w1 w2 w3 w4 w5 w6) k.val, 0] = _
  rw [hl, rowW_eq hb]
theorem off55_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off55 i w0 w0 w1 w1 w2 w2 w3 w3 w4 w4 w5 w5 w6 w6 k = ![256 * (lo + k.val), 128] := by
  show ![rowW (lowW i w0 w1 w2 w3 w4 w5 w6) k.val, 128] = _
  rw [hl, rowW_eq hb]
theorem off56_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off56 i w0 w0 w1 w1 w2 w2 w3 w3 w4 w4 w5 w5 w6 w6 k = ![256 * (lo + k.val), 256] := by
  show ![rowW (lowW i w0 w1 w2 w3 w4 w5 w6) k.val, 256] = _
  rw [hl, rowW_eq hb]
theorem off57_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off57 i w0 w0 w1 w1 w2 w2 w3 w3 w4 w4 w5 w5 w6 w6 k = ![256 * (lo + k.val), 384] := by
  show ![rowW (lowW i w0 w1 w2 w3 w4 w5 w6) k.val, 384] = _
  rw [hl, rowW_eq hb]
theorem off58_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off58 i w0 w0 w1 w1 w2 w2 w3 w3 w4 w4 w5 w5 w6 w6 k = ![256 * (lo + k.val), 512] := by
  show ![rowW (lowW i w0 w1 w2 w3 w4 w5 w6) k.val, 512] = _
  rw [hl, rowW_eq hb]
theorem off59_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off59 i w0 w0 w1 w1 w2 w2 w3 w3 w4 w4 w5 w5 w6 w6 k = ![256 * (lo + k.val), 640] := by
  show ![rowW (lowW i w0 w1 w2 w3 w4 w5 w6) k.val, 640] = _
  rw [hl, rowW_eq hb]
theorem off60_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off60 i w0 w0 w1 w1 w2 w2 w3 w3 w4 w4 w5 w5 w6 w6 k = ![256 * (lo + k.val), 768] := by
  show ![rowW (lowW i w0 w1 w2 w3 w4 w5 w6) k.val, 768] = _
  rw [hl, rowW_eq hb]
theorem off61_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off61 i w0 w0 w1 w1 w2 w2 w3 w3 w4 w4 w5 w5 w6 w6 k = ![256 * (lo + k.val), 896] := by
  show ![rowW (lowW i w0 w1 w2 w3 w4 w5 w6) k.val, 896] = _
  rw [hl, rowW_eq hb]
theorem off62_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off62 i w0 w0 w1 w1 w2 w2 w3 w3 w4 w4 w5 w5 w6 w6 k = ![256 * (lo + k.val), 1024] := by
  show ![rowW (lowW i w0 w1 w2 w3 w4 w5 w6) k.val, 1024] = _
  rw [hl, rowW_eq hb]
theorem off63_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off63 i w0 w0 w1 w1 w2 w2 w3 w3 w4 w4 w5 w5 w6 w6 k = ![256 * (lo + k.val), 1152] := by
  show ![rowW (lowW i w0 w1 w2 w3 w4 w5 w6) k.val, 1152] = _
  rw [hl, rowW_eq hb]
theorem off64_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off64 i w0 w0 w1 w1 w2 w2 w3 w3 w4 w4 w5 w5 w6 w6 k = ![256 * (lo + k.val), 1280] := by
  show ![rowW (lowW i w0 w1 w2 w3 w4 w5 w6) k.val, 1280] = _
  rw [hl, rowW_eq hb]
theorem off65_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off65 i w0 w0 w1 w1 w2 w2 w3 w3 w4 w4 w5 w5 w6 w6 k = ![256 * (lo + k.val), 1408] := by
  show ![rowW (lowW i w0 w1 w2 w3 w4 w5 w6) k.val, 1408] = _
  rw [hl, rowW_eq hb]
theorem off66_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off66 i w0 w0 w1 w1 w2 w2 w3 w3 w4 w4 w5 w5 w6 w6 k = ![256 * (lo + k.val), 1536] := by
  show ![rowW (lowW i w0 w1 w2 w3 w4 w5 w6) k.val, 1536] = _
  rw [hl, rowW_eq hb]
theorem off67_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off67 i w0 w0 w1 w1 w2 w2 w3 w3 w4 w4 w5 w5 w6 w6 k = ![256 * (lo + k.val), 1664] := by
  show ![rowW (lowW i w0 w1 w2 w3 w4 w5 w6) k.val, 1664] = _
  rw [hl, rowW_eq hb]
theorem off68_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off68 i w0 w0 w1 w1 w2 w2 w3 w3 w4 w4 w5 w5 w6 w6 k = ![256 * (lo + k.val), 1792] := by
  show ![rowW (lowW i w0 w1 w2 w3 w4 w5 w6) k.val, 1792] = _
  rw [hl, rowW_eq hb]
theorem off69_eq (i : grid0.Coords) (w0 w1 w2 w3 w4 w5 w6 : BitVec 32) {lo : ℕ} (hl : lowW i w0 w1 w2 w3 w4 w5 w6 = BitVec.ofNat 32 lo) (k : Fin (k0_t3_loop i w0 w0 w1 w1 w2 w2 w3 w3 w4 w4 w5 w5 w6 w6).trips) (hb : lo + k.val < 32) :
    k0_off69 i w0 w0 w1 w1 w2 w2 w3 w3 w4 w4 w5 w5 w6 w6 k = ![256 * (lo + k.val), 1920] := by
  show ![rowW (lowW i w0 w1 w2 w3 w4 w5 w6) k.val, 1920] = _
  rw [hl, rowW_eq hb]

set_option maxHeartbeats 400000 in
/-- One trip of the loop over earlier key tiles. -/
theorem t3_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (arg0 : BitVec 32) (w0 w1 w2 w3 w4 w5 w6 : BitVec 32) (hw : k0_chk1 i w0 w0 w1 w1 w2 w2 w3 w3 w4 w4 w5 w5 w6 w6) (a1 a2 a3 a4 a5 a6 : BitVec 32) (Q : Unit → sProp 𝕄)
    (x25 : Vec Ideal S8192x2048 .bf16) (x26 : Vec Ideal S8192x128 .bf16) (x27 : Vec Ideal S16x256x256 .bf16) (x28 : Vec Ideal S16x8x256 .f32) (P : Inp)
    (h25 : AtR (R := 8192) (C := 2048) (256 * (i 0).val + 256) x25 (KEY P))
    (h26 : AtR (R := 8192) (C := 128) (256 * (i 0).val + 256) x26 (FEAT P))
    (h27 : At3 (A := 16) (B := 256) (C := 256) x27 (fun h f q => QT P h f (256 * (i 0).val + q)))
    (lo : ℕ) (hl : lowW i w0 w1 w2 w3 w4 w5 w6 = BitVec.ofNat 32 lo) (k : Fin (k0_t3_loop i w0 w0 w1 w1 w2 w2 w3 w3 w4 w4 w5 w5 w6 w6).trips) (hk : lo + k.val < (i 0).val)
    (h28 : At3 (A := 16) (B := 8) (C := 256) x28 (BEST P (i 0).val lo k.val)) :
    iprop(owns (c : Thread nD τ) arg25 fullShare x25 ∗ owns (c : Thread nD τ) arg26 fullShare x26 ∗ owns (c : Thread nD τ) arg27 fullShare x27 ∗ owns (c : Thread nD τ) arg28 fullShare x28 ∗ (∀ y28, (owns (c : Thread nD τ) arg25 fullShare x25 ∗ owns (c : Thread nD τ) arg26 fullShare x26 ∗ owns (c : Thread nD τ) arg27 fullShare x27 ∗ owns (c : Thread nD τ) arg28 fullShare y28 ∗ ⌜At3 (A := 16) (B := 8) (C := 256) y28 (BEST P (i 0).val lo (k.val + 1))⌝) -∗ Q ()))
      ⊢ wp frame (wpE (defs₀ (F := Ideal)) Variants.none (c : Thread nD τ) none) Set.univ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg0 w0 w0 w1 w1 w2 w2 w3 w3 w4 w4 w5 w5 w6 w6 hw a1 a2 a3 a4 a5 a6 k ()) Q := by
  unfold k0_t3_body owns
  iintro ⟨⟨%f25, %hf25, H25⟩, ⟨%f26, %hf26, H26⟩, ⟨%f27, %hf27, H27⟩, ⟨%f28, %hf28, H28⟩, Hk⟩
  subst hf25; subst hf26; subst hf27; subst hf28
  have hb : lo + k.val < 32 := lt_trans hk (coord_lt i)
  sl_exec_parts
  sl_step
  iapply Hk
  isplitl [H25]
  · iexists f25
    isplitr; · ipureintro; rfl
    iexact H25
  isplitl [H26]
  · iexists f26
    isplitr; · ipureintro; rfl
    iexact H26
  isplitl [H27]
  · iexists f27
    isplitr; · ipureintro; rfl
    iexact H27
  isplitl [H28]
  · iexists _
    isplitr; swap; · iexact H28
    ipureintro; rfl
  ipureintro
  refine AtH.all (A := 16) ?_
  refine add3f _ ?_ ?_; swap
  · exact step_best P (i 0).val lo k.val 15 (coord_lt i) hk (At3.cg (rd3f (off := ![15, 0, 0]) (A' := 1) (B' := 8) (C' := 256) _ h28) (fun a b c ha _ _ => by simp; congr 1; omega)) (At2.cg (rdRb (off := k0_off69 i w0 w0 w1 w1 w2 w2 w3 w3 w4 w4 w5 w5 w6 w6 k) (R' := 256) (C' := 128) _ h25 (by rw [off69_eq i w0 w1 w2 w3 w4 w5 w6 hl k hb]; show 256 * (lo + k.val) + 256 ≤ _; omega)) (fun r n _ _ => by rw [off69_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![15, 0, 0]) (A' := 1) (B' := 256) (C' := 256) _ h27) (fun a b c ha _ _ => by simp; congr 1; omega))
  refine add3f _ ?_ ?_; swap
  · exact step_best P (i 0).val lo k.val 14 (coord_lt i) hk (At3.cg (rd3f (off := ![14, 0, 0]) (A' := 1) (B' := 8) (C' := 256) _ h28) (fun a b c ha _ _ => by simp; congr 1; omega)) (At2.cg (rdRb (off := k0_off68 i w0 w0 w1 w1 w2 w2 w3 w3 w4 w4 w5 w5 w6 w6 k) (R' := 256) (C' := 128) _ h25 (by rw [off68_eq i w0 w1 w2 w3 w4 w5 w6 hl k hb]; show 256 * (lo + k.val) + 256 ≤ _; omega)) (fun r n _ _ => by rw [off68_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![14, 0, 0]) (A' := 1) (B' := 256) (C' := 256) _ h27) (fun a b c ha _ _ => by simp; congr 1; omega))
  refine add3f _ ?_ ?_; swap
  · exact step_best P (i 0).val lo k.val 13 (coord_lt i) hk (At3.cg (rd3f (off := ![13, 0, 0]) (A' := 1) (B' := 8) (C' := 256) _ h28) (fun a b c ha _ _ => by simp; congr 1; omega)) (At2.cg (rdRb (off := k0_off67 i w0 w0 w1 w1 w2 w2 w3 w3 w4 w4 w5 w5 w6 w6 k) (R' := 256) (C' := 128) _ h25 (by rw [off67_eq i w0 w1 w2 w3 w4 w5 w6 hl k hb]; show 256 * (lo + k.val) + 256 ≤ _; omega)) (fun r n _ _ => by rw [off67_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![13, 0, 0]) (A' := 1) (B' := 256) (C' := 256) _ h27) (fun a b c ha _ _ => by simp; congr 1; omega))
  refine add3f _ ?_ ?_; swap
  · exact step_best P (i 0).val lo k.val 12 (coord_lt i) hk (At3.cg (rd3f (off := ![12, 0, 0]) (A' := 1) (B' := 8) (C' := 256) _ h28) (fun a b c ha _ _ => by simp; congr 1; omega)) (At2.cg (rdRb (off := k0_off66 i w0 w0 w1 w1 w2 w2 w3 w3 w4 w4 w5 w5 w6 w6 k) (R' := 256) (C' := 128) _ h25 (by rw [off66_eq i w0 w1 w2 w3 w4 w5 w6 hl k hb]; show 256 * (lo + k.val) + 256 ≤ _; omega)) (fun r n _ _ => by rw [off66_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![12, 0, 0]) (A' := 1) (B' := 256) (C' := 256) _ h27) (fun a b c ha _ _ => by simp; congr 1; omega))
  refine add3f _ ?_ ?_; swap
  · exact step_best P (i 0).val lo k.val 11 (coord_lt i) hk (At3.cg (rd3f (off := ![11, 0, 0]) (A' := 1) (B' := 8) (C' := 256) _ h28) (fun a b c ha _ _ => by simp; congr 1; omega)) (At2.cg (rdRb (off := k0_off65 i w0 w0 w1 w1 w2 w2 w3 w3 w4 w4 w5 w5 w6 w6 k) (R' := 256) (C' := 128) _ h25 (by rw [off65_eq i w0 w1 w2 w3 w4 w5 w6 hl k hb]; show 256 * (lo + k.val) + 256 ≤ _; omega)) (fun r n _ _ => by rw [off65_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![11, 0, 0]) (A' := 1) (B' := 256) (C' := 256) _ h27) (fun a b c ha _ _ => by simp; congr 1; omega))
  refine add3f _ ?_ ?_; swap
  · exact step_best P (i 0).val lo k.val 10 (coord_lt i) hk (At3.cg (rd3f (off := ![10, 0, 0]) (A' := 1) (B' := 8) (C' := 256) _ h28) (fun a b c ha _ _ => by simp; congr 1; omega)) (At2.cg (rdRb (off := k0_off64 i w0 w0 w1 w1 w2 w2 w3 w3 w4 w4 w5 w5 w6 w6 k) (R' := 256) (C' := 128) _ h25 (by rw [off64_eq i w0 w1 w2 w3 w4 w5 w6 hl k hb]; show 256 * (lo + k.val) + 256 ≤ _; omega)) (fun r n _ _ => by rw [off64_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![10, 0, 0]) (A' := 1) (B' := 256) (C' := 256) _ h27) (fun a b c ha _ _ => by simp; congr 1; omega))
  refine add3f _ ?_ ?_; swap
  · exact step_best P (i 0).val lo k.val 9 (coord_lt i) hk (At3.cg (rd3f (off := ![9, 0, 0]) (A' := 1) (B' := 8) (C' := 256) _ h28) (fun a b c ha _ _ => by simp; congr 1; omega)) (At2.cg (rdRb (off := k0_off63 i w0 w0 w1 w1 w2 w2 w3 w3 w4 w4 w5 w5 w6 w6 k) (R' := 256) (C' := 128) _ h25 (by rw [off63_eq i w0 w1 w2 w3 w4 w5 w6 hl k hb]; show 256 * (lo + k.val) + 256 ≤ _; omega)) (fun r n _ _ => by rw [off63_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![9, 0, 0]) (A' := 1) (B' := 256) (C' := 256) _ h27) (fun a b c ha _ _ => by simp; congr 1; omega))
  refine add3f _ ?_ ?_; swap
  · exact step_best P (i 0).val lo k.val 8 (coord_lt i) hk (At3.cg (rd3f (off := ![8, 0, 0]) (A' := 1) (B' := 8) (C' := 256) _ h28) (fun a b c ha _ _ => by simp; congr 1; omega)) (At2.cg (rdRb (off := k0_off62 i w0 w0 w1 w1 w2 w2 w3 w3 w4 w4 w5 w5 w6 w6 k) (R' := 256) (C' := 128) _ h25 (by rw [off62_eq i w0 w1 w2 w3 w4 w5 w6 hl k hb]; show 256 * (lo + k.val) + 256 ≤ _; omega)) (fun r n _ _ => by rw [off62_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![8, 0, 0]) (A' := 1) (B' := 256) (C' := 256) _ h27) (fun a b c ha _ _ => by simp; congr 1; omega))
  refine add3f _ ?_ ?_; swap
  · exact step_best P (i 0).val lo k.val 7 (coord_lt i) hk (At3.cg (rd3f (off := ![7, 0, 0]) (A' := 1) (B' := 8) (C' := 256) _ h28) (fun a b c ha _ _ => by simp; congr 1; omega)) (At2.cg (rdRb (off := k0_off61 i w0 w0 w1 w1 w2 w2 w3 w3 w4 w4 w5 w5 w6 w6 k) (R' := 256) (C' := 128) _ h25 (by rw [off61_eq i w0 w1 w2 w3 w4 w5 w6 hl k hb]; show 256 * (lo + k.val) + 256 ≤ _; omega)) (fun r n _ _ => by rw [off61_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![7, 0, 0]) (A' := 1) (B' := 256) (C' := 256) _ h27) (fun a b c ha _ _ => by simp; congr 1; omega))
  refine add3f _ ?_ ?_; swap
  · exact step_best P (i 0).val lo k.val 6 (coord_lt i) hk (At3.cg (rd3f (off := ![6, 0, 0]) (A' := 1) (B' := 8) (C' := 256) _ h28) (fun a b c ha _ _ => by simp; congr 1; omega)) (At2.cg (rdRb (off := k0_off60 i w0 w0 w1 w1 w2 w2 w3 w3 w4 w4 w5 w5 w6 w6 k) (R' := 256) (C' := 128) _ h25 (by rw [off60_eq i w0 w1 w2 w3 w4 w5 w6 hl k hb]; show 256 * (lo + k.val) + 256 ≤ _; omega)) (fun r n _ _ => by rw [off60_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![6, 0, 0]) (A' := 1) (B' := 256) (C' := 256) _ h27) (fun a b c ha _ _ => by simp; congr 1; omega))
  refine add3f _ ?_ ?_; swap
  · exact step_best P (i 0).val lo k.val 5 (coord_lt i) hk (At3.cg (rd3f (off := ![5, 0, 0]) (A' := 1) (B' := 8) (C' := 256) _ h28) (fun a b c ha _ _ => by simp; congr 1; omega)) (At2.cg (rdRb (off := k0_off59 i w0 w0 w1 w1 w2 w2 w3 w3 w4 w4 w5 w5 w6 w6 k) (R' := 256) (C' := 128) _ h25 (by rw [off59_eq i w0 w1 w2 w3 w4 w5 w6 hl k hb]; show 256 * (lo + k.val) + 256 ≤ _; omega)) (fun r n _ _ => by rw [off59_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![5, 0, 0]) (A' := 1) (B' := 256) (C' := 256) _ h27) (fun a b c ha _ _ => by simp; congr 1; omega))
  refine add3f _ ?_ ?_; swap
  · exact step_best P (i 0).val lo k.val 4 (coord_lt i) hk (At3.cg (rd3f (off := ![4, 0, 0]) (A' := 1) (B' := 8) (C' := 256) _ h28) (fun a b c ha _ _ => by simp; congr 1; omega)) (At2.cg (rdRb (off := k0_off58 i w0 w0 w1 w1 w2 w2 w3 w3 w4 w4 w5 w5 w6 w6 k) (R' := 256) (C' := 128) _ h25 (by rw [off58_eq i w0 w1 w2 w3 w4 w5 w6 hl k hb]; show 256 * (lo + k.val) + 256 ≤ _; omega)) (fun r n _ _ => by rw [off58_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![4, 0, 0]) (A' := 1) (B' := 256) (C' := 256) _ h27) (fun a b c ha _ _ => by simp; congr 1; omega))
  refine add3f _ ?_ ?_; swap
  · exact step_best P (i 0).val lo k.val 3 (coord_lt i) hk (At3.cg (rd3f (off := ![3, 0, 0]) (A' := 1) (B' := 8) (C' := 256) _ h28) (fun a b c ha _ _ => by simp; congr 1; omega)) (At2.cg (rdRb (off := k0_off57 i w0 w0 w1 w1 w2 w2 w3 w3 w4 w4 w5 w5 w6 w6 k) (R' := 256) (C' := 128) _ h25 (by rw [off57_eq i w0 w1 w2 w3 w4 w5 w6 hl k hb]; show 256 * (lo + k.val) + 256 ≤ _; omega)) (fun r n _ _ => by rw [off57_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![3, 0, 0]) (A' := 1) (B' := 256) (C' := 256) _ h27) (fun a b c ha _ _ => by simp; congr 1; omega))
  refine add3f _ ?_ ?_; swap
  · exact step_best P (i 0).val lo k.val 2 (coord_lt i) hk (At3.cg (rd3f (off := ![2, 0, 0]) (A' := 1) (B' := 8) (C' := 256) _ h28) (fun a b c ha _ _ => by simp; congr 1; omega)) (At2.cg (rdRb (off := k0_off56 i w0 w0 w1 w1 w2 w2 w3 w3 w4 w4 w5 w5 w6 w6 k) (R' := 256) (C' := 128) _ h25 (by rw [off56_eq i w0 w1 w2 w3 w4 w5 w6 hl k hb]; show 256 * (lo + k.val) + 256 ≤ _; omega)) (fun r n _ _ => by rw [off56_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![2, 0, 0]) (A' := 1) (B' := 256) (C' := 256) _ h27) (fun a b c ha _ _ => by simp; congr 1; omega))
  refine add3f _ ?_ ?_; swap
  · exact step_best P (i 0).val lo k.val 1 (coord_lt i) hk (At3.cg (rd3f (off := ![1, 0, 0]) (A' := 1) (B' := 8) (C' := 256) _ h28) (fun a b c ha _ _ => by simp; congr 1; omega)) (At2.cg (rdRb (off := k0_off55 i w0 w0 w1 w1 w2 w2 w3 w3 w4 w4 w5 w5 w6 w6 k) (R' := 256) (C' := 128) _ h25 (by rw [off55_eq i w0 w1 w2 w3 w4 w5 w6 hl k hb]; show 256 * (lo + k.val) + 256 ≤ _; omega)) (fun r n _ _ => by rw [off55_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![1, 0, 0]) (A' := 1) (B' := 256) (C' := 256) _ h27) (fun a b c ha _ _ => by simp; congr 1; omega))
  refine add3f _ ?_ ?_; swap
  · exact step_best P (i 0).val lo k.val 0 (coord_lt i) hk (At3.cg (rd3f (off := ![0, 0, 0]) (A' := 1) (B' := 8) (C' := 256) _ h28) (fun a b c ha _ _ => by simp; congr 1; omega)) (At2.cg (rdRb (off := k0_off53 i w0 w0 w1 w1 w2 w2 w3 w3 w4 w4 w5 w5 w6 w6 k) (R' := 256) (C' := 128) _ h25 (by rw [off53_eq i w0 w1 w2 w3 w4 w5 w6 hl k hb]; show 256 * (lo + k.val) + 256 ≤ _; omega)) (fun r n _ _ => by rw [off53_eq i w0 w1 w2 w3 w4 w5 w6 hl k hb]; simp)) (At2.cg (rdRb (off := k0_off54 i w0 w0 w1 w1 w2 w2 w3 w3 w4 w4 w5 w5 w6 w6 k) (R' := 256) (C' := 128) _ h26 (by rw [off54_eq i w0 w1 w2 w3 w4 w5 w6 hl k hb]; show 256 * (lo + k.val) + 256 ≤ _; omega)) (fun r n _ _ => by rw [off54_eq i w0 w1 w2 w3 w4 w5 w6 hl k hb]; simp)) (At3.cg (rd3b (off := ![0, 0, 0]) (A' := 1) (B' := 256) (C' := 256) _ h27) (fun a b c ha _ _ => by simp; congr 1; omega))
  exact AtH.zero
end Cert.KernelIdeal.Val
-- ==== Proof.Mask.lean ====
module

public import proofs.«01_k».proof.Proof.Spec

@[expose] public section

set_option maxRecDepth 16384

noncomputable section

/-! Which keys a query keeps: the penalty columns take every key of another sequence to minus infinity. -/

namespace Cert.Spec

open Idealize.ShloMosaic

variable (P : Inp)

/-- The boundary words as integers. -/
def cz (s : ℕ) : ℤ := if s < 7 then (P.cu s).toInt else 8193

/-- The boundaries are in order and the first is not positive. -/
structure Ord : Prop where
  zero : cz P 0 ≤ 0
  step : ∀ s < 6, cz P s ≤ cz P (s + 1)

variable {P}

theorem Ord.mono (H : Ord P) : ∀ {a b : ℕ}, a ≤ b → b < 7 → cz P a ≤ cz P b := by
  intro a b hab
  induction b, hab using Nat.le_induction with
  | base => intro _; exact le_rfl
  | succ b hab ih => intro hb; exact (ih (by omega)).trans (H.step b (by omega))

theorem tok_int {t : ℕ} (ht : t < 8192) : (BitVec.ofNat 32 t).toInt = t := by
  rw [BitVec.toInt_eq_toNat_of_lt] <;> simp <;> omega

theorem same_iff {t s : ℕ} (ht : t < 8192) (hs : s < 7) : same P t s ↔ cz P s ≤ t ∧ (t : ℤ) < cz P (s + 1) := by
  unfold same
  rw [tok_int ht]
  obtain rfl | rfl | rfl | rfl | rfl | rfl | rfl : s = 0 ∨ s = 1 ∨ s = 2 ∨ s = 3 ∨ s = 4 ∨ s = 5 ∨ s = 6 := by omega
  all_goals simp [lo, hi, cz]

theorem seq_of (H : Ord P) {k : ℕ} (hk : k < 8192) : ∃ s < 7, cz P s ≤ k ∧ (k : ℤ) < cz P (s + 1) := by
  have h0 : cz P 0 ≤ k := H.zero.trans (by positivity)
  by_contra hn
  push Not at hn
  have h1 := hn 0 (by omega) h0
  have h2 := hn 1 (by omega) h1
  have h3 := hn 2 (by omega) h2
  have h4 := hn 3 (by omega) h3
  have h5 := hn 4 (by omega) h4
  have h6 := hn 5 (by omega) h5
  have h7 := hn 6 (by omega) h6
  simp [cz] at h7
  omega

/-- Key `k` is not before the sequence of query `q`. -/
def Keep (P : Inp) (k q : ℕ) : Prop := ∀ s < 7, cz P s ≤ q → cz P s ≤ k

theorem keep_iff (H : Ord P) {k q : ℕ} (hkq : k ≤ q) (hq : q < 8192) : (∀ s < 7, same P k s → same P q s) ↔ Keep P k q := by
  have hk : k < 8192 := by omega
  constructor
  · intro h m hm hmq
    obtain ⟨s, hs, h1, h2⟩ := seq_of H hk
    have h3 := (same_iff hq hs).1 (h s hs ((same_iff hk hs).2 ⟨h1, h2⟩))
    have : m ≤ s := by
      by_contra hc
      have := H.mono (a := s + 1) (b := m) (by omega) hm
      omega
    exact (H.mono this hs).trans h1
  · intro h s hs hks
    rw [same_iff hk hs] at hks
    rw [same_iff hq hs]
    refine ⟨by omega, ?_⟩
    by_contra hc
    by_cases h6 : s + 1 < 7
    · have := h (s + 1) h6 (by omega)
      omega
    · have : cz P (s + 1) = 8193 := by simp [cz, h6]
      omega

theorem sum_bot {ι : Type} [Fintype ι] [DecidableEq ι] (f : ι → EReal) (i : ι) (h : f i = ⊥) : ∑ j, f j = ⊥ := by
  rw [← Finset.add_sum_erase _ _ (Finset.mem_univ i), h, EReal.bot_add]

theorem score_bot {h k q s : ℕ} (hs : s < 7) (hk : same P k s) (hq : ¬ same P q s) : score P h k q = ⊥ := by
  unfold score
  rw [sum_bot (fun f : Fin 128 => FEAT P k f.val * QT P h (128 + f.val) q) ⟨64 + s, by omega⟩ ?_, EReal.add_bot]
  show FEAT P k (64 + s) * QT P h (128 + (64 + s)) q = ⊥
  have e1 : FEAT P k (64 + s) = 1 := by
    unfold FEAT
    rw [if_neg (by omega), if_pos (by rwa [show 64 + s - 64 = s by omega])]
  have e2 : QT P h (128 + (64 + s)) q = ⊥ := by
    unfold QT PEN
    rw [if_neg (by omega), if_neg (by omega), show 128 + (64 + s) - 192 = s by omega, if_neg]
    rintro (h | h)
    · exact hq h
    · omega
  rw [e1, e2, one_mul]

theorem sum64 (f : ℕ → EReal) : ∑ i : Fin 128, f i.val = ∑ i : Fin 64, f i.val + ∑ i : Fin 64, f (64 + i.val) := by
  rw [Fin.sum_univ_eq_sum_range f 128, Fin.sum_univ_eq_sum_range f 64, Fin.sum_univ_eq_sum_range (fun i => f (64 + i)) 64]
  exact Finset.sum_range_add f 64 64

/-- The score of a kept key without the penalty columns. -/
def plain (P : Inp) (h k q : ℕ) : EReal :=
  ∑ f : Fin 128, KEY P k (128 * h + f.val) * QN P h f.val q + ∑ e : Fin 64, P.rope k e.val * QR P h e.val q

theorem score_plain {h k q : ℕ} (hs : ∀ s < 7, same P k s → same P q s) : score P h k q = plain P h k q := by
  unfold score plain
  refine congrArg₂ (· + ·) ?_ ?_
  · refine Finset.sum_congr rfl fun f _ => ?_
    rw [QT, if_pos f.isLt]
  · refine (sum64 (fun f => FEAT P k f * QT P h (128 + f) q)).trans ?_
    have z : ∑ i : Fin 64, FEAT P k (64 + i.val) * QT P h (128 + (64 + i.val)) q = 0 := by
      refine Finset.sum_eq_zero fun i _ => ?_
      unfold FEAT QT PEN
      rw [if_neg (show ¬ 64 + i.val < 64 by omega), if_neg (show ¬ 128 + (64 + i.val) < 128 by omega), if_neg (show ¬ 128 + (64 + i.val) < 192 by omega), show 128 + (64 + i.val) - 192 = i.val by omega, show 64 + i.val - 64 = i.val by omega]
      by_cases hq : same P q i.val ∨ 7 ≤ i.val
      · rw [if_pos hq, mul_zero]
      · rw [if_neg hq]
        push Not at hq
        rw [if_neg (fun hk => hq.1 (hs _ hq.2 hk)), zero_mul]
    rw [z, add_zero]
    refine Finset.sum_congr rfl fun f _ => ?_
    unfold FEAT QT
    rw [if_pos f.isLt, if_neg (show ¬ 128 + f.val < 128 by omega), if_pos (show 128 + f.val < 192 by omega), show 128 + f.val - 128 = f.val by omega]

open Classical in
theorem score_eq (H : Ord P) {h k q : ℕ} (hkq : k ≤ q) (hq : q < 8192) : score P h k q = if Keep P k q then plain P h k q else ⊥ := by
  split
  · rename_i hk; exact score_plain ((keep_iff H hkq hq).2 hk)
  · rename_i hk
    rw [← keep_iff H hkq hq] at hk
    push Not at hk
    obtain ⟨s, hs, h1, h2⟩ := hk
    exact score_bot hs h1 h2

/-- The tiles before the first kept one give nothing. -/
theorem score_skip (H : Ord P) {h k q n t m : ℕ} (hm : m < 7) (hc : P.cu m = BitVec.ofNat 32 n) (hn : n ≤ 256 * t) (ht : t < 32) (hk : k < 256 * (n / 256)) (hq : 256 * t ≤ q) (hq' : q < 8192) :
    score P h k q = ⊥ := by
  rw [score_eq H (by omega) hq', if_neg]
  intro hK
  have e : cz P m = n := by
    unfold cz
    rw [if_pos hm, hc, tok_int (by omega)]
  have := hK m hm (by omega)
  omega

end Cert.Spec
-- ==== Proof.SegD.lean ====
module

public import proofs.«01_k».proof.Proof.Gen.KernelIdeal.Frame
public import proofs.«01_k».proof.Proof.Gen.KernelIdeal.Skeleton
public import proofs.«01_k».proof.Proof.T3
public import proofs.«01_k».proof.Proof.Mask
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
open Cert.KernelIdeal.Hand Cert.Words

theorem best_none (P : Inp) (t lo : ℕ) : BEST P t lo 0 = BEST P t t 0 := by
  classical
  funext h s q
  unfold BEST
  refine iSup_congr fun k => if_congr ?_ rfl rfl
  unfold Seen
  constructor <;> rintro ⟨a, b⟩ <;> exact ⟨a, by omega⟩

theorem whole2f {κ : Kind} {sp : Space} {R C : ℕ} (v : View sig κ sp (⟨2, ![R, C]⟩ : Shape) .f32) {f : v.ty.Contents (Elt Ideal)} {L : List (View.Piece (Elt Ideal) (⟨2, ![R, C]⟩ : Shape) .f32)}
    {inb : ∀ a, (![0, 0] : Fin 2 → ℕ) a + (![R, C] : Fin 2 → ℕ) a ≤ (⟨2, ![R, C]⟩ : Shape).size a}
    {w : (Rect.unit (s := (⟨2, ![R, C]⟩ : Shape)) ![0, 0] ![R, C] inb).shape.Idx → Elt Ideal .f32} (r : Fin R) (c : Fin C) :
    v.read (Elt Ideal) (v.writes (Elt Ideal) f (⟨Rect.unit (s := (⟨2, ![R, C]⟩ : Shape)) ![0, 0] ![R, C] inb, w⟩ :: L)) (ix2 r c) = w (ix2 r c) := by
  refine (View.read_writes_cons_rows_of_mem v f inb w L (ix2 r c) (ix2 r c) rfl ?_ rfl)
  show r.val = 0 + r.val; omega
theorem run_cov {P : Inp} {κ : Kind} {sp : Space} (v : View sig κ sp (⟨2, ![16, 256]⟩ : Shape) .f32) {t : ℕ}
    {inb inb' : ∀ a, (![0, 0] : Fin 2 → ℕ) a + (![16, 256] : Fin 2 → ℕ) a ≤ (⟨2, ![16, 256]⟩ : Shape).size a}
    {w : (Rect.unit (s := (⟨2, ![16, 256]⟩ : Shape)) ![0, 0] ![16, 256] inb).shape.Idx → Elt Ideal .f32} (ht : t = 32) (h : RunAt P t w) :
    RunAt P 32 (v.readCov (Val := Elt Ideal) [⟨Rect.unit (s := (⟨2, ![16, 256]⟩ : Shape)) ![0, 0] ![16, 256] inb, w⟩] (Rect.unit (s := (⟨2, ![16, 256]⟩ : Shape)) ![0, 0] ![16, 256] inb').toLoadRect) := by
  subst ht
  intro a b x
  rw [← h a b x]
  exact (View.read_writes_cons_emb v _ (Rect.unit (s := (⟨2, ![16, 256]⟩ : Shape)) ![0, 0] ![16, 256] inb) w [] (ix2 a b)) ▸ Iff.rfl
theorem rdw2f {κ : Kind} {sp : Space} {R C : ℕ} (v : View sig κ sp (⟨2, ![R, C]⟩ : Shape) .f32) {f : v.ty.Contents (Elt Ideal)}
    {inb : ∀ a, (![0, 0] : Fin 2 → ℕ) a + (![R, C] : Fin 2 → ℕ) a ≤ (⟨2, ![R, C]⟩ : Shape).size a} (r : Fin R) (c : Fin C) :
    v.readAt (Elt Ideal) (Rect.unit (s := (⟨2, ![R, C]⟩ : Shape)) ![0, 0] ![R, C] inb).toLoadRect f (ix2 r c) = v.read (Elt Ideal) f (ix2 r c) := by
  show v.read (Elt Ideal) f _ = _
  congr 1
  funext a
  fin_cases a <;> (apply Fin.ext; simp [LoadRect.idx_apply, Rect.unit])

/-- Once every tile from `lo` on is seen, the eight maxima together are the query's greatest score. -/
theorem best_top {P : Inp} {t lo h q : ℕ} (ht : t < 32) (hq : q < 256) (hlo : lo ≤ t) (hs : ∀ k < 256 * lo, score P h k (256 * t + q) = ⊥) (x : EReal) :
    (∀ s : Fin 8, BEST P t lo (t - lo) h s.val q ≤ x) ↔ TOP P h (256 * t + q) ≤ x := by
  simp only [best_le, TOP, iSup_le_iff]
  constructor
  · intro H k
    by_cases hk : k.val < 256 * lo
    · rw [hs _ hk]; exact bot_le
    · exact H ⟨k.val % 8, by omega⟩ k.val (by omega) ⟨rfl, by omega⟩
  · intro H s k hk hsn
    exact H ⟨k, by have := hsn.2; omega⟩

theorem best_slab {P : Inp} {t lo h : ℕ} (ht : t < 32) (hlo : lo ≤ t) (hs : ∀ h k q, q < 256 → k < 256 * lo → score P h k (256 * t + q) = ⊥)
    {b : Vec Ideal S1x8x256 .f32} (hb : At3 (A := 1) (B := 8) (C := 256) b (fun _ s q => BEST P t lo (t - lo) h s q)) (q : Fin 256) (x : EReal) :
    (∀ s : Fin 8, b (ix3 0 s q) ≤ x) ↔ TOP P h (256 * t + q.val) ≤ x := by
  rw [← best_top ht q.isLt hlo (fun k hk => hs h k q.val q.isLt hk)]
  exact forall_congr' fun s => by rw [hb 0 s q]

theorem run_next {P : Inp} {t : ℕ} {X Y : Vec Ideal S16x256 .f32} (hX : RunAt P t X) (hY : ∀ h q, Y (ix2 h q) = max (X (ix2 h q)) (ROW P h.val (256 * t + q.val))) : RunAt P (t + 1) Y := by
  intro h q x
  rw [hY, max_le_iff, hX h q x]
  constructor
  · rintro ⟨a, b⟩ j hj
    by_cases hjt : j < t
    · exact a j hjt
    · obtain rfl : j = t := by omega
      exact b
  · intro H
    exact ⟨fun j hj => H j (by omega), H t (by omega)⟩

noncomputable def segE (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (arg0 : BitVec 32) (v965 : Elt Ideal .i32) (v967 : Elt Ideal .i32) (v970 : Elt Ideal .i32) (v972 : Elt Ideal .i32) (v975 : Elt Ideal .i32) (v977 : Elt Ideal .i32) (v980 : Elt Ideal .i32) (v982 : Elt Ideal .i32) (v985 : Elt Ideal .i32) (v987 : Elt Ideal .i32) (v990 : Elt Ideal .i32) (v992 : Elt Ideal .i32) (v995 : Elt Ideal .i32) (v997 : Elt Ideal .i32) (k0_hw1 : k0_chk1 i v965 v967 v970 v972 v975 v977 v980 v982 v985 v987 v990 v992 v995 v997) (v999 c256_i32_578 v1000 v1002 c0_i32_580 : BitVec 32) : Prog (TpuEff nD τ sig (Elt Ideal) Λ₀ .tc) PUnit := do
  let ⟨v1025, v1029, v1033, v1036⟩ : Σ' (v1025 : FVec Ideal S1x256 .f32) (v1029 : FVec Ideal S1x256 .f32) (v1033 : FVec Ideal S1x256 .f32), FVec Ideal S256 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg0 v965 v967 v970 v972 v975 v977 v980 v982 v985 v987 v990 v992 v995 v997 k0_hw1 v999 c256_i32_578 v1000 v1002 c0_i32_580
  let ⟨v1037, v1041, v1045, v1049, v1053, v1057, v1061, v1065⟩ : Σ' (v1037 : FVec Ideal S1x256 .f32) (v1041 : FVec Ideal S1x256 .f32) (v1045 : FVec Ideal S1x256 .f32) (v1049 : FVec Ideal S1x256 .f32) (v1053 : FVec Ideal S1x256 .f32) (v1057 : FVec Ideal S1x256 .f32) (v1061 : FVec Ideal S1x256 .f32), FVec Ideal S1x256 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v1036
  let ⟨v1097, c0_i32_660⟩ : Σ' (v1097 : BitVec 32), BitVec 32 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg0 v1025 v1029 v1033 v1037 v1041 v1045 v1049 v1053 v1057 v1061 v1065
  if k0_h2 : k0_cond2 i = 1#1 then do
    let v1099 : Vec Ideal S16x256 .f32 ← Prog.lift (.load arg29 (Rect.unit (s := S16x256) ![0, 0] S16x256.size inb_S16x256_S16x256_0_0).toLoadRect (View.loadsAt_vmem h_S16x256))
    let v1102 : Elt Ideal .f32 ← smemLoad arg2 (Rect.unit (s := S1) ![0] S1.size inb_S1_S1_0) numel1_S1 rfl
    let v1132 : Vec Ideal S1x16 .f32 ← Prog.lift (.load arg15 (Rect.unit (s := S1x16) ![0, 0] S1x16.size inb_S1x16_S1x16_0_0).toLoadRect (View.loadsAt_vmem h_S1x16))
    Prog.lift (.store arg15 (Rect.unit (s := S1x16) ![0, 0] S1x16.size inb_S1x16_S1x16_0_0) (k0_pay5 v1099) Finset.univ (View.stores_vmem_bits_univ h_S1x16 rfl) (.inl rfl))
    let v1134 : Vec Ideal S1x16 .f32 ← Prog.lift (.load arg16 (Rect.unit (s := S1x16) ![0, 0] S1x16.size inb_S1x16_S1x16_0_0).toLoadRect (View.loadsAt_vmem h_S1x16))
    Prog.lift (.store arg16 (Rect.unit (s := S1x16) ![0, 0] S1x16.size inb_S1x16_S1x16_0_0) (k0_pay6 v1099 v1102) Finset.univ (View.stores_vmem_bits_univ h_S1x16 rfl) (.inl rfl))
    let v1136 : Vec Ideal S2x128 .f32 ← Prog.lift (.load arg17 (Rect.unit (s := S2x128) ![0, 0] S2x128.size inb_S2x128_S2x128_0_0).toLoadRect (View.loadsAt_vmem h_S2x128))
    Prog.lift (.store arg17 (Rect.unit (s := S2x128) ![0, 0] S2x128.size inb_S2x128_S2x128_0_0) (k0_pay7 v1099 v1102) Finset.univ (View.stores_vmem_bits_univ h_S2x128 rfl) (.inl rfl))
    pure ⟨⟩
  else do
    pure ⟨⟩
  pure ⟨⟩

noncomputable def segF (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (v3 : BitVec 32) (v961 : FVec Ideal S8x256 .f32) (kk : (v965 v967 v970 v972 v975 v977 v980 v982 v985 v987 v990 v992 v995 v997 : Elt Ideal .i32) → k0_chk1 i v965 v967 v970 v972 v975 v977 v980 v982 v985 v987 v990 v992 v995 v997 → BitVec 32 → BitVec 32 → BitVec 32 → BitVec 32 → BitVec 32 → Prog (TpuEff nD τ sig (Elt Ideal) Λ₀ .tc) PUnit) : Prog (TpuEff nD τ sig (Elt Ideal) Λ₀ .tc) PUnit := do
  let ⟨v965, v967, v970, v972, v975, v977, v980, v982, v985, v987, v990, v992, v995, v997, k0_hw1, v999, c256_i32_578, v1000, v1002, c0_i32_580⟩ : Σ' (v965 : Elt Ideal .i32) (v967 : Elt Ideal .i32) (v970 : Elt Ideal .i32) (v972 : Elt Ideal .i32) (v975 : Elt Ideal .i32) (v977 : Elt Ideal .i32) (v980 : Elt Ideal .i32) (v982 : Elt Ideal .i32) (v985 : Elt Ideal .i32) (v987 : Elt Ideal .i32) (v990 : Elt Ideal .i32) (v992 : Elt Ideal .i32) (v995 : Elt Ideal .i32) (v997 : Elt Ideal .i32) (k0_hw1 : k0_chk1 i v965 v967 v970 v972 v975 v977 v980 v982 v985 v987 v990 v992 v995 v997) (v999 : BitVec 32) (c256_i32_578 : BitVec 32) (v1000 : BitVec 32) (v1002 : BitVec 32), BitVec 32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v961
  kk v965 v967 v970 v972 v975 v977 v980 v982 v985 v987 v990 v992 v995 v997 k0_hw1 v999 c256_i32_578 v1000 v1002 c0_i32_580

noncomputable def segD (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (arg0 v3 : BitVec 32) (v961 : FVec Ideal S8x256 .f32) : Prog (TpuEff nD τ sig (Elt Ideal) Λ₀ .tc) PUnit := segF i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v961 (segE i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg0)

set_option maxHeartbeats 400000 in
theorem segE_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (Q : PUnit → sProp 𝕄)
    (x2 : Vec Ideal S1 .f32) (x25 : Vec Ideal S8192x2048 .bf16) (x26 : Vec Ideal S8192x128 .bf16) (x27 : Vec Ideal S16x256x256 .bf16) (x28 : Vec Ideal S16x8x256 .f32) (x29 : Vec Ideal S16x256 .f32) (x14 : Vec Ideal S256x16 .f32) (x15 : Vec Ideal S1x16 .f32) (x16 : Vec Ideal S1x16 .f32) (x17 : Vec Ideal S2x128 .f32) (P : Inp) (HO : Ord P)
    (w0 w1 w2 w3 w4 w5 w6 : BitVec 32) (hw : k0_chk1 i w0 w0 w1 w1 w2 w2 w3 w3 w4 w4 w5 w5 w6 w6) (a1 a2 a3 a4 a5 : BitVec 32) (e0 : w0 = P.cu 0) (e1 : w1 = P.cu 1) (e2 : w2 = P.cu 2) (e3 : w3 = P.cu 3) (e4 : w4 = P.cu 4) (e5 : w5 = P.cu 5) (e6 : w6 = P.cu 6)
    (h2 : ∀ y, x2 y = P.tau)
    (h25 : AtR (R := 8192) (C := 2048) (256 * (i 0).val + 256) x25 (KEY P))
    (h26 : AtR (R := 8192) (C := 128) (256 * (i 0).val + 256) x26 (FEAT P))
    (h27 : At3 (A := 16) (B := 256) (C := 256) x27 (fun h f q => QT P h f (256 * (i 0).val + q)))
    (h28 : At3 (A := 16) (B := 8) (C := 256) x28 (BEST P (i 0).val (i 0).val 0))
    (h29 : RunAt P (i 0).val x29) (hend : k0_cond2 i = 1#1 → (i 0).val = 31) :
    iprop(owns (c : Thread nD τ) arg2 fullShare x2 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg14 fullShare x14 ∗ owns (c : Thread nD τ) arg15 fullShare x15 ∗ owns (c : Thread nD τ) arg16 fullShare x16 ∗ owns (c : Thread nD τ) arg17 fullShare x17 ∗ (∀ y28 y29 y14 y15 y16 y17, (owns (c : Thread nD τ) arg2 fullShare x2 ∗ owns (c : Thread nD τ) arg25 fullShare x25 ∗ owns (c : Thread nD τ) arg26 fullShare x26 ∗ owns (c : Thread nD τ) arg27 fullShare x27 ∗ owns (c : Thread nD τ) arg28 fullShare y28 ∗ owns (c : Thread nD τ) arg29 fullShare y29 ∗ owns (c : Thread nD τ) arg14 fullShare y14 ∗ owns (c : Thread nD τ) arg15 fullShare y15 ∗ owns (c : Thread nD τ) arg16 fullShare y16 ∗ owns (c : Thread nD τ) arg17 fullShare y17 ∗ ⌜At2 (R := 256) (C := 16) y14 (fun q h => ROW P h (256 * (i 0).val + q)) ∧ RunAt P ((i 0).val + 1) y29
      ∧ (k0_cond2 i = 1#1 → At2 (R := 1) (C := 16) y15 (fun _ h => SMAX P h) ∧ At2 (R := 1) (C := 16) y16 (fun _ h => GAM P h) ∧ At2 (R := 2) (C := 128) y17 (STATS P))
      ∧ (¬ k0_cond2 i = 1#1 → y15 = x15 ∧ y16 = x16 ∧ y17 = x17)⌝) -∗ Q ⟨⟩))
      ⊢ wp frame (wpE (defs₀ (F := Ideal)) Variants.none (c : Thread nD τ) none) Set.univ (segE i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) w0 w0 w1 w1 w2 w2 w3 w3 w4 w4 w5 w5 w6 w6 hw a1 a2 a3 a4 a5) Q := by
  unfold segE
  simp only [k0_part63_eq_skeleton]; unfold k0_part63_skel
  unfold owns
  iintro ⟨⟨%f2, %hf2, H2⟩, ⟨%f25, %hf25, H25⟩, ⟨%f26, %hf26, H26⟩, ⟨%f27, %hf27, H27⟩, ⟨%f28, %hf28, H28⟩, ⟨%f29, %hf29, H29⟩, ⟨%f14, %hf14, H14⟩, ⟨%f15, %hf15, H15⟩, ⟨%f16, %hf16, H16⟩, ⟨%f17, %hf17, H17⟩, Hk⟩
  subst hf2; subst hf25; subst hf26; subst hf27; subst hf28; subst hf29; subst hf14; subst hf15; subst hf16; subst hf17
  sl_exec_parts
  have HL : ∃ lo, lo ≤ (i 0).val ∧ lowW i w0 w1 w2 w3 w4 w5 w6 = BitVec.ofNat 32 lo ∧ (∀ h k q, q < 256 → k < 256 * lo → score P h k (256 * (i 0).val + q) = ⊥) := by
    obtain ⟨n, hn, hw, hl⟩ := low_exists i w0 w1 w2 w3 w4 w5 w6
    refine ⟨n / 256, by omega, hl, fun h k q hq hk => ?_⟩
    obtain rfl | ⟨w, hw, e⟩ := hw
    · simp at hk
    · have := coord_lt i
      have hm : ∃ m < 7, P.cu m = BitVec.ofNat 32 n := by
        obtain rfl | rfl | rfl | rfl | rfl | rfl | rfl := hw
        · exact ⟨0, by omega, e0.symm.trans e⟩
        · exact ⟨1, by omega, e1.symm.trans e⟩
        · exact ⟨2, by omega, e2.symm.trans e⟩
        · exact ⟨3, by omega, e3.symm.trans e⟩
        · exact ⟨4, by omega, e4.symm.trans e⟩
        · exact ⟨5, by omega, e5.symm.trans e⟩
        · exact ⟨6, by omega, e6.symm.trans e⟩
      obtain ⟨m, hm, e⟩ := hm
      exact score_skip HO hm e hn (coord_lt i) hk (by omega) (by omega)
  obtain ⟨lo, hlo, hl, hskip⟩ := HL
  have htr := t3_trips i w0 w1 w2 w3 w4 w5 w6 hlo hl
  sl_for (fun (j : ℕ) (_ : Unit) => iprop(owns (c : Thread nD τ) arg25 fullShare (arg25.view.read (Elt Ideal) f25) ∗ owns (c : Thread nD τ) arg26 fullShare (arg26.view.read (Elt Ideal) f26) ∗ owns (c : Thread nD τ) arg27 fullShare (arg27.view.read (Elt Ideal) f27) ∗ ∃ y28, ⌜At3 (A := 16) (B := 8) (C := 256) y28 (BEST P (i 0).val lo j)⌝ ∗ owns (c : Thread nD τ) arg28 fullShare y28)) $$ [H25 H26 H27 H28]
  · intro k acc
    iintro ⟨H25, H26, H27, ⟨%y28, %hy, H28⟩⟩
    have hk := k.isLt
    have hk' : lo + k.val < (i 0).val := by
      have := htr
      have h3 : k.val < (i 0).val - lo := lt_of_lt_of_eq hk this
      omega
    iapply (t3_run (hl := hl) (hk := hk') (h25 := h25) (h26 := h26) (h27 := h27) (h28 := hy))
    isplitl [H25]; · iexact H25
    isplitl [H26]; · iexact H26
    isplitl [H27]; · iexact H27
    isplitl [H28]; · iexact H28
    iintro %z28 ⟨H25, H26, H27, H28, %hz⟩
    isplitl [H25]; · iexact H25
    isplitl [H26]; · iexact H26
    isplitl [H27]; · iexact H27
    iexists z28
    isplitr; · ipureintro; exact hz
    iexact H28
  · unfold owns
    isplitl [H25]
    · iexists f25
      isplitr; · ipureintro; rfl
      iexact H25
    isplitl [H26]
    · iexists f26
      isplitr; · ipureintro; rfl
      iexact H26
    isplitl [H27]
    · iexists f27
      isplitr; · ipureintro; rfl
      iexact H27
    iexists _
    isplitr; swap
    · iexists _
      isplitr; swap; · iexact H28
      ipureintro; rfl
    ipureintro
    rw [best_none]
    exact h28
  iintro %acc HI
  unfold owns
  icases HI with ⟨⟨%g25, %hg25, H25⟩, ⟨%g26, %hg26, H26⟩, ⟨%g27, %hg27, H27⟩, ⟨%y, %hy, ⟨%g28, %hg28, H28⟩⟩⟩
  subst hg28
  have hb : At3 (A := 16) (B := 8) (C := 256) (arg28.view.read (Elt Ideal) g28) (BEST P (i 0).val lo ((i 0).val - lo)) := by
    rw [← htr]; exact hy
  sl_for0 (t4_trips i w0 w1 w2 w3 w4 w5 w6)
  by_cases hc : k0_cond2 i = 1#1
  · sl_exec_parts
    sl_step
    iapply Hk
    isplitl [H2]
    · iexists f2
      isplitr; · ipureintro; rfl
      iexact H2
    isplitl [H25]
    · iexists g25
      isplitr; · ipureintro; exact hg25
      iexact H25
    isplitl [H26]
    · iexists g26
      isplitr; · ipureintro; exact hg26
      iexact H26
    isplitl [H27]
    · iexists g27
      isplitr; · ipureintro; exact hg27
      iexact H27
    isplitl [H28]
    · iexists _
      isplitr; swap; · iexact H28
      ipureintro; rfl
    isplitl [H29]
    · iexists _
      isplitr; swap; · iexact H29
      ipureintro; rfl
    isplitl [H14]
    · iexists _
      isplitr; swap; · iexact H14
      ipureintro; rfl
    isplitl [H15]
    · iexists _
      isplitr; swap; · iexact H15
      ipureintro; rfl
    isplitl [H16]
    · iexists _
      isplitr; swap; · iexact H16
      ipureintro; rfl
    isplitl [H17]
    · iexists _
      isplitr; swap; · iexact H17
      ipureintro; rfl
    ipureintro
    refine ⟨?_, ?_, ?_, ?_⟩
    · exact one2f _ (fun q h => row_at (g := fun h q => TOP P h (256 * (i 0).val + q)) (best_slab (h := 0) (coord_lt i) hlo hskip (At3.cg (rd3f (inb := inb_S16x8x256_S1x8x256_0_0_0) (off := ![0, 0, 0]) (A' := 1) (B' := 8) (C' := 256) _ hb) (fun a b c ha _ _ => by simp; congr 1; omega))) (best_slab (h := 1) (coord_lt i) hlo hskip (At3.cg (rd3f (inb := inb_S16x8x256_S1x8x256_1_0_0) (off := ![1, 0, 0]) (A' := 1) (B' := 8) (C' := 256) _ hb) (fun a b c ha _ _ => by simp; congr 1; omega))) (best_slab (h := 2) (coord_lt i) hlo hskip (At3.cg (rd3f (inb := inb_S16x8x256_S1x8x256_2_0_0) (off := ![2, 0, 0]) (A' := 1) (B' := 8) (C' := 256) _ hb) (fun a b c ha _ _ => by simp; congr 1; omega))) (best_slab (h := 3) (coord_lt i) hlo hskip (At3.cg (rd3f (inb := inb_S16x8x256_S1x8x256_3_0_0) (off := ![3, 0, 0]) (A' := 1) (B' := 8) (C' := 256) _ hb) (fun a b c ha _ _ => by simp; congr 1; omega))) (best_slab (h := 4) (coord_lt i) hlo hskip (At3.cg (rd3f (inb := inb_S16x8x256_S1x8x256_4_0_0) (off := ![4, 0, 0]) (A' := 1) (B' := 8) (C' := 256) _ hb) (fun a b c ha _ _ => by simp; congr 1; omega))) (best_slab (h := 5) (coord_lt i) hlo hskip (At3.cg (rd3f (inb := inb_S16x8x256_S1x8x256_5_0_0) (off := ![5, 0, 0]) (A' := 1) (B' := 8) (C' := 256) _ hb) (fun a b c ha _ _ => by simp; congr 1; omega))) (best_slab (h := 6) (coord_lt i) hlo hskip (At3.cg (rd3f (inb := inb_S16x8x256_S1x8x256_6_0_0) (off := ![6, 0, 0]) (A' := 1) (B' := 8) (C' := 256) _ hb) (fun a b c ha _ _ => by simp; congr 1; omega))) (best_slab (h := 7) (coord_lt i) hlo hskip (At3.cg (rd3f (inb := inb_S16x8x256_S1x8x256_7_0_0) (off := ![7, 0, 0]) (A' := 1) (B' := 8) (C' := 256) _ hb) (fun a b c ha _ _ => by simp; congr 1; omega))) (best_slab (h := 8) (coord_lt i) hlo hskip (At3.cg (rd3f (inb := inb_S16x8x256_S1x8x256_8_0_0) (off := ![8, 0, 0]) (A' := 1) (B' := 8) (C' := 256) _ hb) (fun a b c ha _ _ => by simp; congr 1; omega))) (best_slab (h := 9) (coord_lt i) hlo hskip (At3.cg (rd3f (inb := inb_S16x8x256_S1x8x256_9_0_0) (off := ![9, 0, 0]) (A' := 1) (B' := 8) (C' := 256) _ hb) (fun a b c ha _ _ => by simp; congr 1; omega))) (best_slab (h := 10) (coord_lt i) hlo hskip (At3.cg (rd3f (inb := inb_S16x8x256_S1x8x256_10_0_0) (off := ![10, 0, 0]) (A' := 1) (B' := 8) (C' := 256) _ hb) (fun a b c ha _ _ => by simp; congr 1; omega))) (best_slab (h := 11) (coord_lt i) hlo hskip (At3.cg (rd3f (inb := inb_S16x8x256_S1x8x256_11_0_0) (off := ![11, 0, 0]) (A' := 1) (B' := 8) (C' := 256) _ hb) (fun a b c ha _ _ => by simp; congr 1; omega))) (best_slab (h := 12) (coord_lt i) hlo hskip (At3.cg (rd3f (inb := inb_S16x8x256_S1x8x256_12_0_0) (off := ![12, 0, 0]) (A' := 1) (B' := 8) (C' := 256) _ hb) (fun a b c ha _ _ => by simp; congr 1; omega))) (best_slab (h := 13) (coord_lt i) hlo hskip (At3.cg (rd3f (inb := inb_S16x8x256_S1x8x256_13_0_0) (off := ![13, 0, 0]) (A' := 1) (B' := 8) (C' := 256) _ hb) (fun a b c ha _ _ => by simp; congr 1; omega))) (best_slab (h := 14) (coord_lt i) hlo hskip (At3.cg (rd3f (inb := inb_S16x8x256_S1x8x256_14_0_0) (off := ![14, 0, 0]) (A' := 1) (B' := 8) (C' := 256) _ hb) (fun a b c ha _ _ => by simp; congr 1; omega))) (best_slab (h := 15) (coord_lt i) hlo hskip (At3.cg (rd3f (inb := inb_S16x8x256_S1x8x256_15_0_0) (off := ![15, 0, 0]) (A' := 1) (B' := 8) (C' := 256) _ hb) (fun a b c ha _ _ => by simp; congr 1; omega))) h q)
    · exact run_next h29 (fun h q => (whole2f _ h q).trans ((run_at (g := fun h q => TOP P h (256 * (i 0).val + q)) (best_slab (h := 0) (coord_lt i) hlo hskip (At3.cg (rd3f (inb := inb_S16x8x256_S1x8x256_0_0_0) (off := ![0, 0, 0]) (A' := 1) (B' := 8) (C' := 256) _ hb) (fun a b c ha _ _ => by simp; congr 1; omega))) (best_slab (h := 1) (coord_lt i) hlo hskip (At3.cg (rd3f (inb := inb_S16x8x256_S1x8x256_1_0_0) (off := ![1, 0, 0]) (A' := 1) (B' := 8) (C' := 256) _ hb) (fun a b c ha _ _ => by simp; congr 1; omega))) (best_slab (h := 2) (coord_lt i) hlo hskip (At3.cg (rd3f (inb := inb_S16x8x256_S1x8x256_2_0_0) (off := ![2, 0, 0]) (A' := 1) (B' := 8) (C' := 256) _ hb) (fun a b c ha _ _ => by simp; congr 1; omega))) (best_slab (h := 3) (coord_lt i) hlo hskip (At3.cg (rd3f (inb := inb_S16x8x256_S1x8x256_3_0_0) (off := ![3, 0, 0]) (A' := 1) (B' := 8) (C' := 256) _ hb) (fun a b c ha _ _ => by simp; congr 1; omega))) (best_slab (h := 4) (coord_lt i) hlo hskip (At3.cg (rd3f (inb := inb_S16x8x256_S1x8x256_4_0_0) (off := ![4, 0, 0]) (A' := 1) (B' := 8) (C' := 256) _ hb) (fun a b c ha _ _ => by simp; congr 1; omega))) (best_slab (h := 5) (coord_lt i) hlo hskip (At3.cg (rd3f (inb := inb_S16x8x256_S1x8x256_5_0_0) (off := ![5, 0, 0]) (A' := 1) (B' := 8) (C' := 256) _ hb) (fun a b c ha _ _ => by simp; congr 1; omega))) (best_slab (h := 6) (coord_lt i) hlo hskip (At3.cg (rd3f (inb := inb_S16x8x256_S1x8x256_6_0_0) (off := ![6, 0, 0]) (A' := 1) (B' := 8) (C' := 256) _ hb) (fun a b c ha _ _ => by simp; congr 1; omega))) (best_slab (h := 7) (coord_lt i) hlo hskip (At3.cg (rd3f (inb := inb_S16x8x256_S1x8x256_7_0_0) (off := ![7, 0, 0]) (A' := 1) (B' := 8) (C' := 256) _ hb) (fun a b c ha _ _ => by simp; congr 1; omega))) (best_slab (h := 8) (coord_lt i) hlo hskip (At3.cg (rd3f (inb := inb_S16x8x256_S1x8x256_8_0_0) (off := ![8, 0, 0]) (A' := 1) (B' := 8) (C' := 256) _ hb) (fun a b c ha _ _ => by simp; congr 1; omega))) (best_slab (h := 9) (coord_lt i) hlo hskip (At3.cg (rd3f (inb := inb_S16x8x256_S1x8x256_9_0_0) (off := ![9, 0, 0]) (A' := 1) (B' := 8) (C' := 256) _ hb) (fun a b c ha _ _ => by simp; congr 1; omega))) (best_slab (h := 10) (coord_lt i) hlo hskip (At3.cg (rd3f (inb := inb_S16x8x256_S1x8x256_10_0_0) (off := ![10, 0, 0]) (A' := 1) (B' := 8) (C' := 256) _ hb) (fun a b c ha _ _ => by simp; congr 1; omega))) (best_slab (h := 11) (coord_lt i) hlo hskip (At3.cg (rd3f (inb := inb_S16x8x256_S1x8x256_11_0_0) (off := ![11, 0, 0]) (A' := 1) (B' := 8) (C' := 256) _ hb) (fun a b c ha _ _ => by simp; congr 1; omega))) (best_slab (h := 12) (coord_lt i) hlo hskip (At3.cg (rd3f (inb := inb_S16x8x256_S1x8x256_12_0_0) (off := ![12, 0, 0]) (A' := 1) (B' := 8) (C' := 256) _ hb) (fun a b c ha _ _ => by simp; congr 1; omega))) (best_slab (h := 13) (coord_lt i) hlo hskip (At3.cg (rd3f (inb := inb_S16x8x256_S1x8x256_13_0_0) (off := ![13, 0, 0]) (A' := 1) (B' := 8) (C' := 256) _ hb) (fun a b c ha _ _ => by simp; congr 1; omega))) (best_slab (h := 14) (coord_lt i) hlo hskip (At3.cg (rd3f (inb := inb_S16x8x256_S1x8x256_14_0_0) (off := ![14, 0, 0]) (A' := 1) (B' := 8) (C' := 256) _ hb) (fun a b c ha _ _ => by simp; congr 1; omega))) (best_slab (h := 15) (coord_lt i) hlo hskip (At3.cg (rd3f (inb := inb_S16x8x256_S1x8x256_15_0_0) (off := ![15, 0, 0]) (A' := 1) (B' := 8) (C' := 256) _ hb) (fun a b c ha _ _ => by simp; congr 1; omega))) h q).trans (congrArg (max · _) (rdw2f _ h q))))
    · intro _
      have hX := (run_cov arg29.view (inb := inb_S16x256_S16x256_0_0) (inb' := inb_S16x256_S16x256_0_0) (t := (i 0).val + 1) (by rw [hend hc]) (run_next h29 (fun h q => (run_at (v := arg29.view.readAt (Elt Ideal) (Rect.unit (s := S16x256) ![0, 0] S16x256.size inb_S16x256_S16x256_0_0).toLoadRect f29) (g := fun h q => TOP P h (256 * (i 0).val + q)) (best_slab (h := 0) (coord_lt i) hlo hskip (At3.cg (rd3f (inb := inb_S16x8x256_S1x8x256_0_0_0) (off := ![0, 0, 0]) (A' := 1) (B' := 8) (C' := 256) _ hb) (fun a b c ha _ _ => by simp; congr 1; omega))) (best_slab (h := 1) (coord_lt i) hlo hskip (At3.cg (rd3f (inb := inb_S16x8x256_S1x8x256_1_0_0) (off := ![1, 0, 0]) (A' := 1) (B' := 8) (C' := 256) _ hb) (fun a b c ha _ _ => by simp; congr 1; omega))) (best_slab (h := 2) (coord_lt i) hlo hskip (At3.cg (rd3f (inb := inb_S16x8x256_S1x8x256_2_0_0) (off := ![2, 0, 0]) (A' := 1) (B' := 8) (C' := 256) _ hb) (fun a b c ha _ _ => by simp; congr 1; omega))) (best_slab (h := 3) (coord_lt i) hlo hskip (At3.cg (rd3f (inb := inb_S16x8x256_S1x8x256_3_0_0) (off := ![3, 0, 0]) (A' := 1) (B' := 8) (C' := 256) _ hb) (fun a b c ha _ _ => by simp; congr 1; omega))) (best_slab (h := 4) (coord_lt i) hlo hskip (At3.cg (rd3f (inb := inb_S16x8x256_S1x8x256_4_0_0) (off := ![4, 0, 0]) (A' := 1) (B' := 8) (C' := 256) _ hb) (fun a b c ha _ _ => by simp; congr 1; omega))) (best_slab (h := 5) (coord_lt i) hlo hskip (At3.cg (rd3f (inb := inb_S16x8x256_S1x8x256_5_0_0) (off := ![5, 0, 0]) (A' := 1) (B' := 8) (C' := 256) _ hb) (fun a b c ha _ _ => by simp; congr 1; omega))) (best_slab (h := 6) (coord_lt i) hlo hskip (At3.cg (rd3f (inb := inb_S16x8x256_S1x8x256_6_0_0) (off := ![6, 0, 0]) (A' := 1) (B' := 8) (C' := 256) _ hb) (fun a b c ha _ _ => by simp; congr 1; omega))) (best_slab (h := 7) (coord_lt i) hlo hskip (At3.cg (rd3f (inb := inb_S16x8x256_S1x8x256_7_0_0) (off := ![7, 0, 0]) (A' := 1) (B' := 8) (C' := 256) _ hb) (fun a b c ha _ _ => by simp; congr 1; omega))) (best_slab (h := 8) (coord_lt i) hlo hskip (At3.cg (rd3f (inb := inb_S16x8x256_S1x8x256_8_0_0) (off := ![8, 0, 0]) (A' := 1) (B' := 8) (C' := 256) _ hb) (fun a b c ha _ _ => by simp; congr 1; omega))) (best_slab (h := 9) (coord_lt i) hlo hskip (At3.cg (rd3f (inb := inb_S16x8x256_S1x8x256_9_0_0) (off := ![9, 0, 0]) (A' := 1) (B' := 8) (C' := 256) _ hb) (fun a b c ha _ _ => by simp; congr 1; omega))) (best_slab (h := 10) (coord_lt i) hlo hskip (At3.cg (rd3f (inb := inb_S16x8x256_S1x8x256_10_0_0) (off := ![10, 0, 0]) (A' := 1) (B' := 8) (C' := 256) _ hb) (fun a b c ha _ _ => by simp; congr 1; omega))) (best_slab (h := 11) (coord_lt i) hlo hskip (At3.cg (rd3f (inb := inb_S16x8x256_S1x8x256_11_0_0) (off := ![11, 0, 0]) (A' := 1) (B' := 8) (C' := 256) _ hb) (fun a b c ha _ _ => by simp; congr 1; omega))) (best_slab (h := 12) (coord_lt i) hlo hskip (At3.cg (rd3f (inb := inb_S16x8x256_S1x8x256_12_0_0) (off := ![12, 0, 0]) (A' := 1) (B' := 8) (C' := 256) _ hb) (fun a b c ha _ _ => by simp; congr 1; omega))) (best_slab (h := 13) (coord_lt i) hlo hskip (At3.cg (rd3f (inb := inb_S16x8x256_S1x8x256_13_0_0) (off := ![13, 0, 0]) (A' := 1) (B' := 8) (C' := 256) _ hb) (fun a b c ha _ _ => by simp; congr 1; omega))) (best_slab (h := 14) (coord_lt i) hlo hskip (At3.cg (rd3f (inb := inb_S16x8x256_S1x8x256_14_0_0) (off := ![14, 0, 0]) (A' := 1) (B' := 8) (C' := 256) _ hb) (fun a b c ha _ _ => by simp; congr 1; omega))) (best_slab (h := 15) (coord_lt i) hlo hskip (At3.cg (rd3f (inb := inb_S16x8x256_S1x8x256_15_0_0) (off := ![15, 0, 0]) (A' := 1) (B' := 8) (C' := 256) _ hb) (fun a b c ha _ _ => by simp; congr 1; omega))) h q).trans (congrArg (max · _) (rdw2f _ h q)))))
      refine ⟨one2f _ (fun z h => smax_at hX z h), ?_, ?_⟩
      · exact one2f _ (fun z h => (congrArg (fun v => k0_pay6 _ v (ix2 z h)) (h2 _)).trans (gam_at hX z h))
      · exact one2f _ (fun z h => (congrArg (fun v => k0_pay7 _ v (ix2 z h)) (h2 _)).trans (stats_at hX z h))
    · exact fun h => absurd hc h
  · sl_exec_parts
    sl_step
    iapply Hk
    isplitl [H2]
    · iexists f2
      isplitr; · ipureintro; rfl
      iexact H2
    isplitl [H25]
    · iexists g25
      isplitr; · ipureintro; exact hg25
      iexact H25
    isplitl [H26]
    · iexists g26
      isplitr; · ipureintro; exact hg26
      iexact H26
    isplitl [H27]
    · iexists g27
      isplitr; · ipureintro; exact hg27
      iexact H27
    isplitl [H28]
    · iexists _
      isplitr; swap; · iexact H28
      ipureintro; rfl
    isplitl [H29]
    · iexists _
      isplitr; swap; · iexact H29
      ipureintro; rfl
    isplitl [H14]
    · iexists _
      isplitr; swap; · iexact H14
      ipureintro; rfl
    isplitl [H15]
    · iexists _
      isplitr; swap; · iexact H15
      ipureintro; rfl
    isplitl [H16]
    · iexists _
      isplitr; swap; · iexact H16
      ipureintro; rfl
    isplitl [H17]
    · iexists _
      isplitr; swap; · iexact H17
      ipureintro; rfl
    ipureintro
    refine ⟨?_, ?_, ?_, ?_⟩
    · exact one2f _ (fun q h => row_at (g := fun h q => TOP P h (256 * (i 0).val + q)) (best_slab (h := 0) (coord_lt i) hlo hskip (At3.cg (rd3f (inb := inb_S16x8x256_S1x8x256_0_0_0) (off := ![0, 0, 0]) (A' := 1) (B' := 8) (C' := 256) _ hb) (fun a b c ha _ _ => by simp; congr 1; omega))) (best_slab (h := 1) (coord_lt i) hlo hskip (At3.cg (rd3f (inb := inb_S16x8x256_S1x8x256_1_0_0) (off := ![1, 0, 0]) (A' := 1) (B' := 8) (C' := 256) _ hb) (fun a b c ha _ _ => by simp; congr 1; omega))) (best_slab (h := 2) (coord_lt i) hlo hskip (At3.cg (rd3f (inb := inb_S16x8x256_S1x8x256_2_0_0) (off := ![2, 0, 0]) (A' := 1) (B' := 8) (C' := 256) _ hb) (fun a b c ha _ _ => by simp; congr 1; omega))) (best_slab (h := 3) (coord_lt i) hlo hskip (At3.cg (rd3f (inb := inb_S16x8x256_S1x8x256_3_0_0) (off := ![3, 0, 0]) (A' := 1) (B' := 8) (C' := 256) _ hb) (fun a b c ha _ _ => by simp; congr 1; omega))) (best_slab (h := 4) (coord_lt i) hlo hskip (At3.cg (rd3f (inb := inb_S16x8x256_S1x8x256_4_0_0) (off := ![4, 0, 0]) (A' := 1) (B' := 8) (C' := 256) _ hb) (fun a b c ha _ _ => by simp; congr 1; omega))) (best_slab (h := 5) (coord_lt i) hlo hskip (At3.cg (rd3f (inb := inb_S16x8x256_S1x8x256_5_0_0) (off := ![5, 0, 0]) (A' := 1) (B' := 8) (C' := 256) _ hb) (fun a b c ha _ _ => by simp; congr 1; omega))) (best_slab (h := 6) (coord_lt i) hlo hskip (At3.cg (rd3f (inb := inb_S16x8x256_S1x8x256_6_0_0) (off := ![6, 0, 0]) (A' := 1) (B' := 8) (C' := 256) _ hb) (fun a b c ha _ _ => by simp; congr 1; omega))) (best_slab (h := 7) (coord_lt i) hlo hskip (At3.cg (rd3f (inb := inb_S16x8x256_S1x8x256_7_0_0) (off := ![7, 0, 0]) (A' := 1) (B' := 8) (C' := 256) _ hb) (fun a b c ha _ _ => by simp; congr 1; omega))) (best_slab (h := 8) (coord_lt i) hlo hskip (At3.cg (rd3f (inb := inb_S16x8x256_S1x8x256_8_0_0) (off := ![8, 0, 0]) (A' := 1) (B' := 8) (C' := 256) _ hb) (fun a b c ha _ _ => by simp; congr 1; omega))) (best_slab (h := 9) (coord_lt i) hlo hskip (At3.cg (rd3f (inb := inb_S16x8x256_S1x8x256_9_0_0) (off := ![9, 0, 0]) (A' := 1) (B' := 8) (C' := 256) _ hb) (fun a b c ha _ _ => by simp; congr 1; omega))) (best_slab (h := 10) (coord_lt i) hlo hskip (At3.cg (rd3f (inb := inb_S16x8x256_S1x8x256_10_0_0) (off := ![10, 0, 0]) (A' := 1) (B' := 8) (C' := 256) _ hb) (fun a b c ha _ _ => by simp; congr 1; omega))) (best_slab (h := 11) (coord_lt i) hlo hskip (At3.cg (rd3f (inb := inb_S16x8x256_S1x8x256_11_0_0) (off := ![11, 0, 0]) (A' := 1) (B' := 8) (C' := 256) _ hb) (fun a b c ha _ _ => by simp; congr 1; omega))) (best_slab (h := 12) (coord_lt i) hlo hskip (At3.cg (rd3f (inb := inb_S16x8x256_S1x8x256_12_0_0) (off := ![12, 0, 0]) (A' := 1) (B' := 8) (C' := 256) _ hb) (fun a b c ha _ _ => by simp; congr 1; omega))) (best_slab (h := 13) (coord_lt i) hlo hskip (At3.cg (rd3f (inb := inb_S16x8x256_S1x8x256_13_0_0) (off := ![13, 0, 0]) (A' := 1) (B' := 8) (C' := 256) _ hb) (fun a b c ha _ _ => by simp; congr 1; omega))) (best_slab (h := 14) (coord_lt i) hlo hskip (At3.cg (rd3f (inb := inb_S16x8x256_S1x8x256_14_0_0) (off := ![14, 0, 0]) (A' := 1) (B' := 8) (C' := 256) _ hb) (fun a b c ha _ _ => by simp; congr 1; omega))) (best_slab (h := 15) (coord_lt i) hlo hskip (At3.cg (rd3f (inb := inb_S16x8x256_S1x8x256_15_0_0) (off := ![15, 0, 0]) (A' := 1) (B' := 8) (C' := 256) _ hb) (fun a b c ha _ _ => by simp; congr 1; omega))) h q)
    · exact run_next h29 (fun h q => (whole2f _ h q).trans ((run_at (g := fun h q => TOP P h (256 * (i 0).val + q)) (best_slab (h := 0) (coord_lt i) hlo hskip (At3.cg (rd3f (inb := inb_S16x8x256_S1x8x256_0_0_0) (off := ![0, 0, 0]) (A' := 1) (B' := 8) (C' := 256) _ hb) (fun a b c ha _ _ => by simp; congr 1; omega))) (best_slab (h := 1) (coord_lt i) hlo hskip (At3.cg (rd3f (inb := inb_S16x8x256_S1x8x256_1_0_0) (off := ![1, 0, 0]) (A' := 1) (B' := 8) (C' := 256) _ hb) (fun a b c ha _ _ => by simp; congr 1; omega))) (best_slab (h := 2) (coord_lt i) hlo hskip (At3.cg (rd3f (inb := inb_S16x8x256_S1x8x256_2_0_0) (off := ![2, 0, 0]) (A' := 1) (B' := 8) (C' := 256) _ hb) (fun a b c ha _ _ => by simp; congr 1; omega))) (best_slab (h := 3) (coord_lt i) hlo hskip (At3.cg (rd3f (inb := inb_S16x8x256_S1x8x256_3_0_0) (off := ![3, 0, 0]) (A' := 1) (B' := 8) (C' := 256) _ hb) (fun a b c ha _ _ => by simp; congr 1; omega))) (best_slab (h := 4) (coord_lt i) hlo hskip (At3.cg (rd3f (inb := inb_S16x8x256_S1x8x256_4_0_0) (off := ![4, 0, 0]) (A' := 1) (B' := 8) (C' := 256) _ hb) (fun a b c ha _ _ => by simp; congr 1; omega))) (best_slab (h := 5) (coord_lt i) hlo hskip (At3.cg (rd3f (inb := inb_S16x8x256_S1x8x256_5_0_0) (off := ![5, 0, 0]) (A' := 1) (B' := 8) (C' := 256) _ hb) (fun a b c ha _ _ => by simp; congr 1; omega))) (best_slab (h := 6) (coord_lt i) hlo hskip (At3.cg (rd3f (inb := inb_S16x8x256_S1x8x256_6_0_0) (off := ![6, 0, 0]) (A' := 1) (B' := 8) (C' := 256) _ hb) (fun a b c ha _ _ => by simp; congr 1; omega))) (best_slab (h := 7) (coord_lt i) hlo hskip (At3.cg (rd3f (inb := inb_S16x8x256_S1x8x256_7_0_0) (off := ![7, 0, 0]) (A' := 1) (B' := 8) (C' := 256) _ hb) (fun a b c ha _ _ => by simp; congr 1; omega))) (best_slab (h := 8) (coord_lt i) hlo hskip (At3.cg (rd3f (inb := inb_S16x8x256_S1x8x256_8_0_0) (off := ![8, 0, 0]) (A' := 1) (B' := 8) (C' := 256) _ hb) (fun a b c ha _ _ => by simp; congr 1; omega))) (best_slab (h := 9) (coord_lt i) hlo hskip (At3.cg (rd3f (inb := inb_S16x8x256_S1x8x256_9_0_0) (off := ![9, 0, 0]) (A' := 1) (B' := 8) (C' := 256) _ hb) (fun a b c ha _ _ => by simp; congr 1; omega))) (best_slab (h := 10) (coord_lt i) hlo hskip (At3.cg (rd3f (inb := inb_S16x8x256_S1x8x256_10_0_0) (off := ![10, 0, 0]) (A' := 1) (B' := 8) (C' := 256) _ hb) (fun a b c ha _ _ => by simp; congr 1; omega))) (best_slab (h := 11) (coord_lt i) hlo hskip (At3.cg (rd3f (inb := inb_S16x8x256_S1x8x256_11_0_0) (off := ![11, 0, 0]) (A' := 1) (B' := 8) (C' := 256) _ hb) (fun a b c ha _ _ => by simp; congr 1; omega))) (best_slab (h := 12) (coord_lt i) hlo hskip (At3.cg (rd3f (inb := inb_S16x8x256_S1x8x256_12_0_0) (off := ![12, 0, 0]) (A' := 1) (B' := 8) (C' := 256) _ hb) (fun a b c ha _ _ => by simp; congr 1; omega))) (best_slab (h := 13) (coord_lt i) hlo hskip (At3.cg (rd3f (inb := inb_S16x8x256_S1x8x256_13_0_0) (off := ![13, 0, 0]) (A' := 1) (B' := 8) (C' := 256) _ hb) (fun a b c ha _ _ => by simp; congr 1; omega))) (best_slab (h := 14) (coord_lt i) hlo hskip (At3.cg (rd3f (inb := inb_S16x8x256_S1x8x256_14_0_0) (off := ![14, 0, 0]) (A' := 1) (B' := 8) (C' := 256) _ hb) (fun a b c ha _ _ => by simp; congr 1; omega))) (best_slab (h := 15) (coord_lt i) hlo hskip (At3.cg (rd3f (inb := inb_S16x8x256_S1x8x256_15_0_0) (off := ![15, 0, 0]) (A' := 1) (B' := 8) (C' := 256) _ hb) (fun a b c ha _ _ => by simp; congr 1; omega))) h q).trans (congrArg (max · _) (rdw2f _ h q))))
    · exact fun h => absurd h hc
    · exact fun _ => ⟨rfl, rfl, rfl⟩

set_option maxHeartbeats 400000 in
theorem segF_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (Q : PUnit → sProp 𝕄) (kk : (v965 v967 v970 v972 v975 v977 v980 v982 v985 v987 v990 v992 v995 v997 : Elt Ideal .i32) → k0_chk1 i v965 v967 v970 v972 v975 v977 v980 v982 v985 v987 v990 v992 v995 v997 → BitVec 32 → BitVec 32 → BitVec 32 → BitVec 32 → BitVec 32 → Prog (TpuEff nD τ sig (Elt Ideal) Λ₀ .tc) PUnit)
    (x1 : Vec Ideal S7 .i32) (x28 : Vec Ideal S16x8x256 .f32) (P : Inp)
    (h1 : ∀ n : Fin 7, x1 (ix1 n) = P.cu n.val)
    (h28 : AtH (A := 16) (B := 8) (C := 256) 15 x28 (BEST P (i 0).val (i 0).val 0))
    (v961 : FVec Ideal S8x256 .f32) (hv : At3 (A := 1) (B := 8) (C := 256) (k0_pay242 v961) (fun _ s q => BEST P (i 0).val (i 0).val 0 15 s q)) :
    iprop(owns (c : Thread nD τ) arg1 fullShare x1 ∗ owns (c : Thread nD τ) arg28 fullShare x28 ∗ (∀ w0 w1 w2 w3 w4 w5 w6 hw a1 a2 a3 a4 a5 y28, (owns (c : Thread nD τ) arg1 fullShare x1 ∗ owns (c : Thread nD τ) arg28 fullShare y28 ∗ ⌜w0 = P.cu 0 ∧ w1 = P.cu 1 ∧ w2 = P.cu 2 ∧ w3 = P.cu 3 ∧ w4 = P.cu 4 ∧ w5 = P.cu 5 ∧ w6 = P.cu 6 ∧ At3 (A := 16) (B := 8) (C := 256) y28 (BEST P (i 0).val (i 0).val 0)⌝) -∗ wp frame (wpE (defs₀ (F := Ideal)) Variants.none (c : Thread nD τ) none) Set.univ (kk w0 w0 w1 w1 w2 w2 w3 w3 w4 w4 w5 w5 w6 w6 hw a1 a2 a3 a4 a5) Q))
      ⊢ wp frame (wpE (defs₀ (F := Ideal)) Variants.none (c : Thread nD τ) none) Set.univ (segF i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (256 * (i 0).val)) v961 kk) Q := by
  unfold segF owns
  iintro ⟨⟨%f1, %hf1, H1⟩, ⟨%f28, %hf28, H28⟩, Hk⟩
  subst hf1; subst hf28
  sl_exec_parts (disch := exact chk1 _ _ _ _ _ _ _ _)
  iapply Hk
  isplitl [H1]
  · iexists f1
    isplitr; · ipureintro; rfl
    iexact H1
  isplitl [H28]
  · iexists _
    isplitr; swap; · iexact H28
    ipureintro; rfl
  ipureintro
  exact ⟨rd1 _ h1 _, rd1 _ h1 _, rd1 _ h1 _, rd1 _ h1 _, rd1 _ h1 _, rd1 _ h1 _, rd1 _ h1 _, AtH.all (A := 16) (add3f _ h28 hv)⟩

set_option maxHeartbeats 400000 in
theorem segD_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (Q : PUnit → sProp 𝕄)
    (x1 : Vec Ideal S7 .i32) (x2 : Vec Ideal S1 .f32) (x25 : Vec Ideal S8192x2048 .bf16) (x26 : Vec Ideal S8192x128 .bf16) (x27 : Vec Ideal S16x256x256 .bf16) (x28 : Vec Ideal S16x8x256 .f32) (x29 : Vec Ideal S16x256 .f32) (x14 : Vec Ideal S256x16 .f32) (x15 : Vec Ideal S1x16 .f32) (x16 : Vec Ideal S1x16 .f32) (x17 : Vec Ideal S2x128 .f32) (P : Inp) (HO : Ord P)
    (h1 : ∀ n : Fin 7, x1 (ix1 n) = P.cu n.val) (h2 : ∀ y, x2 y = P.tau)
    (h25 : AtR (R := 8192) (C := 2048) (256 * (i 0).val + 256) x25 (KEY P))
    (h26 : AtR (R := 8192) (C := 128) (256 * (i 0).val + 256) x26 (FEAT P))
    (h27 : At3 (A := 16) (B := 256) (C := 256) x27 (fun h f q => QT P h f (256 * (i 0).val + q)))
    (h28 : AtH (A := 16) (B := 8) (C := 256) 15 x28 (BEST P (i 0).val (i 0).val 0))
    (v961 : FVec Ideal S8x256 .f32) (hv : At3 (A := 1) (B := 8) (C := 256) (k0_pay242 v961) (fun _ s q => BEST P (i 0).val (i 0).val 0 15 s q))
    (h29 : RunAt P (i 0).val x29) (hend : k0_cond2 i = 1#1 → (i 0).val = 31) :
    iprop(owns (c : Thread nD τ) arg1 fullShare x1 ∗ owns (c : Thread nD τ) arg2 fullShare x2 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg14 fullShare x14 ∗ owns (c : Thread nD τ) arg15 fullShare x15 ∗ owns (c : Thread nD τ) arg16 fullShare x16 ∗ owns (c : Thread nD τ) arg17 fullShare x17 ∗ (∀ y28 y29 y14 y15 y16 y17, (owns (c : Thread nD τ) arg1 fullShare x1 ∗ owns (c : Thread nD τ) arg2 fullShare x2 ∗ owns (c : Thread nD τ) arg25 fullShare x25 ∗ owns (c : Thread nD τ) arg26 fullShare x26 ∗ owns (c : Thread nD τ) arg27 fullShare x27 ∗ owns (c : Thread nD τ) arg28 fullShare y28 ∗ owns (c : Thread nD τ) arg29 fullShare y29 ∗ owns (c : Thread nD τ) arg14 fullShare y14 ∗ owns (c : Thread nD τ) arg15 fullShare y15 ∗ owns (c : Thread nD τ) arg16 fullShare y16 ∗ owns (c : Thread nD τ) arg17 fullShare y17 ∗ ⌜At2 (R := 256) (C := 16) y14 (fun q h => ROW P h (256 * (i 0).val + q)) ∧ RunAt P ((i 0).val + 1) y29
      ∧ (k0_cond2 i = 1#1 → At2 (R := 1) (C := 16) y15 (fun _ h => SMAX P h) ∧ At2 (R := 1) (C := 16) y16 (fun _ h => GAM P h) ∧ At2 (R := 2) (C := 128) y17 (STATS P))
      ∧ (¬ k0_cond2 i = 1#1 → y15 = x15 ∧ y16 = x16 ∧ y17 = x17)⌝) -∗ Q ⟨⟩))
      ⊢ wp frame (wpE (defs₀ (F := Ideal)) Variants.none (c : Thread nD τ) none) Set.univ (segD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) (BitVec.ofNat 32 (256 * (i 0).val)) v961) Q := by
  unfold segD
  iintro ⟨H1, H2, H25, H26, H27, H28, H29, H14, H15, H16, H17, Hk⟩
  iapply (segF_run (h1 := h1) (h28 := h28) (hv := hv))
  isplitl [H1]; · iexact H1
  isplitl [H28]; · iexact H28
  iintro %w0 %w1 %w2 %w3 %w4 %w5 %w6 %hw %a1 %a2 %a3 %a4 %a5 %z28 ⟨H1, H28, %hh⟩
  obtain ⟨e0, e1, e2, e3, e4, e5, e6, hz⟩ := hh
  iapply (segE_run (HO := HO) (h2 := h2) (h25 := h25) (h26 := h26) (h27 := h27) (h28 := hz) (h29 := h29) (hend := hend) (e0 := e0) (e1 := e1) (e2 := e2) (e3 := e3) (e4 := e4) (e5 := e5) (e6 := e6))
  isplitl [H2]; · iexact H2
  isplitl [H25]; · iexact H25
  isplitl [H26]; · iexact H26
  isplitl [H27]; · iexact H27
  isplitl [H28]; · iexact H28
  isplitl [H29]; · iexact H29
  isplitl [H14]; · iexact H14
  isplitl [H15]; · iexact H15
  isplitl [H16]; · iexact H16
  isplitl [H17]; · iexact H17
  iintro %y28 %y29 %y14 %y15 %y16 %y17 ⟨H2, H25, H26, H27, H28, H29, H14, H15, H16, H17, %hh⟩
  iapply Hk
  isplitl [H1]; · iexact H1
  isplitl [H2]; · iexact H2
  isplitl [H25]; · iexact H25
  isplitl [H26]; · iexact H26
  isplitl [H27]; · iexact H27
  isplitl [H28]; · iexact H28
  isplitl [H29]; · iexact H29
  isplitl [H14]; · iexact H14
  isplitl [H15]; · iexact H15
  isplitl [H16]; · iexact H16
  isplitl [H17]; · iexact H17
  ipureintro; exact hh
end Cert.KernelIdeal.Val
-- ==== Proof.Body.lean ====
module

public import proofs.«01_k».proof.Proof.Gen.KernelIdeal.Frame
public import proofs.«01_k».proof.Proof.Gen.KernelIdeal.Skeleton
public import proofs.«01_k».proof.Proof.SegA
public import proofs.«01_k».proof.Proof.SegB
public import proofs.«01_k».proof.Proof.SegC
public import proofs.«01_k».proof.Proof.SegD
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
theorem cond1_iff (i : grid0.Coords) : k0_cond1 i = 1#1 ↔ (i 0).val = 0 := by
  have h : ∀ x : Fin 32, Scalar.cmpi .ne (Scalar.extui (Scalar.cmpi .eq (BitVec.ofNat 32 x.val) 0#32) : BitVec 32) 0#32 = 1#1 ↔ x.val = 0 := by decide +kernel
  exact h (i 0)
theorem cond2_iff (i : grid0.Coords) : k0_cond2 i = 1#1 ↔ (i 0).val = 31 := by
  have h : ∀ x : Fin 32, Scalar.cmpi .ne (Scalar.extui (Scalar.cmpi .eq (BitVec.ofNat 32 x.val) 31#32) : BitVec 32) 0#32 = 1#1 ↔ x.val = 31 := by decide +kernel
  exact h (i 0)
/-- The kept weights are the dequantized weights of the problem. -/
def Wts (P : Inp) (x18 : Vec Ideal S2048x1536 .bf16) (x19 x20 : Vec Ideal S512x1536 .bf16) (x21 : Vec Ideal S2048x512 .bf16) : Prop :=
  At2 (R := 2048) (C := 1536) x18 (fun n c => WQ P (192 * (n / 128) + n % 128) c) ∧ At2 (R := 512) (C := 1536) x19 (fun n c => WQ P (192 * (n / 32) + (128 + 2 * (n % 32))) c) ∧ At2 (R := 512) (C := 1536) x20 (fun n c => WQ P (192 * (n / 32) + (129 + 2 * (n % 32))) c) ∧ At2 (R := 2048) (C := 512) x21 (WK P)
theorem skel_split (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) :
    cc0_logits (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 = segA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (fun arg0 v3 => segB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 (fun v724 v729 => segC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v3 v724 v729 (fun v961 => segD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg0 v3 v961))) := by
  rw [cc0_logits_eq_skeleton]
  rfl

set_option maxHeartbeats 400000 in
theorem body_run (c : Dev nD) (i : grid0.Coords) (arg1 : Memref sig .tc .smem S7 .i32) (harg1 : arg1.IsWhole) (arg2 : Memref sig .tc .smem S1 .f32) (harg2 : arg2.IsWhole) (arg3 : Memref sig .tc .smem S24x12 .f32) (harg3 : arg3.IsWhole) (arg4 : Memref sig .tc .smem S16x4 .f32) (harg4 : arg4.IsWhole) (arg5 : Memref sig .tc .vmem S256x1536 .fp8e4m3) (harg5 : arg5.IsWhole) (arg6 : Memref sig .tc .vmem S256x12 .f32) (harg6 : arg6.IsWhole) (arg7 : Memref sig .tc .vmem S256x512 .fp8e4m3) (harg7 : arg7.IsWhole) (arg8 : Memref sig .tc .vmem S256x4 .f32) (harg8 : arg8.IsWhole) (arg9 : Memref sig .tc .vmem S256x64 .bf16) (harg9 : arg9.IsWhole) (arg10 : Memref sig .tc .vmem S256x32 .f32) (harg10 : arg10.IsWhole) (arg11 : Memref sig .tc .vmem S256x32 .f32) (harg11 : arg11.IsWhole) (arg12 : Memref sig .tc .vmem S3072x1536 .fp8e4m3) (harg12 : arg12.IsWhole) (arg13 : Memref sig .tc .vmem S2048x512 .fp8e4m3) (harg13 : arg13.IsWhole) (arg14 : Memref sig .tc .vmem S256x16 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S2x128 .f32) (harg17 : arg17.IsWhole) (arg18 : Memref sig .tc .vmem S2048x1536 .bf16) (harg18 : arg18.IsWhole) (arg19 : Memref sig .tc .vmem S512x1536 .bf16) (harg19 : arg19.IsWhole) (arg20 : Memref sig .tc .vmem S512x1536 .bf16) (harg20 : arg20.IsWhole) (arg21 : Memref sig .tc .vmem S2048x512 .bf16) (harg21 : arg21.IsWhole) (arg22 : Memref sig .tc .vmem S384x1536 .bf16) (harg22 : arg22.IsWhole) (arg23 : Memref sig .tc .vmem S256x1536 .bf16) (harg23 : arg23.IsWhole) (arg24 : Memref sig .tc .vmem S256x512 .bf16) (harg24 : arg24.IsWhole) (arg25 : Memref sig .tc .vmem S8192x2048 .bf16) (harg25 : arg25.IsWhole) (arg26 : Memref sig .tc .vmem S8192x128 .bf16) (harg26 : arg26.IsWhole) (arg27 : Memref sig .tc .vmem S16x256x256 .bf16) (harg27 : arg27.IsWhole) (arg28 : Memref sig .tc .vmem S16x8x256 .f32) (harg28 : arg28.IsWhole) (arg29 : Memref sig .tc .vmem S16x256 .f32) (harg29 : arg29.IsWhole) (Q : PUnit → sProp 𝕄)
    (x1 : Vec Ideal S7 .i32) (x2 : Vec Ideal S1 .f32) (x3 : Vec Ideal S24x12 .f32) (x4 : Vec Ideal S16x4 .f32) (x5 : Vec Ideal S256x1536 .fp8e4m3) (x6 : Vec Ideal S256x12 .f32) (x7 : Vec Ideal S256x512 .fp8e4m3) (x8 : Vec Ideal S256x4 .f32) (x9 : Vec Ideal S256x64 .bf16) (x10 : Vec Ideal S256x32 .f32) (x11 : Vec Ideal S256x32 .f32) (x12 : Vec Ideal S3072x1536 .fp8e4m3) (x13 : Vec Ideal S2048x512 .fp8e4m3) (x14 : Vec Ideal S256x16 .f32) (x15 : Vec Ideal S1x16 .f32) (x16 : Vec Ideal S1x16 .f32) (x17 : Vec Ideal S2x128 .f32) (x18 : Vec Ideal S2048x1536 .bf16) (x19 : Vec Ideal S512x1536 .bf16) (x20 : Vec Ideal S512x1536 .bf16) (x21 : Vec Ideal S2048x512 .bf16) (x22 : Vec Ideal S384x1536 .bf16) (x23 : Vec Ideal S256x1536 .bf16) (x24 : Vec Ideal S256x512 .bf16) (x25 : Vec Ideal S8192x2048 .bf16) (x26 : Vec Ideal S8192x128 .bf16) (x27 : Vec Ideal S16x256x256 .bf16) (x28 : Vec Ideal S16x8x256 .f32) (x29 : Vec Ideal S16x256 .f32) (P : Inp) (HO : Ord P)
    (h1 : ∀ n : Fin 7, x1 (ix1 n) = P.cu n.val) (h2 : ∀ y, x2 y = P.tau)
    (h3 : At2 (R := 24) (C := 12) x3 P.wqbS) (h4 : At2 (R := 16) (C := 4) x4 P.wkbS)
    (h5 : At2 (R := 256) (C := 1536) x5 (fun r c => P.cqC (256 * (i 0).val + r) c)) (h6 : At2 (R := 256) (C := 12) x6 (fun r c => P.cqS (256 * (i 0).val + r) c))
    (h7 : At2 (R := 256) (C := 512) x7 (fun r c => P.ckvC (256 * (i 0).val + r) c)) (h8 : At2 (R := 256) (C := 4) x8 (fun r c => P.ckvS (256 * (i 0).val + r) c))
    (h9 : At2 (R := 256) (C := 64) x9 (fun r c => P.rope (256 * (i 0).val + r) c))
    (h10 : At2 (R := 256) (C := 32) x10 (fun r c => P.cos (256 * (i 0).val + r) c))
    (h11 : At2 (R := 256) (C := 32) x11 (fun r c => P.sin (256 * (i 0).val + r) c))
    (h12 : At2 (R := 3072) (C := 1536) x12 P.wqbC) (h13 : At2 (R := 2048) (C := 512) x13 P.wkbC)
    (hW : (i 0).val ≠ 0 → Wts P x18 x19 x20 x21)
    (h25 : AtR (R := 8192) (C := 2048) (256 * (i 0).val) x25 (KEY P)) (h26 : AtR (R := 8192) (C := 128) (256 * (i 0).val) x26 (FEAT P))
    (h29 : (i 0).val ≠ 0 → RunAt P (i 0).val x29) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ (∀ y14 y15 y16 y17 y18 y19 y20 y21 y22 y23 y24 y25 y26 y27 y28 y29, (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22 ∗ owns (c : Thread nD τ) arg23 fullShare y23 ∗ owns (c : Thread nD τ) arg24 fullShare y24 ∗ owns (c : Thread nD τ) arg25 fullShare y25 ∗ owns (c : Thread nD τ) arg26 fullShare y26 ∗ owns (c : Thread nD τ) arg27 fullShare y27 ∗ owns (c : Thread nD τ) arg28 fullShare y28 ∗ owns (c : Thread nD τ) arg29 fullShare y29 ∗ ⌜At2 (R := 256) (C := 16) y14 (fun q h => ROW P h (256 * (i 0).val + q)) ∧
      (k0_cond2 i = 1#1 → At2 (R := 1) (C := 16) y15 (fun _ h => SMAX P h) ∧ At2 (R := 1) (C := 16) y16 (fun _ h => GAM P h) ∧ At2 (R := 2) (C := 128) y17 (STATS P)) ∧
      (¬ k0_cond2 i = 1#1 → y15 = x15 ∧ y16 = x16 ∧ y17 = x17) ∧ Wts P y18 y19 y20 y21 ∧
      AtR (R := 8192) (C := 2048) (256 * (i 0).val + 256) y25 (KEY P) ∧ AtR (R := 8192) (C := 128) (256 * (i 0).val + 256) y26 (FEAT P) ∧ RunAt P ((i 0).val + 1) y29⌝) -∗ Q ⟨⟩))
      ⊢ wp frame (wpE (defs₀ (F := Ideal)) Variants.none (c : Thread nD τ) none) Set.univ (cc0_logits (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q := by
  rw [skel_split]
  iintro ⟨H1, H2, H3, H4, H5, H6, H7, H8, H9, H10, H11, H12, H13, H14, H15, H16, H17, H18, H19, H20, H21, H22, H23, H24, H25, H26, H27, H28, H29, Hk⟩
  iapply (segA_run (P := P) (h3 := h3) (h4 := h4) (h5 := h5) (h6 := h6) (h7 := h7) (h8 := h8) (h12 := h12) (h13 := h13) (hW := fun h => hW (fun e => h ((cond1_iff i).2 e))) (h25 := h25) (h29 := fun h => h29 (fun e => h ((cond1_iff i).2 e))) (hbeg := (cond1_iff i).1))
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H29]; · iexact H29
  iintro %a18 %a19 %a20 %a21 %a22 %a23 %a24 %a25 %a29 ⟨H3, H4, H5, H6, H7, H8, H12, H13, H18, H19, H20, H21, H22, H23, H24, H25, H29, %hA⟩
  obtain ⟨hw, a23h, a25h, a29h⟩ := hA
  iapply (segB_run (P := P) (h1 := h1) (h9 := h9) (h10 := h10) (h11 := h11) (h18 := hw.1) (h19 := hw.2.1) (h20 := hw.2.2.1) (h23 := a23h) (h25 := a25h) (h26 := h26))
  isplitl [H1]; · iexact H1
  isplitl [H9]; · iexact H9
  isplitl [H10]; · iexact H10
  isplitl [H11]; · iexact H11
  isplitl [H18]; · iexact H18
  isplitl [H19]; · iexact H19
  isplitl [H20]; · iexact H20
  isplitl [H23]; · iexact H23
  isplitl [H25]; · iexact H25
  isplitl [H26]; · iexact H26
  isplitl [H27]; · iexact H27
  iintro %v724 %v729 %b26 %b27 ⟨H1, H9, H10, H11, H18, H19, H20, H23, H25, H26, H27, %hB⟩
  obtain ⟨e724, ⟨ka, fa, e729, hka, hfa⟩, b26h, b27h⟩ := hB
  subst e724; subst e729
  iapply (segC_run (P := P) (h25 := a25h) (h26 := b26h) (h27 := b27h) (hka := hka) (hfa := hfa))
  isplitl [H25]; · iexact H25
  isplitl [H26]; · iexact H26
  isplitl [H27]; · iexact H27
  isplitl [H28]; · iexact H28
  iintro %v961 %c28 ⟨H25, H26, H27, H28, %hC⟩
  obtain ⟨c28h, c961⟩ := hC
  iapply (segD_run (P := P) (HO := HO) (h1 := h1) (h2 := h2) (h25 := a25h) (h26 := b26h) (h27 := b27h) (h28 := c28h) (hv := c961) (h29 := a29h) (hend := (cond2_iff i).1))
  isplitl [H1]; · iexact H1
  isplitl [H2]; · iexact H2
  isplitl [H25]; · iexact H25
  isplitl [H26]; · iexact H26
  isplitl [H27]; · iexact H27
  isplitl [H28]; · iexact H28
  isplitl [H29]; · iexact H29
  isplitl [H14]; · iexact H14
  isplitl [H15]; · iexact H15
  isplitl [H16]; · iexact H16
  isplitl [H17]; · iexact H17
  iintro %d28 %d29 %d14 %d15 %d16 %d17 ⟨H1, H2, H25, H26, H27, H28, H29, H14, H15, H16, H17, %hD⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  ipureintro
  exact ⟨hD.1, hD.2.2.1, hD.2.2.2, hw, a25h, b26h, hD.2.1⟩
end Cert.KernelIdeal.Val
-- ==== Proof.Inputs.lean ====
/- The problem's arguments as tables over the natural numbers. -/
module

public import proofs.«01_k».proof.Proof.Best

@[expose] public section

noncomputable section

namespace Cert.KernelIdeal.Val

open Cert.KernelIdeal Cert.KernelIdeal.Gen
open Idealize.ShloMosaic Idealize.ShloMosaic.TcCoe Idealize.ShloMosaic.Tactic
open Spec

/-- A matrix as a table: zero outside. -/
def N2 {R C : ℕ} (X : (⟨2, ![R, C]⟩ : Shape).Idx → EReal) (a b : ℕ) : EReal :=
  if h : a < R ∧ b < C then X (ix2 ⟨a, h.1⟩ ⟨b, h.2⟩) else 0
theorem N2_at {R C a b : ℕ} (X : (⟨2, ![R, C]⟩ : Shape).Idx → EReal) (y : (⟨2, ![R, C]⟩ : Shape).Idx)
    (h0 : (y (0 : Fin 2)).val = a) (h1 : (y (1 : Fin 2)).val = b) : X y = N2 X a b := by
  subst h0; subst h1
  have h : (y (0 : Fin 2)).val < R ∧ (y (1 : Fin 2)).val < C := ⟨(y (0 : Fin 2)).isLt, (y (1 : Fin 2)).isLt⟩
  unfold N2
  rw [dif_pos h]
  congr 1
  funext d
  fin_cases d <;> rfl
/-- A vector of words as a table. -/
def N1 (X : (⟨1, ![7]⟩ : Shape).Idx → BitVec 32) (a : ℕ) : BitVec 32 :=
  if h : a < 7 then X (ix1 ⟨a, h⟩) else 0
theorem N1_at {a : ℕ} (X : (⟨1, ![7]⟩ : Shape).Idx → BitVec 32) (y : (⟨1, ![7]⟩ : Shape).Idx) (h0 : (y (0 : Fin 1)).val = a) : X y = N1 X a := by
  subst h0
  have h : (y (0 : Fin 1)).val < 7 := (y (0 : Fin 1)).isLt
  unfold N1
  rw [dif_pos h]
  congr 1
  funext d
  fin_cases d; rfl
/-- The arguments the results are of. -/
def inpOf (a0 : (⟨2, ![8192, 1536]⟩ : Shape).Idx → EReal) (a1 : (⟨2, ![8192, 12]⟩ : Shape).Idx → EReal)
    (a2 : (⟨2, ![8192, 512]⟩ : Shape).Idx → EReal) (a3 : (⟨2, ![8192, 4]⟩ : Shape).Idx → EReal)
    (a4 : (⟨2, ![8192, 64]⟩ : Shape).Idx → EReal) (a5 : (⟨1, ![7]⟩ : Shape).Idx → BitVec 32)
    (a6 a7 : (⟨2, ![8192, 32]⟩ : Shape).Idx → EReal) (a10 : (⟨2, ![3072, 1536]⟩ : Shape).Idx → EReal)
    (a11 : (⟨2, ![24, 12]⟩ : Shape).Idx → EReal) (a12 : (⟨2, ![2048, 512]⟩ : Shape).Idx → EReal)
    (a13 : (⟨2, ![16, 4]⟩ : Shape).Idx → EReal) (tau : EReal) : Inp where
  cu := N1 a5
  tau := tau
  wqbS := N2 a11
  wkbS := N2 a13
  cqC := N2 a0
  cqS := N2 a1
  ckvC := N2 a2
  ckvS := N2 a3
  rope := N2 a4
  cos := N2 a6
  sin := N2 a7
  wqbC := N2 a10
  wkbC := N2 a12

end Cert.KernelIdeal.Val
-- ==== Proof.Blocks.lean ====
/- What the windows of a grid point hold. -/
module

public import proofs.«01_k».proof.Proof.Gen.KernelIdeal.Frame
public import proofs.«01_k».proof.Proof.Gen.KernelIdeal.Skeleton
public import proofs.«01_k».proof.Proof.Body
public import proofs.«01_k».proof.Proof.Inputs
public import Idealize.ShloMosaic.Lib.Pipeline.ValueKit
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
variable (m : (ℓ : Loc nD τ sig) → Buf (Elt Ideal) ℓ)
/-- The problem of one device's memory. -/
def pOf (c : Dev nD) : Inp :=
  inpOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14) (fun a => a.elim0))
theorem pt_val : ∀ t : Fin cfg0.N, (grid0.coords t 0).val = t.val := by decide +kernel
theorem P2 (c : Dev nD) : (pOf m c).wqbS = N2 (m ((c.tc : Thread nD τ).loc main_arg11)) := rfl
theorem idx2 : ∀ t : Fin cfg0.N, win0_2.index t = ![0, 0] := by decide +kernel
theorem in2 (c : Dev nD) (t : Fin cfg0.N) : At2 (R := 24) (C := 12) (iblk m c 2 t) ((pOf m c).wqbS) := by
  intro r q
  have e : iblk m c 2 t (ix2 r q) = m ((c.tc : Thread nD τ).loc main_arg11) (((cfg0.win 2).blk t).view.emb (ix2 r q)) :=
    congrFun (V_main_arg11 m c) _
  refine e.trans ?_
  show _ = (pOf m c).wqbS _ _
  rw [P2]
  refine N2_at _ _ ?_ ?_
  · blk_simp [idx2 t]
  · blk_simp [idx2 t]
theorem P3 (c : Dev nD) : (pOf m c).wkbS = N2 (m ((c.tc : Thread nD τ).loc main_arg13)) := rfl
theorem idx3 : ∀ t : Fin cfg0.N, win0_3.index t = ![0, 0] := by decide +kernel
theorem in3 (c : Dev nD) (t : Fin cfg0.N) : At2 (R := 16) (C := 4) (iblk m c 3 t) ((pOf m c).wkbS) := by
  intro r q
  have e : iblk m c 3 t (ix2 r q) = m ((c.tc : Thread nD τ).loc main_arg13) (((cfg0.win 3).blk t).view.emb (ix2 r q)) :=
    congrFun (V_main_arg13 m c) _
  refine e.trans ?_
  show _ = (pOf m c).wkbS _ _
  rw [P3]
  refine N2_at _ _ ?_ ?_
  · blk_simp [idx3 t]
  · blk_simp [idx3 t]
theorem P4 (c : Dev nD) : (pOf m c).cqC = N2 (m ((c.tc : Thread nD τ).loc main_arg0)) := rfl
theorem idx4 : ∀ t : Fin cfg0.N, win0_4.index t = ![(grid0.coords t 0).val, 0] := by decide +kernel
theorem in4 (c : Dev nD) (t : Fin cfg0.N) : At2 (R := 256) (C := 1536) (iblk m c 4 t) (fun r q => (pOf m c).cqC (256 * (grid0.coords t 0).val + r) q) := by
  intro r q
  have e : iblk m c 4 t (ix2 r q) = m ((c.tc : Thread nD τ).loc main_arg0) (((cfg0.win 4).blk t).view.emb (ix2 r q)) :=
    congrFun (V_main_arg0 m c) _
  refine e.trans ?_
  show _ = (pOf m c).cqC _ _
  rw [P4]
  refine N2_at _ _ ?_ ?_
  · blk_simp [idx4 t]; omega
  · blk_simp [idx4 t]
theorem P5 (c : Dev nD) : (pOf m c).cqS = N2 (m ((c.tc : Thread nD τ).loc main_arg1)) := rfl
theorem idx5 : ∀ t : Fin cfg0.N, win0_5.index t = ![(grid0.coords t 0).val, 0] := by decide +kernel
theorem in5 (c : Dev nD) (t : Fin cfg0.N) : At2 (R := 256) (C := 12) (iblk m c 5 t) (fun r q => (pOf m c).cqS (256 * (grid0.coords t 0).val + r) q) := by
  intro r q
  have e : iblk m c 5 t (ix2 r q) = m ((c.tc : Thread nD τ).loc main_arg1) (((cfg0.win 5).blk t).view.emb (ix2 r q)) :=
    congrFun (V_main_arg1 m c) _
  refine e.trans ?_
  show _ = (pOf m c).cqS _ _
  rw [P5]
  refine N2_at _ _ ?_ ?_
  · blk_simp [idx5 t]; omega
  · blk_simp [idx5 t]
theorem P6 (c : Dev nD) : (pOf m c).ckvC = N2 (m ((c.tc : Thread nD τ).loc main_arg2)) := rfl
theorem idx6 : ∀ t : Fin cfg0.N, win0_6.index t = ![(grid0.coords t 0).val, 0] := by decide +kernel
theorem in6 (c : Dev nD) (t : Fin cfg0.N) : At2 (R := 256) (C := 512) (iblk m c 6 t) (fun r q => (pOf m c).ckvC (256 * (grid0.coords t 0).val + r) q) := by
  intro r q
  have e : iblk m c 6 t (ix2 r q) = m ((c.tc : Thread nD τ).loc main_arg2) (((cfg0.win 6).blk t).view.emb (ix2 r q)) :=
    congrFun (V_main_arg2 m c) _
  refine e.trans ?_
  show _ = (pOf m c).ckvC _ _
  rw [P6]
  refine N2_at _ _ ?_ ?_
  · blk_simp [idx6 t]; omega
  · blk_simp [idx6 t]
theorem P7 (c : Dev nD) : (pOf m c).ckvS = N2 (m ((c.tc : Thread nD τ).loc main_arg3)) := rfl
theorem idx7 : ∀ t : Fin cfg0.N, win0_7.index t = ![(grid0.coords t 0).val, 0] := by decide +kernel
theorem in7 (c : Dev nD) (t : Fin cfg0.N) : At2 (R := 256) (C := 4) (iblk m c 7 t) (fun r q => (pOf m c).ckvS (256 * (grid0.coords t 0).val + r) q) := by
  intro r q
  have e : iblk m c 7 t (ix2 r q) = m ((c.tc : Thread nD τ).loc main_arg3) (((cfg0.win 7).blk t).view.emb (ix2 r q)) :=
    congrFun (V_main_arg3 m c) _
  refine e.trans ?_
  show _ = (pOf m c).ckvS _ _
  rw [P7]
  refine N2_at _ _ ?_ ?_
  · blk_simp [idx7 t]; omega
  · blk_simp [idx7 t]
theorem P8 (c : Dev nD) : (pOf m c).rope = N2 (m ((c.tc : Thread nD τ).loc main_arg4)) := rfl
theorem idx8 : ∀ t : Fin cfg0.N, win0_8.index t = ![(grid0.coords t 0).val, 0] := by decide +kernel
theorem in8 (c : Dev nD) (t : Fin cfg0.N) : At2 (R := 256) (C := 64) (iblk m c 8 t) (fun r q => (pOf m c).rope (256 * (grid0.coords t 0).val + r) q) := by
  intro r q
  have e : iblk m c 8 t (ix2 r q) = m ((c.tc : Thread nD τ).loc main_arg4) (((cfg0.win 8).blk t).view.emb (ix2 r q)) :=
    congrFun (V_main_arg4 m c) _
  refine e.trans ?_
  show _ = (pOf m c).rope _ _
  rw [P8]
  refine N2_at _ _ ?_ ?_
  · blk_simp [idx8 t]; omega
  · blk_simp [idx8 t]
theorem P9 (c : Dev nD) : (pOf m c).cos = N2 (m ((c.tc : Thread nD τ).loc main_arg6)) := rfl
theorem idx9 : ∀ t : Fin cfg0.N, win0_9.index t = ![(grid0.coords t 0).val, 0] := by decide +kernel
theorem in9 (c : Dev nD) (t : Fin cfg0.N) : At2 (R := 256) (C := 32) (iblk m c 9 t) (fun r q => (pOf m c).cos (256 * (grid0.coords t 0).val + r) q) := by
  intro r q
  have e : iblk m c 9 t (ix2 r q) = m ((c.tc : Thread nD τ).loc main_arg6) (((cfg0.win 9).blk t).view.emb (ix2 r q)) :=
    congrFun (V_main_arg6 m c) _
  refine e.trans ?_
  show _ = (pOf m c).cos _ _
  rw [P9]
  refine N2_at _ _ ?_ ?_
  · blk_simp [idx9 t]; omega
  · blk_simp [idx9 t]
theorem P10 (c : Dev nD) : (pOf m c).sin = N2 (m ((c.tc : Thread nD τ).loc main_arg7)) := rfl
theorem idx10 : ∀ t : Fin cfg0.N, win0_10.index t = ![(grid0.coords t 0).val, 0] := by decide +kernel
theorem in10 (c : Dev nD) (t : Fin cfg0.N) : At2 (R := 256) (C := 32) (iblk m c 10 t) (fun r q => (pOf m c).sin (256 * (grid0.coords t 0).val + r) q) := by
  intro r q
  have e : iblk m c 10 t (ix2 r q) = m ((c.tc : Thread nD τ).loc main_arg7) (((cfg0.win 10).blk t).view.emb (ix2 r q)) :=
    congrFun (V_main_arg7 m c) _
  refine e.trans ?_
  show _ = (pOf m c).sin _ _
  rw [P10]
  refine N2_at _ _ ?_ ?_
  · blk_simp [idx10 t]; omega
  · blk_simp [idx10 t]
theorem P11 (c : Dev nD) : (pOf m c).wqbC = N2 (m ((c.tc : Thread nD τ).loc main_arg10)) := rfl
theorem idx11 : ∀ t : Fin cfg0.N, win0_11.index t = ![0, 0] := by decide +kernel
theorem in11 (c : Dev nD) (t : Fin cfg0.N) : At2 (R := 3072) (C := 1536) (iblk m c 11 t) ((pOf m c).wqbC) := by
  intro r q
  have e : iblk m c 11 t (ix2 r q) = m ((c.tc : Thread nD τ).loc main_arg10) (((cfg0.win 11).blk t).view.emb (ix2 r q)) :=
    congrFun (V_main_arg10 m c) _
  refine e.trans ?_
  show _ = (pOf m c).wqbC _ _
  rw [P11]
  refine N2_at _ _ ?_ ?_
  · blk_simp [idx11 t]
  · blk_simp [idx11 t]
theorem P12 (c : Dev nD) : (pOf m c).wkbC = N2 (m ((c.tc : Thread nD τ).loc main_arg12)) := rfl
theorem idx12 : ∀ t : Fin cfg0.N, win0_12.index t = ![0, 0] := by decide +kernel
theorem in12 (c : Dev nD) (t : Fin cfg0.N) : At2 (R := 2048) (C := 512) (iblk m c 12 t) ((pOf m c).wkbC) := by
  intro r q
  have e : iblk m c 12 t (ix2 r q) = m ((c.tc : Thread nD τ).loc main_arg12) (((cfg0.win 12).blk t).view.emb (ix2 r q)) :=
    congrFun (V_main_arg12 m c) _
  refine e.trans ?_
  show _ = (pOf m c).wkbC _ _
  rw [P12]
  refine N2_at _ _ ?_ ?_
  · blk_simp [idx12 t]
  · blk_simp [idx12 t]
theorem P0 (c : Dev nD) : (pOf m c).cu = N1 (m ((c.tc : Thread nD τ).loc main_arg5)) := rfl
theorem idx0 : ∀ t : Fin cfg0.N, win0_0.index t = ![0] := by decide +kernel
theorem in0 (c : Dev nD) (t : Fin cfg0.N) (n : Fin 7) : iblk m c 0 t (ix1 n) = (pOf m c).cu n.val := by
  have e : iblk m c 0 t (ix1 n) = m ((c.tc : Thread nD τ).loc main_arg5) (((cfg0.win 0).blk t).view.emb (ix1 n)) :=
    congrFun (V_main_arg5 m c) _
  refine e.trans ?_
  show _ = (pOf m c).cu _
  rw [P0]
  refine N1_at _ _ ?_
  blk_simp [idx0 t]
theorem in1 (c : Dev nD) (t : Fin cfg0.N) (y) : iblk m c 1 t y = (pOf m c).tau := by
  show V m c main_v0 _ = _
  entry_read
  show m ((c.tc : Thread nD τ).loc main_arg14) _ = m ((c.tc : Thread nD τ).loc main_arg14) _
  congr 1
end Cert.KernelIdeal.Val
-- ==== Proof.InOrder.lean ====
/- The precondition read as a fact of the problem: the sequences begin in order, the first at the first token or before. -/
module

public import proofs.«01_k».proof.Defs
public import proofs.«01_k».proof.Proof.Blocks
public import Idealize.ShloMosaic.Lib.WordCmp

@[expose] public section

set_option maxRecDepth 16384
set_option maxHeartbeats 400000

noncomputable section

namespace Cert.KernelIdeal.Val

open Cert.KernelIdeal Cert.KernelIdeal.Gen
open Idealize.ShloMosaic Idealize.ShloMosaic.TcCoe Cert.Spec

theorem preFacts : Cert.Pre_sequences_in_order.Facts := ⟨by decide, by decide, by decide, by decide⟩

attribute [local instance] preFacts Cert.KernelIdeal.Gen.facts

variable (m : (ℓ : Loc nD τ sig) → Buf (Elt Ideal) ℓ)

theorem cu_at (c : Dev nD) (s : Fin 7) : (pOf m c).cu s.val = m ((c.tc : Thread nD τ).loc main_arg5) (ix1 s) :=
  (N1_at (a := s.val) (m ((c.tc : Thread nD τ).loc main_arg5)) (ix1 s) rfl).symm
theorem one_of {x : BitVec 32} {y : BitVec 32} (h : IntOp.cmpi .sle x y = 1#1) : x.toInt ≤ y.toInt := by
  rw [WordCmp.cmpi_sle_eq] at h
  by_contra g
  rw [decide_eq_false g] at h
  exact absurd h (by decide)
theorem ord_of (H : Cert.Pre_KernelIdeal_sequences_in_order m) (c : Dev nD) : Ord (pOf m c) := by
  obtain ⟨h0, h1⟩ := H c
  constructor
  · have e := congrFun h0 (ix1 (0 : Fin 1))
    have e' : (m ((c.tc : Thread nD τ).loc main_arg5) (ix1 (0 : Fin 7))).toInt ≤ 0 := by
      have := one_of (x := m ((c.tc : Thread nD τ).loc main_arg5) (ix1 (0 : Fin 7))) (y := 0#32) (by
        refine Eq.trans ?_ e
        unfold Cert.Pre_sequences_in_order.fn
        dsimp only
        pointwise [])
      simpa using this
    unfold cz
    rw [if_pos (by decide)]
    refine Eq.trans_le ?_ e'
    exact congrArg BitVec.toInt (cu_at m c (0 : Fin 7))
  · intro s hs
    have e := congrFun h1 (ix1 (⟨s, hs⟩ : Fin 6))
    unfold cz
    rw [if_pos (by omega), if_pos (by omega), cu_at m c ⟨s, by omega⟩, show (pOf m c).cu (s + 1) = _ from cu_at m c ⟨s + 1, by omega⟩]
    refine one_of (Eq.trans ?_ e)
    unfold Cert.Pre_sequences_in_order.fn
    dsimp only
    pointwise []
    refine congrArg (fun i : Fin 7 => IntOp.cmpi CmpIPredicate.sle (m ((c.tc : Thread nD τ).loc main_arg5) (ix1 (⟨s, by omega⟩ : Fin 7))) (m ((c.tc : Thread nD τ).loc main_arg5) (ix1 i))) (Fin.ext ?_)
    exact Nat.add_comm _ _

end Cert.KernelIdeal.Val
-- ==== Proof.Values.lean ====
/- The launch of the kernel's pipeline with its results: after the run the result arrays hold the problem's values. -/
module

public import proofs.«01_k».proof.Proof.Gen.KernelIdeal.Frame
public import proofs.«01_k».proof.Proof.Gen.KernelIdeal.Skeleton
public import proofs.«01_k».proof.Proof.Blocks
public import proofs.«01_k».proof.Proof.KernelIdealLaunch
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Spec
open Idealize.ShloMosaic.Pipeline (Dat BodyObligation)
variable (m : (ℓ : Loc nD τ sig) → Buf (Elt Ideal) ℓ) (ρ : Dev nD → PrngReg)
/-- A tile of the row maxima. -/
def rowTile (P : Inp) (t : ℕ) : Vec Ideal S256x16 .f32 := fun y => ROW P (y (1 : Fin 2)).val (256 * t + (y (0 : Fin 2)).val)
def smaxTile (P : Inp) : Vec Ideal S1x16 .f32 := fun y => SMAX P (y (1 : Fin 2)).val
def gamTile (P : Inp) : Vec Ideal S1x16 .f32 := fun y => GAM P (y (1 : Fin 2)).val
def statTile (P : Inp) : Vec Ideal S2x128 .f32 := fun y => STATS P (y (0 : Fin 2)).val (y (1 : Fin 2)).val
/-- What is known of the kept buffers before point `k`: the weights once the first point ran, the keys and the features
    of the tiles before, the running maximum over them. -/
def Kept (P : Inp) (k : ℕ) (s0 : Vec Ideal S2048x1536 .bf16) (s1 : Vec Ideal S512x1536 .bf16) (s2 : Vec Ideal S512x1536 .bf16) (s3 : Vec Ideal S2048x512 .bf16) (s4 : Vec Ideal S384x1536 .bf16) (s5 : Vec Ideal S256x1536 .bf16) (s6 : Vec Ideal S256x512 .bf16) (s7 : Vec Ideal S8192x2048 .bf16) (s8 : Vec Ideal S8192x128 .bf16) (s9 : Vec Ideal S16x256x256 .bf16) (s10 : Vec Ideal S16x8x256 .f32) (s11 : Vec Ideal S16x256 .f32) : Prop :=
  (k ≠ 0 → Wts P s0 s1 s2 s3) ∧ AtR (R := 8192) (C := 2048) (256 * k) s7 (KEY P) ∧ AtR (R := 8192) (C := 128) (256 * k) s8 (FEAT P) ∧ (k ≠ 0 → RunAt P k s11)
def PHI (c : Dev nD) (k : ℕ) : sProp 𝕄 :=
  iprop((∃ s0 s1 s2 s3 s4 s5 s6 s7 s8 s9 s10 s11, ⌜Kept (pOf m c) k s0 s1 s2 s3 s4 s5 s6 s7 s8 s9 s10 s11⌝ ∗ owns (c : Thread nD τ) (Memref.whole cc0_scratch0) fullShare s0 ∗ owns (c : Thread nD τ) (Memref.whole cc0_scratch1) fullShare s1 ∗ owns (c : Thread nD τ) (Memref.whole cc0_scratch2) fullShare s2 ∗ owns (c : Thread nD τ) (Memref.whole cc0_scratch3) fullShare s3 ∗ owns (c : Thread nD τ) (Memref.whole cc0_scratch4) fullShare s4 ∗ owns (c : Thread nD τ) (Memref.whole cc0_scratch5) fullShare s5 ∗ owns (c : Thread nD τ) (Memref.whole cc0_scratch6) fullShare s6 ∗ owns (c : Thread nD τ) (Memref.whole cc0_scratch7) fullShare s7 ∗ owns (c : Thread nD τ) (Memref.whole cc0_scratch8) fullShare s8 ∗ owns (c : Thread nD τ) (Memref.whole cc0_scratch9) fullShare s9 ∗ owns (c : Thread nD τ) (Memref.whole cc0_scratch10) fullShare s10 ∗ owns (c : Thread nD τ) (Memref.whole cc0_scratch11) fullShare s11) ∗ (∃ r, prngReg c r))
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => rowTile (pOf m c) (grid0.coords t 0).val
    | ⟨14, _⟩ => smaxTile (pOf m c)
    | ⟨15, _⟩ => gamTile (pOf m c)
    | ⟨16, _⟩ => statTile (pOf m c)
    | ⟨n + 17, h⟩ => absurd h (Nat.not_lt.2 (Nat.le_add_left _ _))
  Φ k := PHI m c k.val
  q _ := fullShare
  owed _ := 0
theorem A_eq (c : Dev nD) (w : Fin cfg0.W) : (vdats m 0 c).A w = V m c (Pipeline.arrRef spec0 w) := by dsimp only [vdats]
theorem before0 (c : Dev nD) (t : Fin cfg0.N) (d) : (vdats m 0 c).before 0 t d = iblk m c 0 t :=
  before0_0_of m (vdats m 0 c) (A_eq m c 0) (fun t => by dsimp only [vdats]) t d
theorem after0 (c : Dev nD) (t : Fin cfg0.N) : (vdats m 0 c).after 0 t = iblk m c 0 t := by dsimp only [vdats]
theorem before1 (c : Dev nD) (t : Fin cfg0.N) (d) : (vdats m 0 c).before 1 t d = iblk m c 1 t :=
  before0_1_of m (vdats m 0 c) (A_eq m c 1) (fun t => by dsimp only [vdats]) t d
theorem after1 (c : Dev nD) (t : Fin cfg0.N) : (vdats m 0 c).after 1 t = iblk m c 1 t := by dsimp only [vdats]
theorem before2 (c : Dev nD) (t : Fin cfg0.N) (d) : (vdats m 0 c).before 2 t d = iblk m c 2 t :=
  before0_2_of m (vdats m 0 c) (A_eq m c 2) (fun t => by dsimp only [vdats]) t d
theorem after2 (c : Dev nD) (t : Fin cfg0.N) : (vdats m 0 c).after 2 t = iblk m c 2 t := by dsimp only [vdats]
theorem before3 (c : Dev nD) (t : Fin cfg0.N) (d) : (vdats m 0 c).before 3 t d = iblk m c 3 t :=
  before0_3_of m (vdats m 0 c) (A_eq m c 3) (fun t => by dsimp only [vdats]) t d
theorem after3 (c : Dev nD) (t : Fin cfg0.N) : (vdats m 0 c).after 3 t = iblk m c 3 t := by dsimp only [vdats]
theorem before4 (c : Dev nD) (t : Fin cfg0.N) (d) : (vdats m 0 c).before 4 t d = iblk m c 4 t :=
  before0_4_of m (vdats m 0 c) (A_eq m c 4) (fun t => by dsimp only [vdats]) t d
theorem after4 (c : Dev nD) (t : Fin cfg0.N) : (vdats m 0 c).after 4 t = iblk m c 4 t := by dsimp only [vdats]
theorem before5 (c : Dev nD) (t : Fin cfg0.N) (d) : (vdats m 0 c).before 5 t d = iblk m c 5 t :=
  before0_5_of m (vdats m 0 c) (A_eq m c 5) (fun t => by dsimp only [vdats]) t d
theorem after5 (c : Dev nD) (t : Fin cfg0.N) : (vdats m 0 c).after 5 t = iblk m c 5 t := by dsimp only [vdats]
theorem before6 (c : Dev nD) (t : Fin cfg0.N) (d) : (vdats m 0 c).before 6 t d = iblk m c 6 t :=
  before0_6_of m (vdats m 0 c) (A_eq m c 6) (fun t => by dsimp only [vdats]) t d
theorem after6 (c : Dev nD) (t : Fin cfg0.N) : (vdats m 0 c).after 6 t = iblk m c 6 t := by dsimp only [vdats]
theorem before7 (c : Dev nD) (t : Fin cfg0.N) (d) : (vdats m 0 c).before 7 t d = iblk m c 7 t :=
  before0_7_of m (vdats m 0 c) (A_eq m c 7) (fun t => by dsimp only [vdats]) t d
theorem after7 (c : Dev nD) (t : Fin cfg0.N) : (vdats m 0 c).after 7 t = iblk m c 7 t := by dsimp only [vdats]
theorem before8 (c : Dev nD) (t : Fin cfg0.N) (d) : (vdats m 0 c).before 8 t d = iblk m c 8 t :=
  before0_8_of m (vdats m 0 c) (A_eq m c 8) (fun t => by dsimp only [vdats]) t d
theorem after8 (c : Dev nD) (t : Fin cfg0.N) : (vdats m 0 c).after 8 t = iblk m c 8 t := by dsimp only [vdats]
theorem before9 (c : Dev nD) (t : Fin cfg0.N) (d) : (vdats m 0 c).before 9 t d = iblk m c 9 t :=
  before0_9_of m (vdats m 0 c) (A_eq m c 9) (fun t => by dsimp only [vdats]) t d
theorem after9 (c : Dev nD) (t : Fin cfg0.N) : (vdats m 0 c).after 9 t = iblk m c 9 t := by dsimp only [vdats]
theorem before10 (c : Dev nD) (t : Fin cfg0.N) (d) : (vdats m 0 c).before 10 t d = iblk m c 10 t :=
  before0_10_of m (vdats m 0 c) (A_eq m c 10) (fun t => by dsimp only [vdats]) t d
theorem after10 (c : Dev nD) (t : Fin cfg0.N) : (vdats m 0 c).after 10 t = iblk m c 10 t := by dsimp only [vdats]
theorem before11 (c : Dev nD) (t : Fin cfg0.N) (d) : (vdats m 0 c).before 11 t d = iblk m c 11 t :=
  before0_11_of m (vdats m 0 c) (A_eq m c 11) (fun t => by dsimp only [vdats]) t d
theorem after11 (c : Dev nD) (t : Fin cfg0.N) : (vdats m 0 c).after 11 t = iblk m c 11 t := by dsimp only [vdats]
theorem before12 (c : Dev nD) (t : Fin cfg0.N) (d) : (vdats m 0 c).before 12 t d = iblk m c 12 t :=
  before0_12_of m (vdats m 0 c) (A_eq m c 12) (fun t => by dsimp only [vdats]) t d
theorem after12 (c : Dev nD) (t : Fin cfg0.N) : (vdats m 0 c).after 12 t = iblk m c 12 t := by dsimp only [vdats]
theorem after13 (c : Dev nD) (t : Fin cfg0.N) : (vdats m 0 c).after 13 t = rowTile (pOf m c) (grid0.coords t 0).val := by dsimp only [vdats]
theorem after14 (c : Dev nD) (t : Fin cfg0.N) : (vdats m 0 c).after 14 t = smaxTile (pOf m c) := by dsimp only [vdats]
theorem after15 (c : Dev nD) (t : Fin cfg0.N) : (vdats m 0 c).after 15 t = gamTile (pOf m c) := by dsimp only [vdats]
theorem after16 (c : Dev nD) (t : Fin cfg0.N) : (vdats m 0 c).after 16 t = statTile (pOf m c) := by dsimp only [vdats]
theorem live (c : Dev nD) (w : Fin cfg0.W) (t : Fin cfg0.N) (hi : cfg0.idle w (cfg0.grid.coords t) = false) :
    ((vdats m 0 c).leavesExact w t : sProp 𝕄) = owns (c : Thread nD τ) ((cfg0.win w).stage (cfg0.slots t w)) fullShare ((vdats m 0 c).after w t) := by
  unfold Dat.leavesExact; rw [hi]
theorem idle14 {t : Fin cfg0.N} (h : ¬ k0_cond2 (grid0.coords t) = 1#1) : cfg0.idle 14 (cfg0.grid.coords t) = true := by
  show (!(k0_cond2 (grid0.coords t) == 1#1)) = true; simp [h]
theorem idle15 {t : Fin cfg0.N} (h : ¬ k0_cond2 (grid0.coords t) = 1#1) : cfg0.idle 15 (cfg0.grid.coords t) = true := by
  show (!(k0_cond2 (grid0.coords t) == 1#1)) = true; simp [h]
theorem idle16 {t : Fin cfg0.N} (h : ¬ k0_cond2 (grid0.coords t) = 1#1) : cfg0.idle 16 (cfg0.grid.coords t) = true := by
  show (!(k0_cond2 (grid0.coords t) == 1#1)) = true; simp [h]
theorem live14 {t : Fin cfg0.N} (h : k0_cond2 (grid0.coords t) = 1#1) : cfg0.idle 14 (cfg0.grid.coords t) = false := by
  show (!(k0_cond2 (grid0.coords t) == 1#1)) = false; simp [h]
theorem live15 {t : Fin cfg0.N} (h : k0_cond2 (grid0.coords t) = 1#1) : cfg0.idle 15 (cfg0.grid.coords t) = false := by
  show (!(k0_cond2 (grid0.coords t) == 1#1)) = false; simp [h]
theorem live16 {t : Fin cfg0.N} (h : k0_cond2 (grid0.coords t) = 1#1) : cfg0.idle 16 (cfg0.grid.coords t) = false := by
  show (!(k0_cond2 (grid0.coords t) == 1#1)) = false; simp [h]
theorem noflush_of {t : Fin cfg0.N} {b : Bool} (h : ¬ k0_cond2 (grid0.coords t) = 1#1) (hb : b = true ↔ t.val % 32 = 31) : b = false := by
  rw [Bool.eq_false_iff]
  intro e
  refine h ((cond2_iff _).2 ?_)
  have h1 := hb.1 e
  have h2 : t.val < 32 := t.isLt
  rw [pt_val]; omega
def bodyPre (c : Dev nD) (t : Fin cfg0.N) : sProp 𝕄 :=
  iprop((vdats m 0 c).Φ t.castSucc ∗ (vdats m 0 c).owesAt () t.castSucc ∗ (∃ d, owns (c : Thread nD τ) (win0_0.stage (cfg0.slots t 0)) fullShare ((vdats m 0 c).before 0 t d)) ∗ (∃ d, owns (c : Thread nD τ) (win0_1.stage (cfg0.slots t 1)) fullShare ((vdats m 0 c).before 1 t d)) ∗ (∃ d, owns (c : Thread nD τ) (win0_2.stage (cfg0.slots t 2)) fullShare ((vdats m 0 c).before 2 t d)) ∗ (∃ d, owns (c : Thread nD τ) (win0_3.stage (cfg0.slots t 3)) fullShare ((vdats m 0 c).before 3 t d)) ∗ (∃ d, owns (c : Thread nD τ) (win0_4.stage (cfg0.slots t 4)) fullShare ((vdats m 0 c).before 4 t d)) ∗ (∃ d, owns (c : Thread nD τ) (win0_5.stage (cfg0.slots t 5)) fullShare ((vdats m 0 c).before 5 t d)) ∗ (∃ d, owns (c : Thread nD τ) (win0_6.stage (cfg0.slots t 6)) fullShare ((vdats m 0 c).before 6 t d)) ∗ (∃ d, owns (c : Thread nD τ) (win0_7.stage (cfg0.slots t 7)) fullShare ((vdats m 0 c).before 7 t d)) ∗ (∃ d, owns (c : Thread nD τ) (win0_8.stage (cfg0.slots t 8)) fullShare ((vdats m 0 c).before 8 t d)) ∗ (∃ d, owns (c : Thread nD τ) (win0_9.stage (cfg0.slots t 9)) fullShare ((vdats m 0 c).before 9 t d)) ∗ (∃ d, owns (c : Thread nD τ) (win0_10.stage (cfg0.slots t 10)) fullShare ((vdats m 0 c).before 10 t d)) ∗ (∃ d, owns (c : Thread nD τ) (win0_11.stage (cfg0.slots t 11)) fullShare ((vdats m 0 c).before 11 t d)) ∗ (∃ d, owns (c : Thread nD τ) (win0_12.stage (cfg0.slots t 12)) fullShare ((vdats m 0 c).before 12 t d)) ∗ (∃ d, owns (c : Thread nD τ) (win0_13.stage (cfg0.slots t 13)) fullShare ((vdats m 0 c).before 13 t d)) ∗ (∃ d, owns (c : Thread nD τ) (win0_14.stage (cfg0.slots t 14)) fullShare ((vdats m 0 c).before 14 t d)) ∗ (∃ d, owns (c : Thread nD τ) (win0_15.stage (cfg0.slots t 15)) fullShare ((vdats m 0 c).before 15 t d)) ∗ (∃ d, owns (c : Thread nD τ) (win0_16.stage (cfg0.slots t 16)) fullShare ((vdats m 0 c).before 16 t d)))
def bodyPost (c : Dev nD) (t : Fin cfg0.N) : sProp 𝕄 :=
  iprop((vdats m 0 c).Φ t.succ ∗ (vdats m 0 c).owesAt () t.succ ∗ owns (c : Thread nD τ) (win0_0.stage (cfg0.slots t 0)) fullShare ((vdats m 0 c).after 0 t) ∗ owns (c : Thread nD τ) (win0_1.stage (cfg0.slots t 1)) fullShare ((vdats m 0 c).after 1 t) ∗ owns (c : Thread nD τ) (win0_2.stage (cfg0.slots t 2)) fullShare ((vdats m 0 c).after 2 t) ∗ owns (c : Thread nD τ) (win0_3.stage (cfg0.slots t 3)) fullShare ((vdats m 0 c).after 3 t) ∗ owns (c : Thread nD τ) (win0_4.stage (cfg0.slots t 4)) fullShare ((vdats m 0 c).after 4 t) ∗ owns (c : Thread nD τ) (win0_5.stage (cfg0.slots t 5)) fullShare ((vdats m 0 c).after 5 t) ∗ owns (c : Thread nD τ) (win0_6.stage (cfg0.slots t 6)) fullShare ((vdats m 0 c).after 6 t) ∗ owns (c : Thread nD τ) (win0_7.stage (cfg0.slots t 7)) fullShare ((vdats m 0 c).after 7 t) ∗ owns (c : Thread nD τ) (win0_8.stage (cfg0.slots t 8)) fullShare ((vdats m 0 c).after 8 t) ∗ owns (c : Thread nD τ) (win0_9.stage (cfg0.slots t 9)) fullShare ((vdats m 0 c).after 9 t) ∗ owns (c : Thread nD τ) (win0_10.stage (cfg0.slots t 10)) fullShare ((vdats m 0 c).after 10 t) ∗ owns (c : Thread nD τ) (win0_11.stage (cfg0.slots t 11)) fullShare ((vdats m 0 c).after 11 t) ∗ owns (c : Thread nD τ) (win0_12.stage (cfg0.slots t 12)) fullShare ((vdats m 0 c).after 12 t) ∗ owns (c : Thread nD τ) (win0_13.stage (cfg0.slots t 13)) fullShare ((vdats m 0 c).after 13 t) ∗ (vdats m 0 c).leavesExact 14 t ∗ (vdats m 0 c).leavesExact 15 t ∗ (vdats m 0 c).leavesExact 16 t)

set_option maxHeartbeats 400000 in
theorem sound_body (HO : ∀ c, Ord (pOf m c)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, after0, before1, after1, before2, after2, before3, after3, before4, after4, before5, after5, before6, after6, before7, after7, before8, after8, before9, after9, before10, after10, before11, after11, before12, after12, after13]
  rw [show (vdats m 0 c).Φ t.succ = PHI m c (t.val + 1) from rfl,
    show (vdats m 0 c).owesAt () t.succ = (vdats m 0 c).owesAt () t.castSucc from rfl,
    show (vdats m 0 c).Φ t.castSucc = PHI m c t.val from rfl]
  unfold PHI Kept
  iintro ⟨⟨⟨%s0, %s1, %s2, %s3, %s4, %s5, %s6, %s7, %s8, %s9, %s10, %s11, %hK, S0, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [← pt_val t] at hK
  iapply (body_run (P := (pOf m c)) (HO := HO c) (h1 := in0 m c t) (h2 := in1 m c t) (h3 := in2 m c t) (h4 := in3 m c t) (h5 := in4 m c t) (h6 := in5 m c t) (h7 := in6 m c t) (h8 := in7 m c t) (h9 := in8 m c t) (h10 := in9 m c t) (h11 := in10 m c t) (h12 := in11 m c t) (h13 := in12 m c t) (hW := hK.1) (h25 := hK.2.1) (h26 := hK.2.2.1) (h29 := hK.2.2.2))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro %y13 %y14 %y15 %y16 %z0 %z1 %z2 %z3 %z4 %z5 %z6 %z7 %z8 %z9 %z10 %z11 ⟨H0, H1, H2, H3, H4, H5, H6, H7, H8, H9, H10, H11, H12, H13, H14, H15, H16, S0, S1, S2, S3, S4, S5, S6, S7, S8, S9, S10, S11, %hB⟩
  obtain ⟨hrow, hend, hmid, hw, hk, hf, hr⟩ := hB
  isplitl [S0 S1 S2 S3 S4 S5 S6 S7 S8 S9 S10 S11 Hg]
  · isplitl [S0 S1 S2 S3 S4 S5 S6 S7 S8 S9 S10 S11]
    · iexists z0, z1, z2, z3, z4, z5, z6, z7, z8, z9, z10, z11
      isplitr
      · ipureintro
        rw [← pt_val t]
        exact ⟨fun _ => hw, fun r q h => hk r q (by omega), fun r q h => hf r q (by omega), fun _ => hr⟩
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  obtain rfl : y13 = rowTile (pOf m c) (grid0.coords t 0).val := funext fun y => At2.apply hrow y
  isplitl [H13]; · iexact H13
  by_cases hc : k0_cond2 (grid0.coords t) = 1#1
  · obtain ⟨h14, h15, h16⟩ := hend hc
    obtain rfl : y14 = smaxTile (pOf m c) := funext fun y => At2.apply h14 y
    obtain rfl : y15 = gamTile (pOf m c) := funext fun y => At2.apply h15 y
    obtain rfl : y16 = statTile (pOf m c) := funext fun y => At2.apply h16 y
    rw [live m c 14 t (live14 hc), live m c 15 t (live15 hc), live m c 16 t (live16 hc), after14, after15, after16]
    isplitl [H14]; · iexact H14
    isplitl [H15]; · iexact H15
    iexact H16
  · obtain ⟨rfl, rfl, rfl⟩ := hmid hc
    rw [Dat.leavesExact_idle _ 14 t (idle14 hc) (noflush_of hc (flush0_14 t)), Dat.leavesExact_idle _ 15 t (idle15 hc) (noflush_of hc (flush0_15 t)),
      Dat.leavesExact_idle _ 16 t (idle16 hc) (noflush_of hc (flush0_16 t))]
    isplitl [H14]; · iexists _; iexact H14
    isplitl [H15]; · iexists _; iexact H15
    iexists _; iexact H16

theorem defs₀_row (t : Fin cfg0.N) : defs₀ (F := Ideal) .tc cfg0.body (cfg0.bodyArgs t (cfg0.slots t)) = bodyAt0 t := by
  unfold defs₀; rw [Defs.onTc_tc]

theorem body_obligation (HO : ∀ c, Ord (pOf m c)) (c : Dev nD) :
    BodyObligation (vdats m 0 c) (defs₀ (F := Ideal)) Variants.none () Set.univ := fun t => by
  rw [bigSep_W0, bigSep_W0, defs₀_row]
  exact triple_restated (sound_body m HO c t) rfl .rfl fun _ => .rfl

theorem phi_in (c : Dev nD) : (Pipeline.ΦA spec0 c : sProp 𝕄) ⊢ PHI m c 0 := by
  rw [Cert.KernelIdeal.Hand.PhiA0_eq]
  unfold PHI Kept
  iintro ⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩, Hg⟩
  isplitl [S0 S1 S2 S3 S4 S5 S6 S7 S8 S9 S10 S11]
  · iexists s0, s1, s2, s3, s4, s5, s6, s7, s8, s9, s10, s11
    isplitr
    · ipureintro
      exact ⟨fun h => absurd rfl h, fun _ _ h => absurd h (Nat.not_lt_zero _), fun _ _ h => absurd h (Nat.not_lt_zero _), fun h => absurd rfl h⟩
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  iexact Hg
theorem phi_out (c : Dev nD) (k : ℕ) : PHI m c k ⊢ (Pipeline.ΦA spec0 c : sProp 𝕄) := by
  rw [Cert.KernelIdeal.Hand.PhiA0_eq]
  unfold PHI
  iintro ⟨⟨%s0, %s1, %s2, %s3, %s4, %s5, %s6, %s7, %s8, %s9, %s10, %s11, %hK, S0, S1, S2, S3, S4, S5, S6, S7, S8, S9, S10, S11⟩, Hg⟩
  isplitl [S0 S1 S2 S3 S4 S5 S6 S7 S8 S9 S10 S11]
  · isplitl [S0]; · iexists s0; iexact S0
    isplitl [S1]; · iexists s1; iexact S1
    isplitl [S2]; · iexists s2; iexact S2
    isplitl [S3]; · iexists s3; iexact S3
    isplitl [S4]; · iexists s4; iexact S4
    isplitl [S5]; · iexists s5; iexact S5
    isplitl [S6]; · iexists s6; iexact S6
    isplitl [S7]; · iexists s7; iexact S7
    isplitl [S8]; · iexists s8; iexact S8
    isplitl [S9]; · iexists s9; iexact S9
    isplitl [S10]; · iexists s10; iexact S10
    iexists s11; iexact S11
  iexact Hg

set_option backward.isDefEq.respectTransparency.types false in
theorem run_main (HO : ∀ c, Ord (pOf m c)) :
    θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => (body_obligation m HO c).loose) (hshare := fun c => (vdats m 0 c).share_full fun _ => rfl)
    (howed := fun _ _ => rfl) (V := V m) (hmain := hmain m Variants.none) (hA := A_eq m) (hin := fun c => phi_in m c) (hout := fun c => phi_out m c _)

/-- The tables of the four results. -/
def rowAll (P : Inp) : Vec Ideal S8192x16 .f32 := fun y => ROW P (y (1 : Fin 2)).val (y (0 : Fin 2)).val
theorem idx13 : ∀ t : Fin cfg0.N, win0_13.index t = ![(grid0.coords t 0).val, 0] := by decide +kernel
theorem arr13 (c : Dev nD) : (vdats m 0 c).arrAt 13 (cfgs 0).N = rowAll (pOf m c) := by
  refine (vdats m 0 c).arrAt_eq_of_covers 13 _ (by decide +kernel) fun t hf y => ?_
  blk_simp
  rw [after13]
  show ROW _ _ _ = ROW _ _ _
  refine congrArg₂ (ROW _) ?_ ?_
  · blk_simp [idx13 t]
  · blk_simp [idx13 t]; omega
theorem idx14 : ∀ t : Fin cfg0.N, win0_14.index t = ![0, 0] := by decide +kernel
theorem arr14 (c : Dev nD) : (vdats m 0 c).arrAt 14 (cfgs 0).N = smaxTile (pOf m c) := by
  refine (vdats m 0 c).arrAt_eq_of_covers 14 _ (by decide +kernel) fun t hf y => ?_
  blk_simp
  rw [after14]
  refine congrArg (smaxTile (pOf m c)) (funext fun a => Fin.ext ?_)
  fin_cases a
  · blk_simp [idx14 t]
  · blk_simp [idx14 t]
theorem idx15 : ∀ t : Fin cfg0.N, win0_15.index t = ![0, 0] := by decide +kernel
theorem arr15 (c : Dev nD) : (vdats m 0 c).arrAt 15 (cfgs 0).N = gamTile (pOf m c) := by
  refine (vdats m 0 c).arrAt_eq_of_covers 15 _ (by decide +kernel) fun t hf y => ?_
  blk_simp
  rw [after15]
  refine congrArg (gamTile (pOf m c)) (funext fun a => Fin.ext ?_)
  fin_cases a
  · blk_simp [idx15 t]
  · blk_simp [idx15 t]
theorem idx16 : ∀ t : Fin cfg0.N, win0_16.index t = ![0, 0] := by decide +kernel
theorem arr16 (c : Dev nD) : (vdats m 0 c).arrAt 16 (cfgs 0).N = statTile (pOf m c) := by
  refine (vdats m 0 c).arrAt_eq_of_covers 16 _ (by decide +kernel) fun t hf y => ?_
  blk_simp
  rw [after16]
  refine congrArg (statTile (pOf m c)) (funext fun a => Fin.ext ?_)
  fin_cases a
  · blk_simp [idx16 t]
  · blk_simp [idx16 t]

set_option maxHeartbeats 1600000 in
/-- After the run every result holds the problem's value, every argument is as it was. -/
theorem run_values (HO : ∀ c, Ord (pOf m c)) :
    θ_run defs (onTc (τ := τ) (main (F := Ideal))) ⟨m, fun _ => 0, ρ⟩ (fun r => ∀ c : Dev nD,
      r.2.mem ((c.tc : Thread nD τ).loc main_v1_0) = rowAll (pOf m c)
      ∧ r.2.mem ((c.tc : Thread nD τ).loc main_v1_1) = smaxTile (pOf m c)
      ∧ r.2.mem ((c.tc : Thread nD τ).loc main_v1_2) = gamTile (pOf m c)
      ∧ r.2.mem ((c.tc : Thread nD τ).loc main_v1_3) = statTile (pOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 13).trans (arr13 m c), ((h c).1 14).trans (arr14 m c), ((h c).1 15).trans (arr15 m c), ((h c).1 16).trans (arr16 m c), ((h c).1 4).trans (((vdats m 0 c).arrAt_in 4 rfl _).trans ((A_eq m c 4).trans (V_main_arg0 m c))),
      ((h c).1 5).trans (((vdats m 0 c).arrAt_in 5 rfl _).trans ((A_eq m c 5).trans (V_main_arg1 m c))),
      ((h c).1 6).trans (((vdats m 0 c).arrAt_in 6 rfl _).trans ((A_eq m c 6).trans (V_main_arg2 m c))),
      ((h c).1 7).trans (((vdats m 0 c).arrAt_in 7 rfl _).trans ((A_eq m c 7).trans (V_main_arg3 m c))),
      ((h c).1 8).trans (((vdats m 0 c).arrAt_in 8 rfl _).trans ((A_eq m c 8).trans (V_main_arg4 m c))),
      ((h c).1 0).trans (((vdats m 0 c).arrAt_in 0 rfl _).trans ((A_eq m c 0).trans (V_main_arg5 m c))),
      ((h c).1 9).trans (((vdats m 0 c).arrAt_in 9 rfl _).trans ((A_eq m c 9).trans (V_main_arg6 m c))),
      ((h c).1 10).trans (((vdats m 0 c).arrAt_in 10 rfl _).trans ((A_eq m c 10).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 11).trans (((vdats m 0 c).arrAt_in 11 rfl _).trans ((A_eq m c 11).trans (V_main_arg10 m c))),
      ((h c).1 2).trans (((vdats m 0 c).arrAt_in 2 rfl _).trans ((A_eq m c 2).trans (V_main_arg11 m c))),
      ((h c).1 12).trans (((vdats m 0 c).arrAt_in 12 rfl _).trans ((A_eq m c 12).trans (V_main_arg12 m c))),
      ((h c).1 3).trans (((vdats m 0 c).arrAt_in 3 rfl _).trans ((A_eq m c 3).trans (V_main_arg13 m c))),
      ((h c).2 main_arg14 (Pipeline.mem_restRefs_of main_arg14 (by decide) (by decide))).trans (V_main_arg14 m c)⟩) (run_main m ρ HO)
end Cert.KernelIdeal.Val
-- ==== Proof.RefA.lean ====
module

public import proofs.«01_k».proof.Proof.Gen.ReferenceIdeal.Skeleton
public import proofs.«01_k».proof.Proof.Pay
public import proofs.«01_k».proof.Proof.Mask
public import Idealize.ShloMosaic.Lib.Pointwise
public import Idealize.ShloMosaic.Lib.WordCmp

@[expose] public section

set_option maxRecDepth 16384
set_option maxHeartbeats 400000

noncomputable section

/-! The reference's projections, scores and mask. -/
namespace Cert.ReferenceIdeal.Val

open Cert.ReferenceIdeal Cert.ReferenceIdeal.Gen
open Idealize.ShloMosaic Cert.Spec
open Cert.KernelIdeal.Val (At2 RunAt)
open Idealize.ShloMosaic.WordCmp (cmpi_sle_eq cmpi_sge_eq)

theorem key_at {P : Inp} {v0 : Vec Ideal S8192x512 .fp8e4m3} {v1 : Vec Ideal S8192x4 .f32} {v2 : Vec Ideal S2048x512 .fp8e4m3} {v3 : Vec Ideal S16x4 .f32}
    (h0 : At2 (R := 8192) (C := 512) v0 P.ckvC) (h1 : At2 (R := 8192) (C := 4) v1 P.ckvS) (h2 : At2 (R := 2048) (C := 512) v2 P.wkbC) (h3 : At2 (R := 16) (C := 4) v3 P.wkbS)
    (t : Fin 8192) (h : Fin 16) (d : Fin 128) : k0_pay6 v0 v1 v2 v3 (ix3 t h d) = KEY P t.val (128 * h.val + d.val) := by
  pointwise [k0_pay6]
  unfold KEY
  refine Finset.sum_congr rfl fun x _ => ?_
  rw [h0, h1, h2, h3]
  unfold CKV WK
  rw [show (128 * h.val + d.val) / 128 = h.val by omega, show 128 * h.val + d.val = h.val * 128 + d.val by omega]
theorem query_at {P : Inp} {v0 : Vec Ideal S8192x1536 .fp8e4m3} {v1 : Vec Ideal S8192x12 .f32} {v2 : Vec Ideal S3072x1536 .fp8e4m3} {v3 : Vec Ideal S24x12 .f32}
    (h0 : At2 (R := 8192) (C := 1536) v0 P.cqC) (h1 : At2 (R := 8192) (C := 12) v1 P.cqS) (h2 : At2 (R := 3072) (C := 1536) v2 P.wqbC) (h3 : At2 (R := 24) (C := 12) v3 P.wqbS)
    (t : Fin 8192) (h : Fin 16) (d : Fin 192) : k0_pay5 v0 v1 v2 v3 (ix3 t h d) = QN P h.val d.val t.val := by
  pointwise [k0_pay5]
  unfold QN
  refine Finset.sum_congr rfl fun x _ => ?_
  rw [h0, h1, h2, h3]
  unfold CQ WQ
  rw [show 192 * h.val + d.val = h.val * 192 + d.val by omega]
  dsimp only
  rw [Nat.div_add_mod']
  exact mul_comm (_ : EReal) _
theorem queryR_at {P : Inp} {v0 : Vec Ideal S8192x1536 .fp8e4m3} {v1 : Vec Ideal S8192x12 .f32} {v2 : Vec Ideal S3072x1536 .fp8e4m3} {v3 : Vec Ideal S24x12 .f32}
    (h0 : At2 (R := 8192) (C := 1536) v0 P.cqC) (h1 : At2 (R := 8192) (C := 12) v1 P.cqS) (h2 : At2 (R := 3072) (C := 1536) v2 P.wqbC) (h3 : At2 (R := 24) (C := 12) v3 P.wqbS)
    (t : Fin 8192) (h : Fin 16) (d : Fin 64) : k0_pay7 v0 v1 v2 v3 (ix3 t h d) = QN P h.val (128 + d.val) t.val := by
  pointwise [k0_pay7]
  exact query_at h0 h1 h2 h3 t h _

theorem score_at {P : Inp} {a : Vec Ideal S8192x16x192 .f32} {b : Vec Ideal S8192x16x128 .f32} {c : Vec Ideal S8192x16x64 .f32} {d e : Vec Ideal S8192x32 .f32} {f : Vec Ideal S8192x64 .bf16}
    (ha : ∀ (t : Fin 8192) (h : Fin 16) (d : Fin 192), a (ix3 t h d) = QN P h.val d.val t.val)
    (hb : ∀ (t : Fin 8192) (h : Fin 16) (d : Fin 128), b (ix3 t h d) = KEY P t.val (128 * h.val + d.val))
    (hc : ∀ (t : Fin 8192) (h : Fin 16) (d : Fin 64), c (ix3 t h d) = QN P h.val (128 + d.val) t.val)
    (hd : At2 (R := 8192) (C := 32) d P.cos) (he : At2 (R := 8192) (C := 32) e P.sin) (hf : At2 (R := 8192) (C := 64) f P.rope)
    (h : Fin 16) (q k : Fin 8192) : k0_pay8 (F := Ideal) a b c d e f (ix3 h q k) = plain P h.val k.val q.val := by
  pointwise [k0_pay8]
  unfold plain
  refine congrArg₂ (· + ·) ?_ ?_
  · refine Finset.sum_congr rfl fun x _ => ?_
    rw [ha, hb]
    exact mul_comm _ _
  · refine Finset.sum_congr rfl fun x _ => ?_
    rw [hf]
    refine congrArg (_ * ·) ?_
    unfold QR
    simp only [hc, hd _ _, he _ _]
    rw [show 128 + 2 * (x.val / 2) = 128 + x.val / 2 * 2 by omega, show 129 + 2 * (x.val / 2) = 128 + (x.val / 2 * 2 + 1) by omega]
    by_cases hx : x.val % 2 = 0
    · rw [if_pos hx, dif_pos (by omega)]
    · rw [if_neg hx, dif_neg (by omega)]

theorem maxsi_le (x y : BitVec 32) (z : ℤ) : (IntOp.maxsi x y).toInt ≤ z ↔ x.toInt ≤ z ∧ y.toInt ≤ z := by
  unfold IntOp.maxsi
  split <;> rename_i h <;> simp [BitVec.slt] at h <;> constructor <;> intro g <;> (try constructor) <;> omega
theorem fold_maxsi_le {n : ℕ} (b : BitVec 32) (f : Fin n → BitVec 32) (z : ℤ) :
    (Finset.fold IntOp.maxsi b f Finset.univ).toInt ≤ z ↔ b.toInt ≤ z ∧ ∀ x, (f x).toInt ≤ z := by
  classical
  have : ∀ s : Finset (Fin n), (Finset.fold IntOp.maxsi b f s).toInt ≤ z ↔ b.toInt ≤ z ∧ ∀ x ∈ s, (f x).toInt ≤ z := by
    intro s
    induction s using Finset.induction_on with
    | empty => simp
    | insert a s ha ih => rw [Finset.fold_insert ha, maxsi_le, ih]; simp only [Finset.mem_insert, forall_eq_or_imp]; tauto
  simpa using this Finset.univ
theorem mask_at {P : Inp} {x : Vec Ideal S7 .i32} (hx : ∀ n : Fin 7, x (ix1 n) = P.cu n.val) (q k : Fin 8192) :
    k0_pay9 (F := Ideal) x (ix2 q k) = BitVec.ofBool (open Classical in decide (k.val ≤ q.val ∧ Keep P k.val q.val)) := by
  classical
  pointwise [k0_pay9]
  have hq : (BitVec.ofNat 32 q.val).toInt = q.val := tok_int q.isLt
  have hk : (BitVec.ofNat 32 k.val).toInt = k.val := tok_int k.isLt
  rw [cmpi_sle_eq, cmpi_sge_eq, hq, hk]
  have e : (Finset.fold IntOp.maxsi (2147483648#32) (fun x_1 : Fin 7 => Scalar.select (IntOp.cmpi CmpIPredicate.sle (x (ix1 x_1)) (BitVec.ofNat 32 q.val)) (x (ix1 x_1)) 0#32) Finset.univ).toInt ≤ (k.val : ℤ) ↔ Keep P k.val q.val := by
    rw [fold_maxsi_le]
    constructor
    · rintro ⟨-, h⟩ s hs hsq
      have := h ⟨s, hs⟩
      unfold cz at hsq ⊢
      rw [if_pos hs] at hsq ⊢
      rw [hx, cmpi_sle_eq, hq, decide_eq_true hsq] at this
      exact this
    · intro h
      refine ⟨by have : (2147483648#32 : BitVec 32).toInt = -2147483648 := by decide
                 omega, fun s => ?_⟩
      have := h s.val s.isLt
      unfold cz at this
      rw [if_pos s.isLt] at this
      rw [hx, cmpi_sle_eq, hq]
      by_cases g : (P.cu s.val).toInt ≤ q.val
      · rw [decide_eq_true g]; exact this g
      · rw [decide_eq_false g]
        show (0#32 : BitVec 32).toInt ≤ _
        simp
  by_cases h1 : k.val ≤ q.val <;> by_cases h2 : Keep P k.val q.val
  · rw [decide_eq_true (e.2 h2), decide_eq_true (show (k.val : ℤ) ≤ q.val by omega), decide_eq_true (show _ ∧ _ from ⟨h1, h2⟩)]; rfl
  · rw [decide_eq_false (fun g => h2 (e.1 g)), decide_eq_true (show (k.val : ℤ) ≤ q.val by omega), decide_eq_false (fun g => h2 g.2)]; rfl
  · rw [decide_eq_true (e.2 h2), decide_eq_false (show ¬ (k.val : ℤ) ≤ q.val by omega), decide_eq_false (fun g => h1 g.1)]; rfl
  · rw [decide_eq_false (fun g => h2 (e.1 g)), decide_eq_false (show ¬ (k.val : ℤ) ≤ q.val by omega), decide_eq_false (fun g => h1 g.1)]; rfl

end Cert.ReferenceIdeal.Val
-- ==== Proof.RefB.lean ====
module

public import proofs.«01_k».proof.Proof.Gen.ReferenceIdeal.Skeleton
public import proofs.«01_k».proof.Proof.Pay
public import proofs.«01_k».proof.Proof.Mask
public import Idealize.ShloMosaic.Lib.Pointwise
public import Idealize.ShloMosaic.Lib.WordCmp

@[expose] public section

set_option maxRecDepth 16384
set_option maxHeartbeats 400000

noncomputable section

/-! The reference's four results. -/
namespace Cert.ReferenceIdeal.Val

open Cert.ReferenceIdeal Cert.ReferenceIdeal.Gen
open Idealize.ShloMosaic Cert.Spec
open Cert.KernelIdeal.Val (At2 RunAt)
open Idealize.ShloMosaic.WordCmp (cmpi_sle_eq cmpi_sge_eq)

theorem mask3 (v90 : IVec S8192x8192 1) (h : Fin 16) (q x : Fin 8192) : broadcastTo S16x8192x8192 (shapeCast S1x8192x8192 v90 shapeCasts_S8192x8192_S1x8192x8192) broadcasts_S1x8192x8192_S16x8192x8192 (ix3 h q x) = v90 (ix2 q x) := by
  pointwise []
theorem red3 (v : FVec Ideal S16x8192x8192 .f32) (h : Fin 16) (q : Fin 8192) : multiReduction .maximumf [2] S16x8192 v 0xFF800000#32 reduces_S16x8192x8192_S16x8192 (.inl rfl) rfl (ix2 h q) = Finset.fold max (Ideal.ofBits FTy.f32 4286578688#32) (fun x => v (ix3 h q x)) Finset.univ := by
  pointwise []
theorem scale2 (v : FVec Ideal S16x8192 .f32) (h : Fin 16) (q : Fin 8192) :
    transpose S8192x16 [1, 0] (mulf v (broadcast S16x8192 (Scalar.ofBits (F := Ideal) .f32 0x3D93CD3A#32))) transposes_S16x8192_p1_0_S8192x16 (ix2 q h) = v (ix2 h q) * SCALE := by
  pointwise []
  rfl
theorem row_raw (v85 : FVec Ideal S16x8192x8192 .f32) (v90 : IVec S8192x8192 1) (h : Fin 16) (q : Fin 8192) : k0_pay1 (F := Ideal) v85 v90 (ix2 q h) =
    Finset.fold max (Ideal.ofBits FTy.f32 4286578688#32)
      (fun x => Scalar.select (v90 (ix2 q x)) (v85 (ix3 h q x)) (Ideal.ofBits FTy.f32 4286578688#32)) Finset.univ * SCALE := by
  unfold k0_pay1
  refine (scale2 _ h q).trans ?_
  rw [red3]
  refine congrArg (· * SCALE) (congrArg (fun f => Finset.fold max _ f Finset.univ) (funext fun x => ?_))
  exact congrArg (fun b => Scalar.select b (v85 (ix3 h q x)) (Ideal.ofBits FTy.f32 4286578688#32)) (mask3 v90 h q x)
theorem pay2_raw (v85 : FVec Ideal S16x8192x8192 .f32) (v90 : IVec S8192x8192 1) (z : Fin 1) (h : Fin 16) : k0_pay2 (F := Ideal) v85 v90 (ix2 z h) =
    Finset.fold max (Ideal.ofBits FTy.f32 4286578688#32) (fun x => k0_pay1 (F := Ideal) v85 v90 (ix2 x h)) Finset.univ := by
  pointwise [k0_pay2]
theorem pay3_raw (v85 : FVec Ideal S16x8192x8192 .f32) (v90 : IVec S8192x8192 1) (x : Vec Ideal S1x1 .f32) (z : Fin 1) (h : Fin 16) : k0_pay3 (F := Ideal) v85 v90 x (ix2 z h) =
    min 1 (Ideal.div (x (ix2 0 0)) (max (k0_pay2 (F := Ideal) v85 v90 (ix2 z h)) (Ideal.ofBits FTy.f32 897988541#32))) := by
  pointwise [k0_pay3]
theorem ninf : Ideal.ofBits FTy.f32 4286578688#32 = ⊥ := Cert.KernelIdeal.Val.ninf
variable {P : Inp} {v85 : FVec Ideal S16x8192x8192 .f32} {v90 : IVec S8192x8192 1}
theorem row_at (HO : Ord P) (hs : ∀ (h : Fin 16) (q k : Fin 8192), v85 (ix3 h q k) = plain P h.val k.val q.val)
    (hm : ∀ q k : Fin 8192, v90 (ix2 q k) = BitVec.ofBool (open Classical in decide (k.val ≤ q.val ∧ Keep P k.val q.val))) (h : Fin 16) (q : Fin 8192) :
    k0_pay1 (F := Ideal) v85 v90 (ix2 q h) = ROW P h.val q.val := by
  classical
  rw [row_raw]
  unfold ROW
  refine congrArg (· * SCALE) (eq_of_forall_ge_iff fun x => ?_)
  unfold TOP
  simp only [Finset.fold_max_le, ninf, bot_le, true_and, Finset.mem_univ, forall_true_left, iSup_le_iff]
  constructor
  · intro H k
    rw [score_eq HO (by omega) q.isLt]
    split
    · rename_i hk
      have := H ⟨k.val, by omega⟩
      rw [hm, hs, decide_eq_true (show _ ∧ _ from ⟨by show k.val ≤ q.val; omega, hk⟩)] at this
      exact this
    · exact bot_le
  · intro H k
    rw [hm, hs]
    by_cases hk : k.val ≤ q.val ∧ Keep P k.val q.val
    · have := H ⟨k.val, by omega⟩
      rw [score_eq HO hk.1 q.isLt, if_pos hk.2] at this
      rw [decide_eq_true hk]
      exact this
    · rw [decide_eq_false hk]
      exact bot_le
theorem smax_at (hr : ∀ (h : Fin 16) (q : Fin 8192), k0_pay1 (F := Ideal) v85 v90 (ix2 q h) = ROW P h.val q.val) (z : Fin 1) (h : Fin 16) :
    k0_pay2 (F := Ideal) v85 v90 (ix2 z h) = SMAX P h.val := by
  rw [pay2_raw]
  refine eq_of_forall_ge_iff fun x => ?_
  unfold SMAX
  simp only [Finset.fold_max_le, ninf, bot_le, true_and, Finset.mem_univ, forall_true_left, iSup_le_iff, hr]
theorem gam_at (hr : ∀ (h : Fin 16) (q : Fin 8192), k0_pay1 (F := Ideal) v85 v90 (ix2 q h) = ROW P h.val q.val) {x : Vec Ideal S1x1 .f32}
    (hx : ∀ y, x y = P.tau) (z : Fin 1) (h : Fin 16) : k0_pay3 (F := Ideal) v85 v90 x (ix2 z h) = GAM P h.val := by
  rw [pay3_raw, smax_at hr, hx]; rfl
theorem stats_at (hr : ∀ (h : Fin 16) (q : Fin 8192), k0_pay1 (F := Ideal) v85 v90 (ix2 q h) = ROW P h.val q.val) {x : Vec Ideal S1x1 .f32}
    (hx : ∀ y, x y = P.tau) (r : Fin 2) (l : Fin 128) : k0_pay4 (F := Ideal) v85 v90 x (ix2 r l) = STATS P r.val l.val := by
  have g := gam_at hr hx
  unfold k0_pay4
  generalize k0_pay3 (F := Ideal) v85 v90 x = Y at g ⊢
  pointwise []
  unfold STATS
  by_cases hl : l.val < 16
  · rw [dif_pos hl, if_pos hl]
    by_cases h1 : r.val < 1
    · rw [dif_pos h1, if_pos h1, g]
    · rw [dif_neg h1, if_neg h1, g]
  · rw [dif_neg hl, if_neg hl]

end Cert.ReferenceIdeal.Val
-- ==== Proof.RefC.lean ====
/- The run of the reference: after it the result arrays hold the problem's values. -/
module

public import proofs.«01_k».proof.Proof.Gen.ReferenceIdeal.Frame
public import proofs.«01_k».proof.Proof.RefA
public import proofs.«01_k».proof.Proof.RefB
public import proofs.«01_k».proof.Proof.Values
public import Idealize.ShloMosaic.Lib.Pipeline.ValueKit

@[expose] public section

set_option maxRecDepth 16384
set_option maxHeartbeats 400000

noncomputable section

namespace Cert.ReferenceIdeal.Val

open Cert.ReferenceIdeal Cert.ReferenceIdeal.Gen
open Idealize.ShloMosaic Idealize.ShloMosaic.TcCoe Idealize.ShloMosaic.Tactic Cert.Spec
open Cert.KernelIdeal.Val (At2 N1 N2 N1_at N2_at inpOf rowAll smaxTile gamTile statTile)

variable (m : (ℓ : Loc nD τ sig) → Buf (Elt Ideal) ℓ) (ρ : Dev nD → PrngReg)
/-- The problem of one device's memory. -/
def rOf (c : Dev nD) : Inp :=
  inpOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14) (fun a => a.elim0))
theorem P2 (c : Dev nD) : (rOf m c).wqbS = N2 (m ((c.tc : Thread nD τ).loc main_arg11)) := rfl
theorem idx2 : ∀ t : Fin cfg0.N, win0_2.index t = ![0, 0] := by decide +kernel
theorem in2 (c : Dev nD) (t : Fin cfg0.N) : At2 (R := 24) (C := 12) (View.ld (iblk m c 2 t) r0_3) (rOf m c).wqbS := by
  intro r q
  have e : View.ld (iblk m c 2 t) r0_3 (ix2 r q) = m ((c.tc : Thread nD τ).loc main_arg11) (((cfg0.win 2).blk t).view.emb (r0_3.emb (ix2 r q))) :=
    congrFun (V_main_arg11 m c) _
  refine e.trans ?_
  rw [P2]
  refine N2_at _ _ ?_ ?_
  · blk_simp [idx2 t, r0_3]
  · blk_simp [idx2 t, r0_3]
theorem P3 (c : Dev nD) : (rOf m c).wkbS = N2 (m ((c.tc : Thread nD τ).loc main_arg13)) := rfl
theorem idx3 : ∀ t : Fin cfg0.N, win0_3.index t = ![0, 0] := by decide +kernel
theorem in3 (c : Dev nD) (t : Fin cfg0.N) : At2 (R := 16) (C := 4) (View.ld (iblk m c 3 t) r0_7) (rOf m c).wkbS := by
  intro r q
  have e : View.ld (iblk m c 3 t) r0_7 (ix2 r q) = m ((c.tc : Thread nD τ).loc main_arg13) (((cfg0.win 3).blk t).view.emb (r0_7.emb (ix2 r q))) :=
    congrFun (V_main_arg13 m c) _
  refine e.trans ?_
  rw [P3]
  refine N2_at _ _ ?_ ?_
  · blk_simp [idx3 t, r0_7]
  · blk_simp [idx3 t, r0_7]
theorem P4 (c : Dev nD) : (rOf m c).cqC = N2 (m ((c.tc : Thread nD τ).loc main_arg0)) := rfl
theorem idx4 : ∀ t : Fin cfg0.N, win0_4.index t = ![0, 0] := by decide +kernel
theorem in4 (c : Dev nD) (t : Fin cfg0.N) : At2 (R := 8192) (C := 1536) (View.ld (iblk m c 4 t) r0_0) (rOf m c).cqC := by
  intro r q
  have e : View.ld (iblk m c 4 t) r0_0 (ix2 r q) = m ((c.tc : Thread nD τ).loc main_arg0) (((cfg0.win 4).blk t).view.emb (r0_0.emb (ix2 r q))) :=
    congrFun (V_main_arg0 m c) _
  refine e.trans ?_
  rw [P4]
  refine N2_at _ _ ?_ ?_
  · blk_simp [idx4 t, r0_0]
  · blk_simp [idx4 t, r0_0]
theorem P5 (c : Dev nD) : (rOf m c).cqS = N2 (m ((c.tc : Thread nD τ).loc main_arg1)) := rfl
theorem idx5 : ∀ t : Fin cfg0.N, win0_5.index t = ![0, 0] := by decide +kernel
theorem in5 (c : Dev nD) (t : Fin cfg0.N) : At2 (R := 8192) (C := 12) (View.ld (iblk m c 5 t) r0_1) (rOf m c).cqS := by
  intro r q
  have e : View.ld (iblk m c 5 t) r0_1 (ix2 r q) = m ((c.tc : Thread nD τ).loc main_arg1) (((cfg0.win 5).blk t).view.emb (r0_1.emb (ix2 r q))) :=
    congrFun (V_main_arg1 m c) _
  refine e.trans ?_
  rw [P5]
  refine N2_at _ _ ?_ ?_
  · blk_simp [idx5 t, r0_1]
  · blk_simp [idx5 t, r0_1]
theorem P6 (c : Dev nD) : (rOf m c).ckvC = N2 (m ((c.tc : Thread nD τ).loc main_arg2)) := rfl
theorem idx6 : ∀ t : Fin cfg0.N, win0_6.index t = ![0, 0] := by decide +kernel
theorem in6 (c : Dev nD) (t : Fin cfg0.N) : At2 (R := 8192) (C := 512) (View.ld (iblk m c 6 t) r0_4) (rOf m c).ckvC := by
  intro r q
  have e : View.ld (iblk m c 6 t) r0_4 (ix2 r q) = m ((c.tc : Thread nD τ).loc main_arg2) (((cfg0.win 6).blk t).view.emb (r0_4.emb (ix2 r q))) :=
    congrFun (V_main_arg2 m c) _
  refine e.trans ?_
  rw [P6]
  refine N2_at _ _ ?_ ?_
  · blk_simp [idx6 t, r0_4]
  · blk_simp [idx6 t, r0_4]
theorem P7 (c : Dev nD) : (rOf m c).ckvS = N2 (m ((c.tc : Thread nD τ).loc main_arg3)) := rfl
theorem idx7 : ∀ t : Fin cfg0.N, win0_7.index t = ![0, 0] := by decide +kernel
theorem in7 (c : Dev nD) (t : Fin cfg0.N) : At2 (R := 8192) (C := 4) (View.ld (iblk m c 7 t) r0_5) (rOf m c).ckvS := by
  intro r q
  have e : View.ld (iblk m c 7 t) r0_5 (ix2 r q) = m ((c.tc : Thread nD τ).loc main_arg3) (((cfg0.win 7).blk t).view.emb (r0_5.emb (ix2 r q))) :=
    congrFun (V_main_arg3 m c) _
  refine e.trans ?_
  rw [P7]
  refine N2_at _ _ ?_ ?_
  · blk_simp [idx7 t, r0_5]
  · blk_simp [idx7 t, r0_5]
theorem P8 (c : Dev nD) : (rOf m c).rope = N2 (m ((c.tc : Thread nD τ).loc main_arg4)) := rfl
theorem idx8 : ∀ t : Fin cfg0.N, win0_8.index t = ![0, 0] := by decide +kernel
theorem in8 (c : Dev nD) (t : Fin cfg0.N) : At2 (R := 8192) (C := 64) (View.ld (iblk m c 8 t) r0_10) (rOf m c).rope := by
  intro r q
  have e : View.ld (iblk m c 8 t) r0_10 (ix2 r q) = m ((c.tc : Thread nD τ).loc main_arg4) (((cfg0.win 8).blk t).view.emb (r0_10.emb (ix2 r q))) :=
    congrFun (V_main_arg4 m c) _
  refine e.trans ?_
  rw [P8]
  refine N2_at _ _ ?_ ?_
  · blk_simp [idx8 t, r0_10]
  · blk_simp [idx8 t, r0_10]
theorem P9 (c : Dev nD) : (rOf m c).cos = N2 (m ((c.tc : Thread nD τ).loc main_arg6)) := rfl
theorem idx9 : ∀ t : Fin cfg0.N, win0_9.index t = ![0, 0] := by decide +kernel
theorem in9 (c : Dev nD) (t : Fin cfg0.N) : At2 (R := 8192) (C := 32) (View.ld (iblk m c 9 t) r0_8) (rOf m c).cos := by
  intro r q
  have e : View.ld (iblk m c 9 t) r0_8 (ix2 r q) = m ((c.tc : Thread nD τ).loc main_arg6) (((cfg0.win 9).blk t).view.emb (r0_8.emb (ix2 r q))) :=
    congrFun (V_main_arg6 m c) _
  refine e.trans ?_
  rw [P9]
  refine N2_at _ _ ?_ ?_
  · blk_simp [idx9 t, r0_8]
  · blk_simp [idx9 t, r0_8]
theorem P10 (c : Dev nD) : (rOf m c).sin = N2 (m ((c.tc : Thread nD τ).loc main_arg7)) := rfl
theorem idx10 : ∀ t : Fin cfg0.N, win0_10.index t = ![0, 0] := by decide +kernel
theorem in10 (c : Dev nD) (t : Fin cfg0.N) : At2 (R := 8192) (C := 32) (View.ld (iblk m c 10 t) r0_8) (rOf m c).sin := by
  intro r q
  have e : View.ld (iblk m c 10 t) r0_8 (ix2 r q) = m ((c.tc : Thread nD τ).loc main_arg7) (((cfg0.win 10).blk t).view.emb (r0_8.emb (ix2 r q))) :=
    congrFun (V_main_arg7 m c) _
  refine e.trans ?_
  rw [P10]
  refine N2_at _ _ ?_ ?_
  · blk_simp [idx10 t, r0_8]
  · blk_simp [idx10 t, r0_8]
theorem P11 (c : Dev nD) : (rOf m c).wqbC = N2 (m ((c.tc : Thread nD τ).loc main_arg10)) := rfl
theorem idx11 : ∀ t : Fin cfg0.N, win0_11.index t = ![0, 0] := by decide +kernel
theorem in11 (c : Dev nD) (t : Fin cfg0.N) : At2 (R := 3072) (C := 1536) (View.ld (iblk m c 11 t) r0_2) (rOf m c).wqbC := by
  intro r q
  have e : View.ld (iblk m c 11 t) r0_2 (ix2 r q) = m ((c.tc : Thread nD τ).loc main_arg10) (((cfg0.win 11).blk t).view.emb (r0_2.emb (ix2 r q))) :=
    congrFun (V_main_arg10 m c) _
  refine e.trans ?_
  rw [P11]
  refine N2_at _ _ ?_ ?_
  · blk_simp [idx11 t, r0_2]
  · blk_simp [idx11 t, r0_2]
theorem P12 (c : Dev nD) : (rOf m c).wkbC = N2 (m ((c.tc : Thread nD τ).loc main_arg12)) := rfl
theorem idx12 : ∀ t : Fin cfg0.N, win0_12.index t = ![0, 0] := by decide +kernel
theorem in12 (c : Dev nD) (t : Fin cfg0.N) : At2 (R := 2048) (C := 512) (View.ld (iblk m c 12 t) r0_6) (rOf m c).wkbC := by
  intro r q
  have e : View.ld (iblk m c 12 t) r0_6 (ix2 r q) = m ((c.tc : Thread nD τ).loc main_arg12) (((cfg0.win 12).blk t).view.emb (r0_6.emb (ix2 r q))) :=
    congrFun (V_main_arg12 m c) _
  refine e.trans ?_
  rw [P12]
  refine N2_at _ _ ?_ ?_
  · blk_simp [idx12 t, r0_6]
  · blk_simp [idx12 t, r0_6]
theorem P0 (c : Dev nD) : (rOf m c).cu = N1 (m ((c.tc : Thread nD τ).loc main_arg5)) := rfl
theorem idx0 : ∀ t : Fin cfg0.N, win0_0.index t = ![0] := by decide +kernel
theorem in0 (c : Dev nD) (t : Fin cfg0.N) (n : Fin 7) : View.ld (iblk m c 0 t) r0_9 (ix1 n) = (rOf m c).cu n.val := by
  have e : View.ld (iblk m c 0 t) r0_9 (ix1 n) = m ((c.tc : Thread nD τ).loc main_arg5) (((cfg0.win 0).blk t).view.emb (r0_9.emb (ix1 n))) :=
    congrFun (V_main_arg5 m c) _
  refine e.trans ?_
  rw [P0]
  refine N1_at _ _ ?_
  blk_simp [idx0 t, r0_9]
theorem in1 (c : Dev nD) (t : Fin cfg0.N) (y) : View.ld (iblk m c 1 t) r0_11 y = (rOf m c).tau := by
  show V m c main_v0 _ = _
  entry_read
  show m ((c.tc : Thread nD τ).loc main_arg14) _ = m ((c.tc : Thread nD τ).loc main_arg14) _
  congr 1

theorem sc_at (c : Dev nD) (t : Fin cfg0.N) (h : Fin 16) (q k : Fin 8192) : k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 h q k) = plain (rOf m c) h.val k.val q.val :=
  score_at (query_at (in4 m c t) (in5 m c t) (in11 m c t) (in2 m c t)) (key_at (in6 m c t) (in7 m c t) (in12 m c t) (in3 m c t))
    (queryR_at (in4 m c t) (in5 m c t) (in11 m c t) (in2 m c t)) (in9 m c t) (in10 m c t) (in8 m c t) h q k
theorem mk_at (c : Dev nD) (t : Fin cfg0.N) (q k : Fin 8192) :
    k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 q k) = BitVec.ofBool (open Classical in decide (k.val ≤ q.val ∧ Keep (rOf m c) k.val q.val)) :=
  mask_at (in0 m c t) q k
theorem rw_at (HO : ∀ c, Ord (rOf m c)) (c : Dev nD) (t : Fin cfg0.N) (h : Fin 16) (q : Fin 8192) :
    k0_pay1 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 q h) = ROW (rOf m c) h.val q.val :=
  row_at (HO c) (sc_at m c t) (mk_at m c t) h q
theorem idx13 : ∀ t : Fin cfg0.N, win0_13.index t = ![0, 0] := by decide +kernel
theorem val13 (HO : ∀ c, Ord (rOf m c)) (c : Dev nD) (t : Fin cfg0.N) (r : Fin 8192) (c1 : Fin 16) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r c1) = rowAll (rOf m c) (ix2 r c1) := by
  unfold out0_13
  have e : (ix2 r c1 : (⟨2, ![8192, 16]⟩ : Shape).Idx) = r0_12.emb (ix2 r c1) := funext fun a => Fin.ext (by fin_cases a <;> blk_simp [r0_12])
  refine ((congrArg _ e).trans (View.canon_cons_emb _ _ _ _)).trans ?_
  exact rw_at m HO c t c1 r
theorem arr13 (HO : ∀ c, Ord (rOf m c)) (c : Dev nD) : (dats m 0 c).arrAt 13 (cfgs 0).N = rowAll (rOf m c) := by
  refine (dats m 0 c).arrAt_eq_of_covers 13 _ (by decide +kernel) fun t hf y => ?_
  blk_simp
  rw [after0_13]
  refine ((congrArg _ (Cert.KernelIdeal.Val.eta2 (R := 8192) (C := 16) y)).trans (val13 m HO c t _ _)).trans ?_
  refine congrArg (rowAll (rOf m c)) (funext fun a => Fin.ext ?_)
  fin_cases a
  · blk_simp [idx13 t] <;> rfl
  · blk_simp [idx13 t] <;> rfl
theorem idx14 : ∀ t : Fin cfg0.N, win0_14.index t = ![0, 0] := by decide +kernel
theorem val14 (HO : ∀ c, Ord (rOf m c)) (c : Dev nD) (t : Fin cfg0.N) (r : Fin 1) (c1 : Fin 16) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r c1) = smaxTile (rOf m c) (ix2 r c1) := by
  unfold out0_14
  have e : (ix2 r c1 : (⟨2, ![1, 16]⟩ : Shape).Idx) = r0_13.emb (ix2 r c1) := funext fun a => Fin.ext (by fin_cases a <;> blk_simp [r0_13])
  refine ((congrArg _ e).trans (View.canon_cons_emb _ _ _ _)).trans ?_
  exact smax_at (rw_at m HO c t) r c1
theorem arr14 (HO : ∀ c, Ord (rOf m c)) (c : Dev nD) : (dats m 0 c).arrAt 14 (cfgs 0).N = smaxTile (rOf m c) := by
  refine (dats m 0 c).arrAt_eq_of_covers 14 _ (by decide +kernel) fun t hf y => ?_
  blk_simp
  rw [after0_14]
  refine ((congrArg _ (Cert.KernelIdeal.Val.eta2 (R := 1) (C := 16) y)).trans (val14 m HO c t _ _)).trans ?_
  refine congrArg (smaxTile (rOf m c)) (funext fun a => Fin.ext ?_)
  fin_cases a
  · blk_simp [idx14 t] <;> rfl
  · blk_simp [idx14 t] <;> rfl
theorem idx15 : ∀ t : Fin cfg0.N, win0_15.index t = ![0, 0] := by decide +kernel
theorem val15 (HO : ∀ c, Ord (rOf m c)) (c : Dev nD) (t : Fin cfg0.N) (r : Fin 1) (c1 : Fin 16) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r c1) = gamTile (rOf m c) (ix2 r c1) := by
  unfold out0_15
  have e : (ix2 r c1 : (⟨2, ![1, 16]⟩ : Shape).Idx) = r0_13.emb (ix2 r c1) := funext fun a => Fin.ext (by fin_cases a <;> blk_simp [r0_13])
  refine ((congrArg _ e).trans (View.canon_cons_emb _ _ _ _)).trans ?_
  exact gam_at (rw_at m HO c t) (in1 m c t) r c1
theorem arr15 (HO : ∀ c, Ord (rOf m c)) (c : Dev nD) : (dats m 0 c).arrAt 15 (cfgs 0).N = gamTile (rOf m c) := by
  refine (dats m 0 c).arrAt_eq_of_covers 15 _ (by decide +kernel) fun t hf y => ?_
  blk_simp
  rw [after0_15]
  refine ((congrArg _ (Cert.KernelIdeal.Val.eta2 (R := 1) (C := 16) y)).trans (val15 m HO c t _ _)).trans ?_
  refine congrArg (gamTile (rOf m c)) (funext fun a => Fin.ext ?_)
  fin_cases a
  · blk_simp [idx15 t] <;> rfl
  · blk_simp [idx15 t] <;> rfl
theorem idx16 : ∀ t : Fin cfg0.N, win0_16.index t = ![0, 0] := by decide +kernel
theorem val16 (HO : ∀ c, Ord (rOf m c)) (c : Dev nD) (t : Fin cfg0.N) (r : Fin 2) (c1 : Fin 128) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r c1) = statTile (rOf m c) (ix2 r c1) := by
  unfold out0_16
  have e : (ix2 r c1 : (⟨2, ![2, 128]⟩ : Shape).Idx) = r0_14.emb (ix2 r c1) := funext fun a => Fin.ext (by fin_cases a <;> blk_simp [r0_14])
  refine ((congrArg _ e).trans (View.canon_cons_emb _ _ _ _)).trans ?_
  exact stats_at (rw_at m HO c t) (in1 m c t) r c1
theorem arr16 (HO : ∀ c, Ord (rOf m c)) (c : Dev nD) : (dats m 0 c).arrAt 16 (cfgs 0).N = statTile (rOf m c) := by
  refine (dats m 0 c).arrAt_eq_of_covers 16 _ (by decide +kernel) fun t hf y => ?_
  blk_simp
  rw [after0_16]
  refine ((congrArg _ (Cert.KernelIdeal.Val.eta2 (R := 2) (C := 128) y)).trans (val16 m HO c t _ _)).trans ?_
  refine congrArg (statTile (rOf m c)) (funext fun a => Fin.ext ?_)
  fin_cases a
  · blk_simp [idx16 t] <;> rfl
  · blk_simp [idx16 t] <;> rfl

set_option maxHeartbeats 1600000 in
/-- After the reference's run every result holds the problem's value, every argument is as it was. -/
theorem run_values (HO : ∀ c, Ord (rOf m c)) :
    θ_run defs (onTc (τ := τ) (main (F := Ideal))) ⟨m, fun _ => 0, ρ⟩ (fun r => ∀ c : Dev nD,
      r.2.mem ((c.tc : Thread nD τ).loc main_v1_0) = rowAll (rOf m c)
      ∧ r.2.mem ((c.tc : Thread nD τ).loc main_v1_1) = smaxTile (rOf m c)
      ∧ r.2.mem ((c.tc : Thread nD τ).loc main_v1_2) = gamTile (rOf m c)
      ∧ r.2.mem ((c.tc : Thread nD τ).loc main_v1_3) = statTile (rOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 13).trans (arr13 m HO c), ((h c).1 14).trans (arr14 m HO c), ((h c).1 15).trans (arr15 m HO c), ((h c).1 16).trans (arr16 m HO c), ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c))),
      ((h c).1 0).trans (((dats m 0 c).arrAt_in 0 rfl _).trans ((A_eq m c 0).trans (V_main_arg5 m c))),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).1 2).trans (((dats m 0 c).arrAt_in 2 rfl _).trans ((A_eq m c 2).trans (V_main_arg11 m c))),
      ((h c).1 12).trans (((dats m 0 c).arrAt_in 12 rfl _).trans ((A_eq m c 12).trans (V_main_arg12 m c))),
      ((h c).1 3).trans (((dats m 0 c).arrAt_in 3 rfl _).trans ((A_eq m c 3).trans (V_main_arg13 m c))),
      ((h c).2 main_arg14 (Pipeline.mem_restRefs_of main_arg14 (by decide) (by decide))).trans (V_main_arg14 m c)⟩) (run_main m ρ)

end Cert.ReferenceIdeal.Val
-- ==== Proof.Agree.lean ====
/- Memories that agree on the arguments pose the same problem. -/
module

public import proofs.«01_k».proof.Proof.InOrder
public import proofs.«01_k».proof.Proof.Values
public import proofs.«01_k».proof.Proof.RefC

@[expose] public section

set_option maxRecDepth 16384
set_option maxHeartbeats 400000

noncomputable section

namespace Cert.Agree

open Idealize.ShloMosaic Idealize.ShloMosaic.TcCoe Cert.Spec
open Cert.KernelIdeal.Val (pOf inpOf)
open Cert.ReferenceIdeal.Val (rOf)

attribute [local instance] Cert.KernelIdeal.Gen.facts Cert.ReferenceIdeal.Gen.facts Cert.KernelIdeal.Val.preFacts

theorem inp_congr {a0 b0 a1 b1 a2 b2 a3 b3 a4 b4 a5 b5 a6 b6 a7 b7 a10 b10 a11 b11 a12 b12 a13 b13 t u} (h0 : b0 = a0) (h1 : b1 = a1) (h2 : b2 = a2) (h3 : b3 = a3) (h4 : b4 = a4)
    (h5 : b5 = a5) (h6 : b6 = a6) (h7 : b7 = a7) (h10 : b10 = a10) (h11 : b11 = a11) (h12 : b12 = a12) (h13 : b13 = a13) (h14 : u = t) :
    inpOf b0 b1 b2 b3 b4 b5 b6 b7 b10 b11 b12 b13 u = inpOf a0 a1 a2 a3 a4 a5 a6 a7 a10 a11 a12 a13 t := by
  subst h0 h1 h2 h3 h4 h5 h6 h7 h10 h11 h12 h13 h14; rfl

set_option maxHeartbeats 1600000 in
/-- The kernel and the reference end with the same results. -/
theorem algebraic : Cert.algebraic_KernelIdeal_ReferenceIdeal_pre_sequences_in_order := by
  intro m g m' g' H E
  have HO := Cert.KernelIdeal.Val.ord_of m H
  have e : ∀ c, rOf m' c = pOf m c := fun c => by
    obtain ⟨e0, e1, e2, e3, e4, e5, e6, e7, e8, e9, e10, e11, e12, e13, e14⟩ := E c
    exact inp_congr e0 e1 e2 e3 e4 e5 e6 e7 e10 e11 e12 e13 (congrFun e14 _)
  refine ⟨fun c => Cert.KernelIdeal.Val.rowAll (pOf m c), fun c => Cert.KernelIdeal.Val.smaxTile (pOf m c), fun c => Cert.KernelIdeal.Val.gamTile (pOf m c),
    fun c => Cert.KernelIdeal.Val.statTile (pOf m c), Cert.KernelIdeal.Val.run_values m g HO, ?_⟩
  have R := Cert.ReferenceIdeal.Val.run_values m' g' (fun c => by rw [e c]; exact HO c)
  simp only [e] at R
  exact R

end Cert.Agree
-- ==== Proof.lean ====
module

public import proofs.«01_k».proof.Defs
public import proofs.«01_k».proof.Proof.KernelLaunch
public import proofs.«01_k».proof.Proof.KernelIdealLaunch
public import proofs.«01_k».proof.Proof.Agree
public import proofs.«01_k».proof.Proof.Gen.ReferenceIdeal.Frame
public import Idealize.ShloMosaic.Adequacy
public import Idealize.ShloMosaic.Lib.Bf16Pair
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.KernelIdeal.Val.preFacts,
    fun m ρ _ => Cert.Kernel.Hand.frame' m ρ, fun m ρ _ => Cert.KernelIdeal.Hand.frame' m ρ, fun m ρ _ => Cert.KernelIdeal.Hand.frame' m ρ,
    fun m ρ _ => Cert.ReferenceIdeal.Gen.frame m ρ, fun m ρ _ => Cert.ReferenceIdeal.Gen.frame m ρ,
    ⟨IdealRules.bf16_pair.statement _ _ (by decide), IdealRules.named_const.statement Cert.KernelIdeal.κ "mask" .f32 0xFF7843B0#32 ⊥ rfl,
    IdealRules.bf16_pair.packStatement _, IdealRules.bf16_pair.statement _ _ (by decide)⟩, Cert.Agree.algebraic⟩

end Cert.Proof

end
